-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_InOdd (m : (ℓ : Loc Cert.InOdd.nD Cert.InOdd.τ Cert.InOdd.sig) → Buf (Elt Bits) ℓ) : Prop :=
  True

def Pre_InOddIdeal (m : (ℓ : Loc Cert.InOddIdeal.nD Cert.InOddIdeal.τ Cert.InOddIdeal.sig) → Buf (Elt Ideal) ℓ) : Prop :=
  True

def Pre_InOddRefIdeal (m : (ℓ : Loc Cert.InOddRefIdeal.nD Cert.InOddRefIdeal.τ Cert.InOddRefIdeal.sig) → Buf (Elt Ideal) ℓ) : Prop :=
  True

def Pre_OutOdd (m : (ℓ : Loc Cert.OutOdd.nD Cert.OutOdd.τ Cert.OutOdd.sig) → Buf (Elt Bits) ℓ) : Prop :=
  True

def Pre_OutOddIdeal (m : (ℓ : Loc Cert.OutOddIdeal.nD Cert.OutOddIdeal.τ Cert.OutOddIdeal.sig) → Buf (Elt Ideal) ℓ) : Prop :=
  True

def Pre_OutOddRefIdeal (m : (ℓ : Loc Cert.OutOddRefIdeal.nD Cert.OutOddRefIdeal.τ Cert.OutOddRefIdeal.sig) → Buf (Elt Ideal) ℓ) : Prop :=
  True

def Pre_InEven (m : (ℓ : Loc Cert.InEven.nD Cert.InEven.τ Cert.InEven.sig) → Buf (Elt Bits) ℓ) : Prop :=
  True

def Pre_InEvenIdeal (m : (ℓ : Loc Cert.InEvenIdeal.nD Cert.InEvenIdeal.τ Cert.InEvenIdeal.sig) → Buf (Elt Ideal) ℓ) : Prop :=
  True

def Pre_InEvenRefIdeal (m : (ℓ : Loc Cert.InEvenRefIdeal.nD Cert.InEvenRefIdeal.τ Cert.InEvenRefIdeal.sig) → Buf (Elt Ideal) ℓ) : Prop :=
  True

def Pre_OutEven (m : (ℓ : Loc Cert.OutEven.nD Cert.OutEven.τ Cert.OutEven.sig) → Buf (Elt Bits) ℓ) : Prop :=
  True

def Pre_OutEvenIdeal (m : (ℓ : Loc Cert.OutEvenIdeal.nD Cert.OutEvenIdeal.τ Cert.OutEvenIdeal.sig) → Buf (Elt Ideal) ℓ) : Prop :=
  True

def Pre_OutEvenRefIdeal (m : (ℓ : Loc Cert.OutEvenRefIdeal.nD Cert.OutEvenRefIdeal.τ Cert.OutEvenRefIdeal.sig) → Buf (Elt Ideal) ℓ) : Prop :=
  True

def Pre_Cross (m : (ℓ : Loc Cert.Cross.nD Cert.Cross.τ Cert.Cross.sig) → Buf (Elt Bits) ℓ) : Prop :=
  True

def Pre_CrossIdeal (m : (ℓ : Loc Cert.CrossIdeal.nD Cert.CrossIdeal.τ Cert.CrossIdeal.sig) → Buf (Elt Ideal) ℓ) : Prop :=
  True

def Pre_CrossIdeal_finite_mem [hPre_finite_mem : Cert.Pre_finite_mem.Facts] (m : (ℓ : Loc Cert.CrossIdeal.nD Cert.CrossIdeal.τ Cert.CrossIdeal.sig) → Buf (Elt Ideal) ℓ) : Prop :=
  ∀ c : Dev Cert.CrossIdeal.nD,
    (Cert.Pre_finite_mem.fn (F := Ideal) (m ((c.tc : Thread Cert.CrossIdeal.nD Cert.CrossIdeal.τ).loc Cert.CrossIdeal.main_arg0)) (m ((c.tc : Thread Cert.CrossIdeal.nD Cert.CrossIdeal.τ).loc Cert.CrossIdeal.main_arg1)) (m ((c.tc : Thread Cert.CrossIdeal.nD Cert.CrossIdeal.τ).loc Cert.CrossIdeal.main_arg2)) (m ((c.tc : Thread Cert.CrossIdeal.nD Cert.CrossIdeal.τ).loc Cert.CrossIdeal.main_arg3))) = (fun _ => 1#1)

def Pre_CrossRefIdeal (m : (ℓ : Loc Cert.CrossRefIdeal.nD Cert.CrossRefIdeal.τ Cert.CrossRefIdeal.sig) → Buf (Elt Ideal) ℓ) : Prop :=
  True

def Pre_CrossRefIdeal_finite_mem [hPre_finite_mem : Cert.Pre_finite_mem.Facts] (m : (ℓ : Loc Cert.CrossRefIdeal.nD Cert.CrossRefIdeal.τ Cert.CrossRefIdeal.sig) → Buf (Elt Ideal) ℓ) : Prop :=
  ∀ c : Dev Cert.CrossRefIdeal.nD,
    (Cert.Pre_finite_mem.fn (F := Ideal) (m ((c.tc : Thread Cert.CrossRefIdeal.nD Cert.CrossRefIdeal.τ).loc Cert.CrossRefIdeal.main_arg0)) (m ((c.tc : Thread Cert.CrossRefIdeal.nD Cert.CrossRefIdeal.τ).loc Cert.CrossRefIdeal.main_arg1)) (m ((c.tc : Thread Cert.CrossRefIdeal.nD Cert.CrossRefIdeal.τ).loc Cert.CrossRefIdeal.main_arg2)) (m ((c.tc : Thread Cert.CrossRefIdeal.nD Cert.CrossRefIdeal.τ).loc Cert.CrossRefIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_InOdd [hInOdd : Cert.InOdd.Facts] : Prop :=
  ∀ (m : (ℓ : Loc Cert.InOdd.nD Cert.InOdd.τ Cert.InOdd.sig) → Buf (Elt Bits) ℓ) (g : Dev Cert.InOdd.nD → PrngReg), Pre_InOdd m →
    θ_run (Cert.InOdd.defs (F := Bits)) (onTc (τ := Cert.InOdd.τ) (Cert.InOdd.main (F := Bits))) ⟨m, fun _ => 0, g⟩ (fun r => (∀ c : Dev Cert.InOdd.nD,
      r.2.mem ((c.tc : Thread Cert.InOdd.nD Cert.InOdd.τ).loc Cert.InOdd.main_arg0) = m ((c.tc : Thread Cert.InOdd.nD Cert.InOdd.τ).loc Cert.InOdd.main_arg0)
      ∧ r.2.mem ((c.tc : Thread Cert.InOdd.nD Cert.InOdd.τ).loc Cert.InOdd.main_arg1) = m ((c.tc : Thread Cert.InOdd.nD Cert.InOdd.τ).loc Cert.InOdd.main_arg1)
      ∧ r.2.mem ((c.tc : Thread Cert.InOdd.nD Cert.InOdd.τ).loc Cert.InOdd.main_arg2) = m ((c.tc : Thread Cert.InOdd.nD Cert.InOdd.τ).loc Cert.InOdd.main_arg2))
      ∧ r.2.sem = fun _ => 0)

def quiescent_InOddIdeal [hInOddIdeal : Cert.InOddIdeal.Facts] : Prop :=
  ∀ (m : (ℓ : Loc Cert.InOddIdeal.nD Cert.InOddIdeal.τ Cert.InOddIdeal.sig) → Buf (Elt Ideal) ℓ) (g : Dev Cert.InOddIdeal.nD → PrngReg), Pre_InOddIdeal m →
    θ_run (Cert.InOddIdeal.defs (F := Ideal)) (onTc (τ := Cert.InOddIdeal.τ) (Cert.InOddIdeal.main (F := Ideal))) ⟨m, fun _ => 0, g⟩ (fun r => (∀ c : Dev Cert.InOddIdeal.nD,
      r.2.mem ((c.tc : Thread Cert.InOddIdeal.nD Cert.InOddIdeal.τ).loc Cert.InOddIdeal.main_arg0) = m ((c.tc : Thread Cert.InOddIdeal.nD Cert.InOddIdeal.τ).loc Cert.InOddIdeal.main_arg0)
      ∧ r.2.mem ((c.tc : Thread Cert.InOddIdeal.nD Cert.InOddIdeal.τ).loc Cert.InOddIdeal.main_arg1) = m ((c.tc : Thread Cert.InOddIdeal.nD Cert.InOddIdeal.τ).loc Cert.InOddIdeal.main_arg1)
      ∧ r.2.mem ((c.tc : Thread Cert.InOddIdeal.nD Cert.InOddIdeal.τ).loc Cert.InOddIdeal.main_arg2) = m ((c.tc : Thread Cert.InOddIdeal.nD Cert.InOddIdeal.τ).loc Cert.InOddIdeal.main_arg2))
      ∧ r.2.sem = fun _ => 0)

def quiescent_InOddRefIdeal [hInOddRefIdeal : Cert.InOddRefIdeal.Facts] : Prop :=
  ∀ (m : (ℓ : Loc Cert.InOddRefIdeal.nD Cert.InOddRefIdeal.τ Cert.InOddRefIdeal.sig) → Buf (Elt Ideal) ℓ) (g : Dev Cert.InOddRefIdeal.nD → PrngReg), Pre_InOddRefIdeal m →
    θ_run (Cert.InOddRefIdeal.defs (F := Ideal)) (onTc (τ := Cert.InOddRefIdeal.τ) (Cert.InOddRefIdeal.main (F := Ideal))) ⟨m, fun _ => 0, g⟩ (fun r => (∀ c : Dev Cert.InOddRefIdeal.nD,
      r.2.mem ((c.tc : Thread Cert.InOddRefIdeal.nD Cert.InOddRefIdeal.τ).loc Cert.InOddRefIdeal.main_arg0) = m ((c.tc : Thread Cert.InOddRefIdeal.nD Cert.InOddRefIdeal.τ).loc Cert.InOddRefIdeal.main_arg0)
      ∧ r.2.mem ((c.tc : Thread Cert.InOddRefIdeal.nD Cert.InOddRefIdeal.τ).loc Cert.InOddRefIdeal.main_arg1) = m ((c.tc : Thread Cert.InOddRefIdeal.nD Cert.InOddRefIdeal.τ).loc Cert.InOddRefIdeal.main_arg1)
      ∧ r.2.mem ((c.tc : Thread Cert.InOddRefIdeal.nD Cert.InOddRefIdeal.τ).loc Cert.InOddRefIdeal.main_arg2) = m ((c.tc : Thread Cert.InOddRefIdeal.nD Cert.InOddRefIdeal.τ).loc Cert.InOddRefIdeal.main_arg2))
      ∧ r.2.sem = fun _ => 0)

def quiescent_OutOdd [hOutOdd : Cert.OutOdd.Facts] : Prop :=
  ∀ (m : (ℓ : Loc Cert.OutOdd.nD Cert.OutOdd.τ Cert.OutOdd.sig) → Buf (Elt Bits) ℓ) (g : Dev Cert.OutOdd.nD → PrngReg), Pre_OutOdd m →
    θ_run (Cert.OutOdd.defs (F := Bits)) (onTc (τ := Cert.OutOdd.τ) (Cert.OutOdd.main (F := Bits))) ⟨m, fun _ => 0, g⟩ (fun r => (∀ c : Dev Cert.OutOdd.nD,
      r.2.mem ((c.tc : Thread Cert.OutOdd.nD Cert.OutOdd.τ).loc Cert.OutOdd.main_arg0) = m ((c.tc : Thread Cert.OutOdd.nD Cert.OutOdd.τ).loc Cert.OutOdd.main_arg0)
      ∧ r.2.mem ((c.tc : Thread Cert.OutOdd.nD Cert.OutOdd.τ).loc Cert.OutOdd.main_arg1) = m ((c.tc : Thread Cert.OutOdd.nD Cert.OutOdd.τ).loc Cert.OutOdd.main_arg1)
      ∧ r.2.mem ((c.tc : Thread Cert.OutOdd.nD Cert.OutOdd.τ).loc Cert.OutOdd.main_arg2) = m ((c.tc : Thread Cert.OutOdd.nD Cert.OutOdd.τ).loc Cert.OutOdd.main_arg2)
      ∧ r.2.mem ((c.tc : Thread Cert.OutOdd.nD Cert.OutOdd.τ).loc Cert.OutOdd.main_arg3) = m ((c.tc : Thread Cert.OutOdd.nD Cert.OutOdd.τ).loc Cert.OutOdd.main_arg3)
      ∧ r.2.mem ((c.tc : Thread Cert.OutOdd.nD Cert.OutOdd.τ).loc Cert.OutOdd.main_arg4) = m ((c.tc : Thread Cert.OutOdd.nD Cert.OutOdd.τ).loc Cert.OutOdd.main_arg4)
      ∧ r.2.mem ((c.tc : Thread Cert.OutOdd.nD Cert.OutOdd.τ).loc Cert.OutOdd.main_arg5) = m ((c.tc : Thread Cert.OutOdd.nD Cert.OutOdd.τ).loc Cert.OutOdd.main_arg5))
      ∧ r.2.sem = fun _ => 0)

def quiescent_OutOddIdeal [hOutOddIdeal : Cert.OutOddIdeal.Facts] : Prop :=
  ∀ (m : (ℓ : Loc Cert.OutOddIdeal.nD Cert.OutOddIdeal.τ Cert.OutOddIdeal.sig) → Buf (Elt Ideal) ℓ) (g : Dev Cert.OutOddIdeal.nD → PrngReg), Pre_OutOddIdeal m →
    θ_run (Cert.OutOddIdeal.defs (F := Ideal)) (onTc (τ := Cert.OutOddIdeal.τ) (Cert.OutOddIdeal.main (F := Ideal))) ⟨m, fun _ => 0, g⟩ (fun r => (∀ c : Dev Cert.OutOddIdeal.nD,
      r.2.mem ((c.tc : Thread Cert.OutOddIdeal.nD Cert.OutOddIdeal.τ).loc Cert.OutOddIdeal.main_arg0) = m ((c.tc : Thread Cert.OutOddIdeal.nD Cert.OutOddIdeal.τ).loc Cert.OutOddIdeal.main_arg0)
      ∧ r.2.mem ((c.tc : Thread Cert.OutOddIdeal.nD Cert.OutOddIdeal.τ).loc Cert.OutOddIdeal.main_arg1) = m ((c.tc : Thread Cert.OutOddIdeal.nD Cert.OutOddIdeal.τ).loc Cert.OutOddIdeal.main_arg1)
      ∧ r.2.mem ((c.tc : Thread Cert.OutOddIdeal.nD Cert.OutOddIdeal.τ).loc Cert.OutOddIdeal.main_arg2) = m ((c.tc : Thread Cert.OutOddIdeal.nD Cert.OutOddIdeal.τ).loc Cert.OutOddIdeal.main_arg2)
      ∧ r.2.mem ((c.tc : Thread Cert.OutOddIdeal.nD Cert.OutOddIdeal.τ).loc Cert.OutOddIdeal.main_arg3) = m ((c.tc : Thread Cert.OutOddIdeal.nD Cert.OutOddIdeal.τ).loc Cert.OutOddIdeal.main_arg3)
      ∧ r.2.mem ((c.tc : Thread Cert.OutOddIdeal.nD Cert.OutOddIdeal.τ).loc Cert.OutOddIdeal.main_arg4) = m ((c.tc : Thread Cert.OutOddIdeal.nD Cert.OutOddIdeal.τ).loc Cert.OutOddIdeal.main_arg4)
      ∧ r.2.mem ((c.tc : Thread Cert.OutOddIdeal.nD Cert.OutOddIdeal.τ).loc Cert.OutOddIdeal.main_arg5) = m ((c.tc : Thread Cert.OutOddIdeal.nD Cert.OutOddIdeal.τ).loc Cert.OutOddIdeal.main_arg5))
      ∧ r.2.sem = fun _ => 0)

def quiescent_OutOddRefIdeal [hOutOddRefIdeal : Cert.OutOddRefIdeal.Facts] : Prop :=
  ∀ (m : (ℓ : Loc Cert.OutOddRefIdeal.nD Cert.OutOddRefIdeal.τ Cert.OutOddRefIdeal.sig) → Buf (Elt Ideal) ℓ) (g : Dev Cert.OutOddRefIdeal.nD → PrngReg), Pre_OutOddRefIdeal m →
    θ_run (Cert.OutOddRefIdeal.defs (F := Ideal)) (onTc (τ := Cert.OutOddRefIdeal.τ) (Cert.OutOddRefIdeal.main (F := Ideal))) ⟨m, fun _ => 0, g⟩ (fun r => (∀ c : Dev Cert.OutOddRefIdeal.nD,
      r.2.mem ((c.tc : Thread Cert.OutOddRefIdeal.nD Cert.OutOddRefIdeal.τ).loc Cert.OutOddRefIdeal.main_arg0) = m ((c.tc : Thread Cert.OutOddRefIdeal.nD Cert.OutOddRefIdeal.τ).loc Cert.OutOddRefIdeal.main_arg0)
      ∧ r.2.mem ((c.tc : Thread Cert.OutOddRefIdeal.nD Cert.OutOddRefIdeal.τ).loc Cert.OutOddRefIdeal.main_arg1) = m ((c.tc : Thread Cert.OutOddRefIdeal.nD Cert.OutOddRefIdeal.τ).loc Cert.OutOddRefIdeal.main_arg1)
      ∧ r.2.mem ((c.tc : Thread Cert.OutOddRefIdeal.nD Cert.OutOddRefIdeal.τ).loc Cert.OutOddRefIdeal.main_arg2) = m ((c.tc : Thread Cert.OutOddRefIdeal.nD Cert.OutOddRefIdeal.τ).loc Cert.OutOddRefIdeal.main_arg2)
      ∧ r.2.mem ((c.tc : Thread Cert.OutOddRefIdeal.nD Cert.OutOddRefIdeal.τ).loc Cert.OutOddRefIdeal.main_arg3) = m ((c.tc : Thread Cert.OutOddRefIdeal.nD Cert.OutOddRefIdeal.τ).loc Cert.OutOddRefIdeal.main_arg3)
      ∧ r.2.mem ((c.tc : Thread Cert.OutOddRefIdeal.nD Cert.OutOddRefIdeal.τ).loc Cert.OutOddRefIdeal.main_arg4) = m ((c.tc : Thread Cert.OutOddRefIdeal.nD Cert.OutOddRefIdeal.τ).loc Cert.OutOddRefIdeal.main_arg4)
      ∧ r.2.mem ((c.tc : Thread Cert.OutOddRefIdeal.nD Cert.OutOddRefIdeal.τ).loc Cert.OutOddRefIdeal.main_arg5) = m ((c.tc : Thread Cert.OutOddRefIdeal.nD Cert.OutOddRefIdeal.τ).loc Cert.OutOddRefIdeal.main_arg5))
      ∧ r.2.sem = fun _ => 0)

def quiescent_InEven [hInEven : Cert.InEven.Facts] : Prop :=
  ∀ (m : (ℓ : Loc Cert.InEven.nD Cert.InEven.τ Cert.InEven.sig) → Buf (Elt Bits) ℓ) (g : Dev Cert.InEven.nD → PrngReg), Pre_InEven m →
    θ_run (Cert.InEven.defs (F := Bits)) (onTc (τ := Cert.InEven.τ) (Cert.InEven.main (F := Bits))) ⟨m, fun _ => 0, g⟩ (fun r => (∀ c : Dev Cert.InEven.nD,
      r.2.mem ((c.tc : Thread Cert.InEven.nD Cert.InEven.τ).loc Cert.InEven.main_arg0) = m ((c.tc : Thread Cert.InEven.nD Cert.InEven.τ).loc Cert.InEven.main_arg0)
      ∧ r.2.mem ((c.tc : Thread Cert.InEven.nD Cert.InEven.τ).loc Cert.InEven.main_arg1) = m ((c.tc : Thread Cert.InEven.nD Cert.InEven.τ).loc Cert.InEven.main_arg1)
      ∧ r.2.mem ((c.tc : Thread Cert.InEven.nD Cert.InEven.τ).loc Cert.InEven.main_arg2) = m ((c.tc : Thread Cert.InEven.nD Cert.InEven.τ).loc Cert.InEven.main_arg2))
      ∧ r.2.sem = fun _ => 0)

def quiescent_InEvenIdeal [hInEvenIdeal : Cert.InEvenIdeal.Facts] : Prop :=
  ∀ (m : (ℓ : Loc Cert.InEvenIdeal.nD Cert.InEvenIdeal.τ Cert.InEvenIdeal.sig) → Buf (Elt Ideal) ℓ) (g : Dev Cert.InEvenIdeal.nD → PrngReg), Pre_InEvenIdeal m →
    θ_run (Cert.InEvenIdeal.defs (F := Ideal)) (onTc (τ := Cert.InEvenIdeal.τ) (Cert.InEvenIdeal.main (F := Ideal))) ⟨m, fun _ => 0, g⟩ (fun r => (∀ c : Dev Cert.InEvenIdeal.nD,
      r.2.mem ((c.tc : Thread Cert.InEvenIdeal.nD Cert.InEvenIdeal.τ).loc Cert.InEvenIdeal.main_arg0) = m ((c.tc : Thread Cert.InEvenIdeal.nD Cert.InEvenIdeal.τ).loc Cert.InEvenIdeal.main_arg0)
      ∧ r.2.mem ((c.tc : Thread Cert.InEvenIdeal.nD Cert.InEvenIdeal.τ).loc Cert.InEvenIdeal.main_arg1) = m ((c.tc : Thread Cert.InEvenIdeal.nD Cert.InEvenIdeal.τ).loc Cert.InEvenIdeal.main_arg1)
      ∧ r.2.mem ((c.tc : Thread Cert.InEvenIdeal.nD Cert.InEvenIdeal.τ).loc Cert.InEvenIdeal.main_arg2) = m ((c.tc : Thread Cert.InEvenIdeal.nD Cert.InEvenIdeal.τ).loc Cert.InEvenIdeal.main_arg2))
      ∧ r.2.sem = fun _ => 0)

def quiescent_InEvenRefIdeal [hInEvenRefIdeal : Cert.InEvenRefIdeal.Facts] : Prop :=
  ∀ (m : (ℓ : Loc Cert.InEvenRefIdeal.nD Cert.InEvenRefIdeal.τ Cert.InEvenRefIdeal.sig) → Buf (Elt Ideal) ℓ) (g : Dev Cert.InEvenRefIdeal.nD → PrngReg), Pre_InEvenRefIdeal m →
    θ_run (Cert.InEvenRefIdeal.defs (F := Ideal)) (onTc (τ := Cert.InEvenRefIdeal.τ) (Cert.InEvenRefIdeal.main (F := Ideal))) ⟨m, fun _ => 0, g⟩ (fun r => (∀ c : Dev Cert.InEvenRefIdeal.nD,
      r.2.mem ((c.tc : Thread Cert.InEvenRefIdeal.nD Cert.InEvenRefIdeal.τ).loc Cert.InEvenRefIdeal.main_arg0) = m ((c.tc : Thread Cert.InEvenRefIdeal.nD Cert.InEvenRefIdeal.τ).loc Cert.InEvenRefIdeal.main_arg0)
      ∧ r.2.mem ((c.tc : Thread Cert.InEvenRefIdeal.nD Cert.InEvenRefIdeal.τ).loc Cert.InEvenRefIdeal.main_arg1) = m ((c.tc : Thread Cert.InEvenRefIdeal.nD Cert.InEvenRefIdeal.τ).loc Cert.InEvenRefIdeal.main_arg1)
      ∧ r.2.mem ((c.tc : Thread Cert.InEvenRefIdeal.nD Cert.InEvenRefIdeal.τ).loc Cert.InEvenRefIdeal.main_arg2) = m ((c.tc : Thread Cert.InEvenRefIdeal.nD Cert.InEvenRefIdeal.τ).loc Cert.InEvenRefIdeal.main_arg2))
      ∧ r.2.sem = fun _ => 0)

def quiescent_OutEven [hOutEven : Cert.OutEven.Facts] : Prop :=
  ∀ (m : (ℓ : Loc Cert.OutEven.nD Cert.OutEven.τ Cert.OutEven.sig) → Buf (Elt Bits) ℓ) (g : Dev Cert.OutEven.nD → PrngReg), Pre_OutEven m →
    θ_run (Cert.OutEven.defs (F := Bits)) (onTc (τ := Cert.OutEven.τ) (Cert.OutEven.main (F := Bits))) ⟨m, fun _ => 0, g⟩ (fun r => (∀ c : Dev Cert.OutEven.nD,
      r.2.mem ((c.tc : Thread Cert.OutEven.nD Cert.OutEven.τ).loc Cert.OutEven.main_arg0) = m ((c.tc : Thread Cert.OutEven.nD Cert.OutEven.τ).loc Cert.OutEven.main_arg0)
      ∧ r.2.mem ((c.tc : Thread Cert.OutEven.nD Cert.OutEven.τ).loc Cert.OutEven.main_arg1) = m ((c.tc : Thread Cert.OutEven.nD Cert.OutEven.τ).loc Cert.OutEven.main_arg1)
      ∧ r.2.mem ((c.tc : Thread Cert.OutEven.nD Cert.OutEven.τ).loc Cert.OutEven.main_arg2) = m ((c.tc : Thread Cert.OutEven.nD Cert.OutEven.τ).loc Cert.OutEven.main_arg2)
      ∧ r.2.mem ((c.tc : Thread Cert.OutEven.nD Cert.OutEven.τ).loc Cert.OutEven.main_arg3) = m ((c.tc : Thread Cert.OutEven.nD Cert.OutEven.τ).loc Cert.OutEven.main_arg3)
      ∧ r.2.mem ((c.tc : Thread Cert.OutEven.nD Cert.OutEven.τ).loc Cert.OutEven.main_arg4) = m ((c.tc : Thread Cert.OutEven.nD Cert.OutEven.τ).loc Cert.OutEven.main_arg4)
      ∧ r.2.mem ((c.tc : Thread Cert.OutEven.nD Cert.OutEven.τ).loc Cert.OutEven.main_arg5) = m ((c.tc : Thread Cert.OutEven.nD Cert.OutEven.τ).loc Cert.OutEven.main_arg5))
      ∧ r.2.sem = fun _ => 0)

def quiescent_OutEvenIdeal [hOutEvenIdeal : Cert.OutEvenIdeal.Facts] : Prop :=
  ∀ (m : (ℓ : Loc Cert.OutEvenIdeal.nD Cert.OutEvenIdeal.τ Cert.OutEvenIdeal.sig) → Buf (Elt Ideal) ℓ) (g : Dev Cert.OutEvenIdeal.nD → PrngReg), Pre_OutEvenIdeal m →
    θ_run (Cert.OutEvenIdeal.defs (F := Ideal)) (onTc (τ := Cert.OutEvenIdeal.τ) (Cert.OutEvenIdeal.main (F := Ideal))) ⟨m, fun _ => 0, g⟩ (fun r => (∀ c : Dev Cert.OutEvenIdeal.nD,
      r.2.mem ((c.tc : Thread Cert.OutEvenIdeal.nD Cert.OutEvenIdeal.τ).loc Cert.OutEvenIdeal.main_arg0) = m ((c.tc : Thread Cert.OutEvenIdeal.nD Cert.OutEvenIdeal.τ).loc Cert.OutEvenIdeal.main_arg0)
      ∧ r.2.mem ((c.tc : Thread Cert.OutEvenIdeal.nD Cert.OutEvenIdeal.τ).loc Cert.OutEvenIdeal.main_arg1) = m ((c.tc : Thread Cert.OutEvenIdeal.nD Cert.OutEvenIdeal.τ).loc Cert.OutEvenIdeal.main_arg1)
      ∧ r.2.mem ((c.tc : Thread Cert.OutEvenIdeal.nD Cert.OutEvenIdeal.τ).loc Cert.OutEvenIdeal.main_arg2) = m ((c.tc : Thread Cert.OutEvenIdeal.nD Cert.OutEvenIdeal.τ).loc Cert.OutEvenIdeal.main_arg2)
      ∧ r.2.mem ((c.tc : Thread Cert.OutEvenIdeal.nD Cert.OutEvenIdeal.τ).loc Cert.OutEvenIdeal.main_arg3) = m ((c.tc : Thread Cert.OutEvenIdeal.nD Cert.OutEvenIdeal.τ).loc Cert.OutEvenIdeal.main_arg3)
      ∧ r.2.mem ((c.tc : Thread Cert.OutEvenIdeal.nD Cert.OutEvenIdeal.τ).loc Cert.OutEvenIdeal.main_arg4) = m ((c.tc : Thread Cert.OutEvenIdeal.nD Cert.OutEvenIdeal.τ).loc Cert.OutEvenIdeal.main_arg4)
      ∧ r.2.mem ((c.tc : Thread Cert.OutEvenIdeal.nD Cert.OutEvenIdeal.τ).loc Cert.OutEvenIdeal.main_arg5) = m ((c.tc : Thread Cert.OutEvenIdeal.nD Cert.OutEvenIdeal.τ).loc Cert.OutEvenIdeal.main_arg5))
      ∧ r.2.sem = fun _ => 0)

def quiescent_OutEvenRefIdeal [hOutEvenRefIdeal : Cert.OutEvenRefIdeal.Facts] : Prop :=
  ∀ (m : (ℓ : Loc Cert.OutEvenRefIdeal.nD Cert.OutEvenRefIdeal.τ Cert.OutEvenRefIdeal.sig) → Buf (Elt Ideal) ℓ) (g : Dev Cert.OutEvenRefIdeal.nD → PrngReg), Pre_OutEvenRefIdeal m →
    θ_run (Cert.OutEvenRefIdeal.defs (F := Ideal)) (onTc (τ := Cert.OutEvenRefIdeal.τ) (Cert.OutEvenRefIdeal.main (F := Ideal))) ⟨m, fun _ => 0, g⟩ (fun r => (∀ c : Dev Cert.OutEvenRefIdeal.nD,
      r.2.mem ((c.tc : Thread Cert.OutEvenRefIdeal.nD Cert.OutEvenRefIdeal.τ).loc Cert.OutEvenRefIdeal.main_arg0) = m ((c.tc : Thread Cert.OutEvenRefIdeal.nD Cert.OutEvenRefIdeal.τ).loc Cert.OutEvenRefIdeal.main_arg0)
      ∧ r.2.mem ((c.tc : Thread Cert.OutEvenRefIdeal.nD Cert.OutEvenRefIdeal.τ).loc Cert.OutEvenRefIdeal.main_arg1) = m ((c.tc : Thread Cert.OutEvenRefIdeal.nD Cert.OutEvenRefIdeal.τ).loc Cert.OutEvenRefIdeal.main_arg1)
      ∧ r.2.mem ((c.tc : Thread Cert.OutEvenRefIdeal.nD Cert.OutEvenRefIdeal.τ).loc Cert.OutEvenRefIdeal.main_arg2) = m ((c.tc : Thread Cert.OutEvenRefIdeal.nD Cert.OutEvenRefIdeal.τ).loc Cert.OutEvenRefIdeal.main_arg2)
      ∧ r.2.mem ((c.tc : Thread Cert.OutEvenRefIdeal.nD Cert.OutEvenRefIdeal.τ).loc Cert.OutEvenRefIdeal.main_arg3) = m ((c.tc : Thread Cert.OutEvenRefIdeal.nD Cert.OutEvenRefIdeal.τ).loc Cert.OutEvenRefIdeal.main_arg3)
      ∧ r.2.mem ((c.tc : Thread Cert.OutEvenRefIdeal.nD Cert.OutEvenRefIdeal.τ).loc Cert.OutEvenRefIdeal.main_arg4) = m ((c.tc : Thread Cert.OutEvenRefIdeal.nD Cert.OutEvenRefIdeal.τ).loc Cert.OutEvenRefIdeal.main_arg4)
      ∧ r.2.mem ((c.tc : Thread Cert.OutEvenRefIdeal.nD Cert.OutEvenRefIdeal.τ).loc Cert.OutEvenRefIdeal.main_arg5) = m ((c.tc : Thread Cert.OutEvenRefIdeal.nD Cert.OutEvenRefIdeal.τ).loc Cert.OutEvenRefIdeal.main_arg5))
      ∧ r.2.sem = fun _ => 0)

def quiescent_Cross [hCross : Cert.Cross.Facts] : Prop :=
  ∀ (m : (ℓ : Loc Cert.Cross.nD Cert.Cross.τ Cert.Cross.sig) → Buf (Elt Bits) ℓ) (g : Dev Cert.Cross.nD → PrngReg), Pre_Cross m →
    θ_run (Cert.Cross.defs (F := Bits)) (onTc (τ := Cert.Cross.τ) (Cert.Cross.main (F := Bits))) ⟨m, fun _ => 0, g⟩ (fun r => (∀ c : Dev Cert.Cross.nD,
      r.2.mem ((c.tc : Thread Cert.Cross.nD Cert.Cross.τ).loc Cert.Cross.main_arg0) = m ((c.tc : Thread Cert.Cross.nD Cert.Cross.τ).loc Cert.Cross.main_arg0)
      ∧ r.2.mem ((c.tc : Thread Cert.Cross.nD Cert.Cross.τ).loc Cert.Cross.main_arg1) = m ((c.tc : Thread Cert.Cross.nD Cert.Cross.τ).loc Cert.Cross.main_arg1)
      ∧ r.2.mem ((c.tc : Thread Cert.Cross.nD Cert.Cross.τ).loc Cert.Cross.main_arg2) = m ((c.tc : Thread Cert.Cross.nD Cert.Cross.τ).loc Cert.Cross.main_arg2)
      ∧ r.2.mem ((c.tc : Thread Cert.Cross.nD Cert.Cross.τ).loc Cert.Cross.main_arg3) = m ((c.tc : Thread Cert.Cross.nD Cert.Cross.τ).loc Cert.Cross.main_arg3))
      ∧ r.2.sem = fun _ => 0)

def quiescent_CrossIdeal [hCrossIdeal : Cert.CrossIdeal.Facts] : Prop :=
  ∀ (m : (ℓ : Loc Cert.CrossIdeal.nD Cert.CrossIdeal.τ Cert.CrossIdeal.sig) → Buf (Elt Ideal) ℓ) (g : Dev Cert.CrossIdeal.nD → PrngReg), Pre_CrossIdeal m →
    θ_run (Cert.CrossIdeal.defs (F := Ideal)) (onTc (τ := Cert.CrossIdeal.τ) (Cert.CrossIdeal.main (F := Ideal))) ⟨m, fun _ => 0, g⟩ (fun r => (∀ c : Dev Cert.CrossIdeal.nD,
      r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
      ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
      ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
      ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3))
      ∧ r.2.sem = fun _ => 0)

def quiescent_CrossIdeal_pre_finite_mem [hCrossIdeal : Cert.CrossIdeal.Facts] [hPre_finite_mem : Cert.Pre_finite_mem.Facts] : Prop :=
  ∀ (m : (ℓ : Loc Cert.CrossIdeal.nD Cert.CrossIdeal.τ Cert.CrossIdeal.sig) → Buf (Elt Ideal) ℓ) (g : Dev Cert.CrossIdeal.nD → PrngReg), Pre_CrossIdeal_finite_mem m →
    θ_run (Cert.CrossIdeal.defs (F := Ideal)) (onTc (τ := Cert.CrossIdeal.τ) (Cert.CrossIdeal.main (F := Ideal))) ⟨m, fun _ => 0, g⟩ (fun r => (∀ c : Dev Cert.CrossIdeal.nD,
      r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
      ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
      ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
      ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3))
      ∧ r.2.sem = fun _ => 0)

def quiescent_CrossRefIdeal [hCrossRefIdeal : Cert.CrossRefIdeal.Facts] : Prop :=
  ∀ (m : (ℓ : Loc Cert.CrossRefIdeal.nD Cert.CrossRefIdeal.τ Cert.CrossRefIdeal.sig) → Buf (Elt Ideal) ℓ) (g : Dev Cert.CrossRefIdeal.nD → PrngReg), Pre_CrossRefIdeal m →
    θ_run (Cert.CrossRefIdeal.defs (F := Ideal)) (onTc (τ := Cert.CrossRefIdeal.τ) (Cert.CrossRefIdeal.main (F := Ideal))) ⟨m, fun _ => 0, g⟩ (fun r => (∀ c : Dev Cert.CrossRefIdeal.nD,
      r.2.mem ((c.tc : Thread Cert.CrossRefIdeal.nD Cert.CrossRefIdeal.τ).loc Cert.CrossRefIdeal.main_arg0) = m ((c.tc : Thread Cert.CrossRefIdeal.nD Cert.CrossRefIdeal.τ).loc Cert.CrossRefIdeal.main_arg0)
      ∧ r.2.mem ((c.tc : Thread Cert.CrossRefIdeal.nD Cert.CrossRefIdeal.τ).loc Cert.CrossRefIdeal.main_arg1) = m ((c.tc : Thread Cert.CrossRefIdeal.nD Cert.CrossRefIdeal.τ).loc Cert.CrossRefIdeal.main_arg1)
      ∧ r.2.mem ((c.tc : Thread Cert.CrossRefIdeal.nD Cert.CrossRefIdeal.τ).loc Cert.CrossRefIdeal.main_arg2) = m ((c.tc : Thread Cert.CrossRefIdeal.nD Cert.CrossRefIdeal.τ).loc Cert.CrossRefIdeal.main_arg2)
      ∧ r.2.mem ((c.tc : Thread Cert.CrossRefIdeal.nD Cert.CrossRefIdeal.τ).loc Cert.CrossRefIdeal.main_arg3) = m ((c.tc : Thread Cert.CrossRefIdeal.nD Cert.CrossRefIdeal.τ).loc Cert.CrossRefIdeal.main_arg3))
      ∧ r.2.sem = fun _ => 0)

def quiescent_CrossRefIdeal_pre_finite_mem [hCrossRefIdeal : Cert.CrossRefIdeal.Facts] [hPre_finite_mem : Cert.Pre_finite_mem.Facts] : Prop :=
  ∀ (m : (ℓ : Loc Cert.CrossRefIdeal.nD Cert.CrossRefIdeal.τ Cert.CrossRefIdeal.sig) → Buf (Elt Ideal) ℓ) (g : Dev Cert.CrossRefIdeal.nD → PrngReg), Pre_CrossRefIdeal_finite_mem m →
    θ_run (Cert.CrossRefIdeal.defs (F := Ideal)) (onTc (τ := Cert.CrossRefIdeal.τ) (Cert.CrossRefIdeal.main (F := Ideal))) ⟨m, fun _ => 0, g⟩ (fun r => (∀ c : Dev Cert.CrossRefIdeal.nD,
      r.2.mem ((c.tc : Thread Cert.CrossRefIdeal.nD Cert.CrossRefIdeal.τ).loc Cert.CrossRefIdeal.main_arg0) = m ((c.tc : Thread Cert.CrossRefIdeal.nD Cert.CrossRefIdeal.τ).loc Cert.CrossRefIdeal.main_arg0)
      ∧ r.2.mem ((c.tc : Thread Cert.CrossRefIdeal.nD Cert.CrossRefIdeal.τ).loc Cert.CrossRefIdeal.main_arg1) = m ((c.tc : Thread Cert.CrossRefIdeal.nD Cert.CrossRefIdeal.τ).loc Cert.CrossRefIdeal.main_arg1)
      ∧ r.2.mem ((c.tc : Thread Cert.CrossRefIdeal.nD Cert.CrossRefIdeal.τ).loc Cert.CrossRefIdeal.main_arg2) = m ((c.tc : Thread Cert.CrossRefIdeal.nD Cert.CrossRefIdeal.τ).loc Cert.CrossRefIdeal.main_arg2)
      ∧ r.2.mem ((c.tc : Thread Cert.CrossRefIdeal.nD Cert.CrossRefIdeal.τ).loc Cert.CrossRefIdeal.main_arg3) = m ((c.tc : Thread Cert.CrossRefIdeal.nD Cert.CrossRefIdeal.τ).loc Cert.CrossRefIdeal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_InOdd_InOddIdeal : Prop :=
  True

def algebraic_InOddIdeal_InOddRefIdeal [hInOddIdeal : Cert.InOddIdeal.Facts] [hInOddRefIdeal : Cert.InOddRefIdeal.Facts] : Prop :=
  ∀ (m : (ℓ : Loc Cert.InOddIdeal.nD Cert.InOddIdeal.τ Cert.InOddIdeal.sig) → Buf (Elt Ideal) ℓ) (g : Dev Cert.InOddIdeal.nD → PrngReg)
    (m' : (ℓ : Loc Cert.InOddRefIdeal.nD Cert.InOddRefIdeal.τ Cert.InOddRefIdeal.sig) → Buf (Elt Ideal) ℓ) (g' : Dev Cert.InOddRefIdeal.nD → PrngReg), Pre_InOddIdeal m →
    (∀ c : Dev Cert.InOddIdeal.nD,
      m' ((c.tc : Thread Cert.InOddRefIdeal.nD Cert.InOddRefIdeal.τ).loc Cert.InOddRefIdeal.main_arg0) = m ((c.tc : Thread Cert.InOddIdeal.nD Cert.InOddIdeal.τ).loc Cert.InOddIdeal.main_arg0)
      ∧ m' ((c.tc : Thread Cert.InOddRefIdeal.nD Cert.InOddRefIdeal.τ).loc Cert.InOddRefIdeal.main_arg1) = m ((c.tc : Thread Cert.InOddIdeal.nD Cert.InOddIdeal.τ).loc Cert.InOddIdeal.main_arg1)
      ∧ m' ((c.tc : Thread Cert.InOddRefIdeal.nD Cert.InOddRefIdeal.τ).loc Cert.InOddRefIdeal.main_arg2) = m ((c.tc : Thread Cert.InOddIdeal.nD Cert.InOddIdeal.τ).loc Cert.InOddIdeal.main_arg2)) →
    ∃ (v0 : (c : Dev Cert.InOddIdeal.nD) → Buf (Elt Ideal) ((c.tc : Thread Cert.InOddIdeal.nD Cert.InOddIdeal.τ).loc Cert.InOddIdeal.main_v37_0)) (v1 : (c : Dev Cert.InOddIdeal.nD) → Buf (Elt Ideal) ((c.tc : Thread Cert.InOddIdeal.nD Cert.InOddIdeal.τ).loc Cert.InOddIdeal.main_v37_1)),
      θ_run (Cert.InOddIdeal.defs (F := Ideal)) (onTc (τ := Cert.InOddIdeal.τ) (Cert.InOddIdeal.main (F := Ideal))) ⟨m, fun _ => 0, g⟩ (fun r => ∀ c : Dev Cert.InOddIdeal.nD,
          r.2.mem ((c.tc : Thread Cert.InOddIdeal.nD Cert.InOddIdeal.τ).loc Cert.InOddIdeal.main_v37_0) = v0 c
          ∧ r.2.mem ((c.tc : Thread Cert.InOddIdeal.nD Cert.InOddIdeal.τ).loc Cert.InOddIdeal.main_v37_1) = v1 c
          ∧ r.2.mem ((c.tc : Thread Cert.InOddIdeal.nD Cert.InOddIdeal.τ).loc Cert.InOddIdeal.main_arg0) = m ((c.tc : Thread Cert.InOddIdeal.nD Cert.InOddIdeal.τ).loc Cert.InOddIdeal.main_arg0)
          ∧ r.2.mem ((c.tc : Thread Cert.InOddIdeal.nD Cert.InOddIdeal.τ).loc Cert.InOddIdeal.main_arg1) = m ((c.tc : Thread Cert.InOddIdeal.nD Cert.InOddIdeal.τ).loc Cert.InOddIdeal.main_arg1)
          ∧ r.2.mem ((c.tc : Thread Cert.InOddIdeal.nD Cert.InOddIdeal.τ).loc Cert.InOddIdeal.main_arg2) = m ((c.tc : Thread Cert.InOddIdeal.nD Cert.InOddIdeal.τ).loc Cert.InOddIdeal.main_arg2))
      ∧ θ_run (Cert.InOddRefIdeal.defs (F := Ideal)) (onTc (τ := Cert.InOddRefIdeal.τ) (Cert.InOddRefIdeal.main (F := Ideal))) ⟨m', fun _ => 0, g'⟩ (fun r => ∀ c : Dev Cert.InOddRefIdeal.nD,
          r.2.mem ((c.tc : Thread Cert.InOddRefIdeal.nD Cert.InOddRefIdeal.τ).loc Cert.InOddRefIdeal.main_v35) = v0 c
          ∧ r.2.mem ((c.tc : Thread Cert.InOddRefIdeal.nD Cert.InOddRefIdeal.τ).loc Cert.InOddRefIdeal.main_v31) = v1 c
          ∧ r.2.mem ((c.tc : Thread Cert.InOddRefIdeal.nD Cert.InOddRefIdeal.τ).loc Cert.InOddRefIdeal.main_arg0) = m' ((c.tc : Thread Cert.InOddRefIdeal.nD Cert.InOddRefIdeal.τ).loc Cert.InOddRefIdeal.main_arg0)
          ∧ r.2.mem ((c.tc : Thread Cert.InOddRefIdeal.nD Cert.InOddRefIdeal.τ).loc Cert.InOddRefIdeal.main_arg1) = m' ((c.tc : Thread Cert.InOddRefIdeal.nD Cert.InOddRefIdeal.τ).loc Cert.InOddRefIdeal.main_arg1)
          ∧ r.2.mem ((c.tc : Thread Cert.InOddRefIdeal.nD Cert.InOddRefIdeal.τ).loc Cert.InOddRefIdeal.main_arg2) = m' ((c.tc : Thread Cert.InOddRefIdeal.nD Cert.InOddRefIdeal.τ).loc Cert.InOddRefIdeal.main_arg2))

def preserves_OutOdd_OutOddIdeal : Prop :=
  True

def algebraic_OutOddIdeal_OutOddRefIdeal [hOutOddIdeal : Cert.OutOddIdeal.Facts] [hOutOddRefIdeal : Cert.OutOddRefIdeal.Facts] : Prop :=
  ∀ (m : (ℓ : Loc Cert.OutOddIdeal.nD Cert.OutOddIdeal.τ Cert.OutOddIdeal.sig) → Buf (Elt Ideal) ℓ) (g : Dev Cert.OutOddIdeal.nD → PrngReg)
    (m' : (ℓ : Loc Cert.OutOddRefIdeal.nD Cert.OutOddRefIdeal.τ Cert.OutOddRefIdeal.sig) → Buf (Elt Ideal) ℓ) (g' : Dev Cert.OutOddRefIdeal.nD → PrngReg), Pre_OutOddIdeal m →
    (∀ c : Dev Cert.OutOddIdeal.nD,
      m' ((c.tc : Thread Cert.OutOddRefIdeal.nD Cert.OutOddRefIdeal.τ).loc Cert.OutOddRefIdeal.main_arg0) = m ((c.tc : Thread Cert.OutOddIdeal.nD Cert.OutOddIdeal.τ).loc Cert.OutOddIdeal.main_arg0)
      ∧ m' ((c.tc : Thread Cert.OutOddRefIdeal.nD Cert.OutOddRefIdeal.τ).loc Cert.OutOddRefIdeal.main_arg1) = m ((c.tc : Thread Cert.OutOddIdeal.nD Cert.OutOddIdeal.τ).loc Cert.OutOddIdeal.main_arg1)
      ∧ m' ((c.tc : Thread Cert.OutOddRefIdeal.nD Cert.OutOddRefIdeal.τ).loc Cert.OutOddRefIdeal.main_arg2) = m ((c.tc : Thread Cert.OutOddIdeal.nD Cert.OutOddIdeal.τ).loc Cert.OutOddIdeal.main_arg2)
      ∧ m' ((c.tc : Thread Cert.OutOddRefIdeal.nD Cert.OutOddRefIdeal.τ).loc Cert.OutOddRefIdeal.main_arg3) = m ((c.tc : Thread Cert.OutOddIdeal.nD Cert.OutOddIdeal.τ).loc Cert.OutOddIdeal.main_arg3)
      ∧ m' ((c.tc : Thread Cert.OutOddRefIdeal.nD Cert.OutOddRefIdeal.τ).loc Cert.OutOddRefIdeal.main_arg4) = m ((c.tc : Thread Cert.OutOddIdeal.nD Cert.OutOddIdeal.τ).loc Cert.OutOddIdeal.main_arg4)
      ∧ m' ((c.tc : Thread Cert.OutOddRefIdeal.nD Cert.OutOddRefIdeal.τ).loc Cert.OutOddRefIdeal.main_arg5) = m ((c.tc : Thread Cert.OutOddIdeal.nD Cert.OutOddIdeal.τ).loc Cert.OutOddIdeal.main_arg5)) →
    ∃ (v0 : (c : Dev Cert.OutOddIdeal.nD) → Buf (Elt Ideal) ((c.tc : Thread Cert.OutOddIdeal.nD Cert.OutOddIdeal.τ).loc Cert.OutOddIdeal.main_v42)),
      θ_run (Cert.OutOddIdeal.defs (F := Ideal)) (onTc (τ := Cert.OutOddIdeal.τ) (Cert.OutOddIdeal.main (F := Ideal))) ⟨m, fun _ => 0, g⟩ (fun r => ∀ c : Dev Cert.OutOddIdeal.nD,
          r.2.mem ((c.tc : Thread Cert.OutOddIdeal.nD Cert.OutOddIdeal.τ).loc Cert.OutOddIdeal.main_v42) = v0 c
          ∧ r.2.mem ((c.tc : Thread Cert.OutOddIdeal.nD Cert.OutOddIdeal.τ).loc Cert.OutOddIdeal.main_arg0) = m ((c.tc : Thread Cert.OutOddIdeal.nD Cert.OutOddIdeal.τ).loc Cert.OutOddIdeal.main_arg0)
          ∧ r.2.mem ((c.tc : Thread Cert.OutOddIdeal.nD Cert.OutOddIdeal.τ).loc Cert.OutOddIdeal.main_arg1) = m ((c.tc : Thread Cert.OutOddIdeal.nD Cert.OutOddIdeal.τ).loc Cert.OutOddIdeal.main_arg1)
          ∧ r.2.mem ((c.tc : Thread Cert.OutOddIdeal.nD Cert.OutOddIdeal.τ).loc Cert.OutOddIdeal.main_arg2) = m ((c.tc : Thread Cert.OutOddIdeal.nD Cert.OutOddIdeal.τ).loc Cert.OutOddIdeal.main_arg2)
          ∧ r.2.mem ((c.tc : Thread Cert.OutOddIdeal.nD Cert.OutOddIdeal.τ).loc Cert.OutOddIdeal.main_arg3) = m ((c.tc : Thread Cert.OutOddIdeal.nD Cert.OutOddIdeal.τ).loc Cert.OutOddIdeal.main_arg3)
          ∧ r.2.mem ((c.tc : Thread Cert.OutOddIdeal.nD Cert.OutOddIdeal.τ).loc Cert.OutOddIdeal.main_arg4) = m ((c.tc : Thread Cert.OutOddIdeal.nD Cert.OutOddIdeal.τ).loc Cert.OutOddIdeal.main_arg4)
          ∧ r.2.mem ((c.tc : Thread Cert.OutOddIdeal.nD Cert.OutOddIdeal.τ).loc Cert.OutOddIdeal.main_arg5) = m ((c.tc : Thread Cert.OutOddIdeal.nD Cert.OutOddIdeal.τ).loc Cert.OutOddIdeal.main_arg5))
      ∧ θ_run (Cert.OutOddRefIdeal.defs (F := Ideal)) (onTc (τ := Cert.OutOddRefIdeal.τ) (Cert.OutOddRefIdeal.main (F := Ideal))) ⟨m', fun _ => 0, g'⟩ (fun r => ∀ c : Dev Cert.OutOddRefIdeal.nD,
          r.2.mem ((c.tc : Thread Cert.OutOddRefIdeal.nD Cert.OutOddRefIdeal.τ).loc Cert.OutOddRefIdeal.main_v24) = v0 c
          ∧ r.2.mem ((c.tc : Thread Cert.OutOddRefIdeal.nD Cert.OutOddRefIdeal.τ).loc Cert.OutOddRefIdeal.main_arg0) = m' ((c.tc : Thread Cert.OutOddRefIdeal.nD Cert.OutOddRefIdeal.τ).loc Cert.OutOddRefIdeal.main_arg0)
          ∧ r.2.mem ((c.tc : Thread Cert.OutOddRefIdeal.nD Cert.OutOddRefIdeal.τ).loc Cert.OutOddRefIdeal.main_arg1) = m' ((c.tc : Thread Cert.OutOddRefIdeal.nD Cert.OutOddRefIdeal.τ).loc Cert.OutOddRefIdeal.main_arg1)
          ∧ r.2.mem ((c.tc : Thread Cert.OutOddRefIdeal.nD Cert.OutOddRefIdeal.τ).loc Cert.OutOddRefIdeal.main_arg2) = m' ((c.tc : Thread Cert.OutOddRefIdeal.nD Cert.OutOddRefIdeal.τ).loc Cert.OutOddRefIdeal.main_arg2)
          ∧ r.2.mem ((c.tc : Thread Cert.OutOddRefIdeal.nD Cert.OutOddRefIdeal.τ).loc Cert.OutOddRefIdeal.main_arg3) = m' ((c.tc : Thread Cert.OutOddRefIdeal.nD Cert.OutOddRefIdeal.τ).loc Cert.OutOddRefIdeal.main_arg3)
          ∧ r.2.mem ((c.tc : Thread Cert.OutOddRefIdeal.nD Cert.OutOddRefIdeal.τ).loc Cert.OutOddRefIdeal.main_arg4) = m' ((c.tc : Thread Cert.OutOddRefIdeal.nD Cert.OutOddRefIdeal.τ).loc Cert.OutOddRefIdeal.main_arg4)
          ∧ r.2.mem ((c.tc : Thread Cert.OutOddRefIdeal.nD Cert.OutOddRefIdeal.τ).loc Cert.OutOddRefIdeal.main_arg5) = m' ((c.tc : Thread Cert.OutOddRefIdeal.nD Cert.OutOddRefIdeal.τ).loc Cert.OutOddRefIdeal.main_arg5))

def preserves_InEven_InEvenIdeal : Prop :=
  True

def algebraic_InEvenIdeal_InEvenRefIdeal [hInEvenIdeal : Cert.InEvenIdeal.Facts] [hInEvenRefIdeal : Cert.InEvenRefIdeal.Facts] : Prop :=
  ∀ (m : (ℓ : Loc Cert.InEvenIdeal.nD Cert.InEvenIdeal.τ Cert.InEvenIdeal.sig) → Buf (Elt Ideal) ℓ) (g : Dev Cert.InEvenIdeal.nD → PrngReg)
    (m' : (ℓ : Loc Cert.InEvenRefIdeal.nD Cert.InEvenRefIdeal.τ Cert.InEvenRefIdeal.sig) → Buf (Elt Ideal) ℓ) (g' : Dev Cert.InEvenRefIdeal.nD → PrngReg), Pre_InEvenIdeal m →
    (∀ c : Dev Cert.InEvenIdeal.nD,
      m' ((c.tc : Thread Cert.InEvenRefIdeal.nD Cert.InEvenRefIdeal.τ).loc Cert.InEvenRefIdeal.main_arg0) = m ((c.tc : Thread Cert.InEvenIdeal.nD Cert.InEvenIdeal.τ).loc Cert.InEvenIdeal.main_arg0)
      ∧ m' ((c.tc : Thread Cert.InEvenRefIdeal.nD Cert.InEvenRefIdeal.τ).loc Cert.InEvenRefIdeal.main_arg1) = m ((c.tc : Thread Cert.InEvenIdeal.nD Cert.InEvenIdeal.τ).loc Cert.InEvenIdeal.main_arg1)
      ∧ m' ((c.tc : Thread Cert.InEvenRefIdeal.nD Cert.InEvenRefIdeal.τ).loc Cert.InEvenRefIdeal.main_arg2) = m ((c.tc : Thread Cert.InEvenIdeal.nD Cert.InEvenIdeal.τ).loc Cert.InEvenIdeal.main_arg2)) →
    ∃ (v0 : (c : Dev Cert.InEvenIdeal.nD) → Buf (Elt Ideal) ((c.tc : Thread Cert.InEvenIdeal.nD Cert.InEvenIdeal.τ).loc Cert.InEvenIdeal.main_v36_0)) (v1 : (c : Dev Cert.InEvenIdeal.nD) → Buf (Elt Ideal) ((c.tc : Thread Cert.InEvenIdeal.nD Cert.InEvenIdeal.τ).loc Cert.InEvenIdeal.main_v36_1)),
      θ_run (Cert.InEvenIdeal.defs (F := Ideal)) (onTc (τ := Cert.InEvenIdeal.τ) (Cert.InEvenIdeal.main (F := Ideal))) ⟨m, fun _ => 0, g⟩ (fun r => ∀ c : Dev Cert.InEvenIdeal.nD,
          r.2.mem ((c.tc : Thread Cert.InEvenIdeal.nD Cert.InEvenIdeal.τ).loc Cert.InEvenIdeal.main_v36_0) = v0 c
          ∧ r.2.mem ((c.tc : Thread Cert.InEvenIdeal.nD Cert.InEvenIdeal.τ).loc Cert.InEvenIdeal.main_v36_1) = v1 c
          ∧ r.2.mem ((c.tc : Thread Cert.InEvenIdeal.nD Cert.InEvenIdeal.τ).loc Cert.InEvenIdeal.main_arg0) = m ((c.tc : Thread Cert.InEvenIdeal.nD Cert.InEvenIdeal.τ).loc Cert.InEvenIdeal.main_arg0)
          ∧ r.2.mem ((c.tc : Thread Cert.InEvenIdeal.nD Cert.InEvenIdeal.τ).loc Cert.InEvenIdeal.main_arg1) = m ((c.tc : Thread Cert.InEvenIdeal.nD Cert.InEvenIdeal.τ).loc Cert.InEvenIdeal.main_arg1)
          ∧ r.2.mem ((c.tc : Thread Cert.InEvenIdeal.nD Cert.InEvenIdeal.τ).loc Cert.InEvenIdeal.main_arg2) = m ((c.tc : Thread Cert.InEvenIdeal.nD Cert.InEvenIdeal.τ).loc Cert.InEvenIdeal.main_arg2))
      ∧ θ_run (Cert.InEvenRefIdeal.defs (F := Ideal)) (onTc (τ := Cert.InEvenRefIdeal.τ) (Cert.InEvenRefIdeal.main (F := Ideal))) ⟨m', fun _ => 0, g'⟩ (fun r => ∀ c : Dev Cert.InEvenRefIdeal.nD,
          r.2.mem ((c.tc : Thread Cert.InEvenRefIdeal.nD Cert.InEvenRefIdeal.τ).loc Cert.InEvenRefIdeal.main_v35) = v0 c
          ∧ r.2.mem ((c.tc : Thread Cert.InEvenRefIdeal.nD Cert.InEvenRefIdeal.τ).loc Cert.InEvenRefIdeal.main_v30) = v1 c
          ∧ r.2.mem ((c.tc : Thread Cert.InEvenRefIdeal.nD Cert.InEvenRefIdeal.τ).loc Cert.InEvenRefIdeal.main_arg0) = m' ((c.tc : Thread Cert.InEvenRefIdeal.nD Cert.InEvenRefIdeal.τ).loc Cert.InEvenRefIdeal.main_arg0)
          ∧ r.2.mem ((c.tc : Thread Cert.InEvenRefIdeal.nD Cert.InEvenRefIdeal.τ).loc Cert.InEvenRefIdeal.main_arg1) = m' ((c.tc : Thread Cert.InEvenRefIdeal.nD Cert.InEvenRefIdeal.τ).loc Cert.InEvenRefIdeal.main_arg1)
          ∧ r.2.mem ((c.tc : Thread Cert.InEvenRefIdeal.nD Cert.InEvenRefIdeal.τ).loc Cert.InEvenRefIdeal.main_arg2) = m' ((c.tc : Thread Cert.InEvenRefIdeal.nD Cert.InEvenRefIdeal.τ).loc Cert.InEvenRefIdeal.main_arg2))

def preserves_OutEven_OutEvenIdeal : Prop :=
  True

def algebraic_OutEvenIdeal_OutEvenRefIdeal [hOutEvenIdeal : Cert.OutEvenIdeal.Facts] [hOutEvenRefIdeal : Cert.OutEvenRefIdeal.Facts] : Prop :=
  ∀ (m : (ℓ : Loc Cert.OutEvenIdeal.nD Cert.OutEvenIdeal.τ Cert.OutEvenIdeal.sig) → Buf (Elt Ideal) ℓ) (g : Dev Cert.OutEvenIdeal.nD → PrngReg)
    (m' : (ℓ : Loc Cert.OutEvenRefIdeal.nD Cert.OutEvenRefIdeal.τ Cert.OutEvenRefIdeal.sig) → Buf (Elt Ideal) ℓ) (g' : Dev Cert.OutEvenRefIdeal.nD → PrngReg), Pre_OutEvenIdeal m →
    (∀ c : Dev Cert.OutEvenIdeal.nD,
      m' ((c.tc : Thread Cert.OutEvenRefIdeal.nD Cert.OutEvenRefIdeal.τ).loc Cert.OutEvenRefIdeal.main_arg0) = m ((c.tc : Thread Cert.OutEvenIdeal.nD Cert.OutEvenIdeal.τ).loc Cert.OutEvenIdeal.main_arg0)
      ∧ m' ((c.tc : Thread Cert.OutEvenRefIdeal.nD Cert.OutEvenRefIdeal.τ).loc Cert.OutEvenRefIdeal.main_arg1) = m ((c.tc : Thread Cert.OutEvenIdeal.nD Cert.OutEvenIdeal.τ).loc Cert.OutEvenIdeal.main_arg1)
      ∧ m' ((c.tc : Thread Cert.OutEvenRefIdeal.nD Cert.OutEvenRefIdeal.τ).loc Cert.OutEvenRefIdeal.main_arg2) = m ((c.tc : Thread Cert.OutEvenIdeal.nD Cert.OutEvenIdeal.τ).loc Cert.OutEvenIdeal.main_arg2)
      ∧ m' ((c.tc : Thread Cert.OutEvenRefIdeal.nD Cert.OutEvenRefIdeal.τ).loc Cert.OutEvenRefIdeal.main_arg3) = m ((c.tc : Thread Cert.OutEvenIdeal.nD Cert.OutEvenIdeal.τ).loc Cert.OutEvenIdeal.main_arg3)
      ∧ m' ((c.tc : Thread Cert.OutEvenRefIdeal.nD Cert.OutEvenRefIdeal.τ).loc Cert.OutEvenRefIdeal.main_arg4) = m ((c.tc : Thread Cert.OutEvenIdeal.nD Cert.OutEvenIdeal.τ).loc Cert.OutEvenIdeal.main_arg4)
      ∧ m' ((c.tc : Thread Cert.OutEvenRefIdeal.nD Cert.OutEvenRefIdeal.τ).loc Cert.OutEvenRefIdeal.main_arg5) = m ((c.tc : Thread Cert.OutEvenIdeal.nD Cert.OutEvenIdeal.τ).loc Cert.OutEvenIdeal.main_arg5)) →
    ∃ (v0 : (c : Dev Cert.OutEvenIdeal.nD) → Buf (Elt Ideal) ((c.tc : Thread Cert.OutEvenIdeal.nD Cert.OutEvenIdeal.τ).loc Cert.OutEvenIdeal.main_v41)),
      θ_run (Cert.OutEvenIdeal.defs (F := Ideal)) (onTc (τ := Cert.OutEvenIdeal.τ) (Cert.OutEvenIdeal.main (F := Ideal))) ⟨m, fun _ => 0, g⟩ (fun r => ∀ c : Dev Cert.OutEvenIdeal.nD,
          r.2.mem ((c.tc : Thread Cert.OutEvenIdeal.nD Cert.OutEvenIdeal.τ).loc Cert.OutEvenIdeal.main_v41) = v0 c
          ∧ r.2.mem ((c.tc : Thread Cert.OutEvenIdeal.nD Cert.OutEvenIdeal.τ).loc Cert.OutEvenIdeal.main_arg0) = m ((c.tc : Thread Cert.OutEvenIdeal.nD Cert.OutEvenIdeal.τ).loc Cert.OutEvenIdeal.main_arg0)
          ∧ r.2.mem ((c.tc : Thread Cert.OutEvenIdeal.nD Cert.OutEvenIdeal.τ).loc Cert.OutEvenIdeal.main_arg1) = m ((c.tc : Thread Cert.OutEvenIdeal.nD Cert.OutEvenIdeal.τ).loc Cert.OutEvenIdeal.main_arg1)
          ∧ r.2.mem ((c.tc : Thread Cert.OutEvenIdeal.nD Cert.OutEvenIdeal.τ).loc Cert.OutEvenIdeal.main_arg2) = m ((c.tc : Thread Cert.OutEvenIdeal.nD Cert.OutEvenIdeal.τ).loc Cert.OutEvenIdeal.main_arg2)
          ∧ r.2.mem ((c.tc : Thread Cert.OutEvenIdeal.nD Cert.OutEvenIdeal.τ).loc Cert.OutEvenIdeal.main_arg3) = m ((c.tc : Thread Cert.OutEvenIdeal.nD Cert.OutEvenIdeal.τ).loc Cert.OutEvenIdeal.main_arg3)
          ∧ r.2.mem ((c.tc : Thread Cert.OutEvenIdeal.nD Cert.OutEvenIdeal.τ).loc Cert.OutEvenIdeal.main_arg4) = m ((c.tc : Thread Cert.OutEvenIdeal.nD Cert.OutEvenIdeal.τ).loc Cert.OutEvenIdeal.main_arg4)
          ∧ r.2.mem ((c.tc : Thread Cert.OutEvenIdeal.nD Cert.OutEvenIdeal.τ).loc Cert.OutEvenIdeal.main_arg5) = m ((c.tc : Thread Cert.OutEvenIdeal.nD Cert.OutEvenIdeal.τ).loc Cert.OutEvenIdeal.main_arg5))
      ∧ θ_run (Cert.OutEvenRefIdeal.defs (F := Ideal)) (onTc (τ := Cert.OutEvenRefIdeal.τ) (Cert.OutEvenRefIdeal.main (F := Ideal))) ⟨m', fun _ => 0, g'⟩ (fun r => ∀ c : Dev Cert.OutEvenRefIdeal.nD,
          r.2.mem ((c.tc : Thread Cert.OutEvenRefIdeal.nD Cert.OutEvenRefIdeal.τ).loc Cert.OutEvenRefIdeal.main_v23) = v0 c
          ∧ r.2.mem ((c.tc : Thread Cert.OutEvenRefIdeal.nD Cert.OutEvenRefIdeal.τ).loc Cert.OutEvenRefIdeal.main_arg0) = m' ((c.tc : Thread Cert.OutEvenRefIdeal.nD Cert.OutEvenRefIdeal.τ).loc Cert.OutEvenRefIdeal.main_arg0)
          ∧ r.2.mem ((c.tc : Thread Cert.OutEvenRefIdeal.nD Cert.OutEvenRefIdeal.τ).loc Cert.OutEvenRefIdeal.main_arg1) = m' ((c.tc : Thread Cert.OutEvenRefIdeal.nD Cert.OutEvenRefIdeal.τ).loc Cert.OutEvenRefIdeal.main_arg1)
          ∧ r.2.mem ((c.tc : Thread Cert.OutEvenRefIdeal.nD Cert.OutEvenRefIdeal.τ).loc Cert.OutEvenRefIdeal.main_arg2) = m' ((c.tc : Thread Cert.OutEvenRefIdeal.nD Cert.OutEvenRefIdeal.τ).loc Cert.OutEvenRefIdeal.main_arg2)
          ∧ r.2.mem ((c.tc : Thread Cert.OutEvenRefIdeal.nD Cert.OutEvenRefIdeal.τ).loc Cert.OutEvenRefIdeal.main_arg3) = m' ((c.tc : Thread Cert.OutEvenRefIdeal.nD Cert.OutEvenRefIdeal.τ).loc Cert.OutEvenRefIdeal.main_arg3)
          ∧ r.2.mem ((c.tc : Thread Cert.OutEvenRefIdeal.nD Cert.OutEvenRefIdeal.τ).loc Cert.OutEvenRefIdeal.main_arg4) = m' ((c.tc : Thread Cert.OutEvenRefIdeal.nD Cert.OutEvenRefIdeal.τ).loc Cert.OutEvenRefIdeal.main_arg4)
          ∧ r.2.mem ((c.tc : Thread Cert.OutEvenRefIdeal.nD Cert.OutEvenRefIdeal.τ).loc Cert.OutEvenRefIdeal.main_arg5) = m' ((c.tc : Thread Cert.OutEvenRefIdeal.nD Cert.OutEvenRefIdeal.τ).loc Cert.OutEvenRefIdeal.main_arg5))

def preserves_Cross_CrossIdeal : Prop :=
  IdealRules.named_const.Statement Cert.CrossIdeal.κ "scale" .f32 0x3E38AA3B#32 (((1 / 8) * (Real.log 2)⁻¹ : ℝ) : EReal)

def algebraic_CrossIdeal_CrossRefIdeal_pre_finite_mem [hCrossIdeal : Cert.CrossIdeal.Facts] [hCrossRefIdeal : Cert.CrossRefIdeal.Facts] [hPre_finite_mem : Cert.Pre_finite_mem.Facts] : Prop :=
  ∀ (m : (ℓ : Loc Cert.CrossIdeal.nD Cert.CrossIdeal.τ Cert.CrossIdeal.sig) → Buf (Elt Ideal) ℓ) (g : Dev Cert.CrossIdeal.nD → PrngReg)
    (m' : (ℓ : Loc Cert.CrossRefIdeal.nD Cert.CrossRefIdeal.τ Cert.CrossRefIdeal.sig) → Buf (Elt Ideal) ℓ) (g' : Dev Cert.CrossRefIdeal.nD → PrngReg), Pre_CrossIdeal_finite_mem m →
    (∀ c : Dev Cert.CrossIdeal.nD,
      m' ((c.tc : Thread Cert.CrossRefIdeal.nD Cert.CrossRefIdeal.τ).loc Cert.CrossRefIdeal.main_arg0) = m ((c.tc : Thread Cert.CrossIdeal.nD Cert.CrossIdeal.τ).loc Cert.CrossIdeal.main_arg0)
      ∧ m' ((c.tc : Thread Cert.CrossRefIdeal.nD Cert.CrossRefIdeal.τ).loc Cert.CrossRefIdeal.main_arg1) = m ((c.tc : Thread Cert.CrossIdeal.nD Cert.CrossIdeal.τ).loc Cert.CrossIdeal.main_arg1)
      ∧ m' ((c.tc : Thread Cert.CrossRefIdeal.nD Cert.CrossRefIdeal.τ).loc Cert.CrossRefIdeal.main_arg2) = m ((c.tc : Thread Cert.CrossIdeal.nD Cert.CrossIdeal.τ).loc Cert.CrossIdeal.main_arg2)
      ∧ m' ((c.tc : Thread Cert.CrossRefIdeal.nD Cert.CrossRefIdeal.τ).loc Cert.CrossRefIdeal.main_arg3) = m ((c.tc : Thread Cert.CrossIdeal.nD Cert.CrossIdeal.τ).loc Cert.CrossIdeal.main_arg3)) →
    ∃ (v0 : (c : Dev Cert.CrossIdeal.nD) → Buf (Elt Ideal) ((c.tc : Thread Cert.CrossIdeal.nD Cert.CrossIdeal.τ).loc Cert.CrossIdeal.main_v9)),
      θ_run (Cert.CrossIdeal.defs (F := Ideal)) (onTc (τ := Cert.CrossIdeal.τ) (Cert.CrossIdeal.main (F := Ideal))) ⟨m, fun _ => 0, g⟩ (fun r => ∀ c : Dev Cert.CrossIdeal.nD,
          r.2.mem ((c.tc : Thread Cert.CrossIdeal.nD Cert.CrossIdeal.τ).loc Cert.CrossIdeal.main_v9) = v0 c
          ∧ r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
          ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
          ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
          ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3))
      ∧ θ_run (Cert.CrossRefIdeal.defs (F := Ideal)) (onTc (τ := Cert.CrossRefIdeal.τ) (Cert.CrossRefIdeal.main (F := Ideal))) ⟨m', fun _ => 0, g'⟩ (fun r => ∀ c : Dev Cert.CrossRefIdeal.nD,
          r.2.mem ((c.tc : Thread Cert.CrossRefIdeal.nD Cert.CrossRefIdeal.τ).loc Cert.CrossRefIdeal.main_v31) = v0 c
          ∧ r.2.mem ((c.tc : Thread Cert.CrossRefIdeal.nD Cert.CrossRefIdeal.τ).loc Cert.CrossRefIdeal.main_arg0) = m' ((c.tc : Thread Cert.CrossRefIdeal.nD Cert.CrossRefIdeal.τ).loc Cert.CrossRefIdeal.main_arg0)
          ∧ r.2.mem ((c.tc : Thread Cert.CrossRefIdeal.nD Cert.CrossRefIdeal.τ).loc Cert.CrossRefIdeal.main_arg1) = m' ((c.tc : Thread Cert.CrossRefIdeal.nD Cert.CrossRefIdeal.τ).loc Cert.CrossRefIdeal.main_arg1)
          ∧ r.2.mem ((c.tc : Thread Cert.CrossRefIdeal.nD Cert.CrossRefIdeal.τ).loc Cert.CrossRefIdeal.main_arg2) = m' ((c.tc : Thread Cert.CrossRefIdeal.nD Cert.CrossRefIdeal.τ).loc Cert.CrossRefIdeal.main_arg2)
          ∧ r.2.mem ((c.tc : Thread Cert.CrossRefIdeal.nD Cert.CrossRefIdeal.τ).loc Cert.CrossRefIdeal.main_arg3) = m' ((c.tc : Thread Cert.CrossRefIdeal.nD Cert.CrossRefIdeal.τ).loc Cert.CrossRefIdeal.main_arg3))

def Claim : Prop :=
  ∃ (hKernel : Cert.Kernel.Facts) (hKernelIdeal : Cert.KernelIdeal.Facts) (hReferenceIdeal : Cert.ReferenceIdeal.Facts) (hInOdd : Cert.InOdd.Facts) (hInOddIdeal : Cert.InOddIdeal.Facts) (hInOddRefIdeal : Cert.InOddRefIdeal.Facts) (hOutOdd : Cert.OutOdd.Facts) (hOutOddIdeal : Cert.OutOddIdeal.Facts) (hOutOddRefIdeal : Cert.OutOddRefIdeal.Facts) (hInEven : Cert.InEven.Facts) (hInEvenIdeal : Cert.InEvenIdeal.Facts) (hInEvenRefIdeal : Cert.InEvenRefIdeal.Facts) (hOutEven : Cert.OutEven.Facts) (hOutEvenIdeal : Cert.OutEvenIdeal.Facts) (hOutEvenRefIdeal : Cert.OutEvenRefIdeal.Facts) (hCross : Cert.Cross.Facts) (hCrossIdeal : Cert.CrossIdeal.Facts) (hCrossRefIdeal : Cert.CrossRefIdeal.Facts) (hPre_finite : Cert.Pre_finite.Facts) (hPre_finite_mem : Cert.Pre_finite_mem.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_InOdd (hInOdd := hInOdd)
    ∧ quiescent_InOddIdeal (hInOddIdeal := hInOddIdeal)
    ∧ quiescent_InOddRefIdeal (hInOddRefIdeal := hInOddRefIdeal)
    ∧ quiescent_OutOdd (hOutOdd := hOutOdd)
    ∧ quiescent_OutOddIdeal (hOutOddIdeal := hOutOddIdeal)
    ∧ quiescent_OutOddRefIdeal (hOutOddRefIdeal := hOutOddRefIdeal)
    ∧ quiescent_InEven (hInEven := hInEven)
    ∧ quiescent_InEvenIdeal (hInEvenIdeal := hInEvenIdeal)
    ∧ quiescent_InEvenRefIdeal (hInEvenRefIdeal := hInEvenRefIdeal)
    ∧ quiescent_OutEven (hOutEven := hOutEven)
    ∧ quiescent_OutEvenIdeal (hOutEvenIdeal := hOutEvenIdeal)
    ∧ quiescent_OutEvenRefIdeal (hOutEvenRefIdeal := hOutEvenRefIdeal)
    ∧ quiescent_Cross (hCross := hCross)
    ∧ quiescent_CrossIdeal (hCrossIdeal := hCrossIdeal)
    ∧ quiescent_CrossIdeal_pre_finite_mem (hCrossIdeal := hCrossIdeal) (hPre_finite_mem := hPre_finite_mem)
    ∧ quiescent_CrossRefIdeal (hCrossRefIdeal := hCrossRefIdeal)
    ∧ quiescent_CrossRefIdeal_pre_finite_mem (hCrossRefIdeal := hCrossRefIdeal) (hPre_finite_mem := hPre_finite_mem)
    ∧ preserves_Kernel_KernelIdeal
    ∧ algebraic_KernelIdeal_ReferenceIdeal_pre_finite (hKernelIdeal := hKernelIdeal) (hReferenceIdeal := hReferenceIdeal) (hPre_finite := hPre_finite)
    ∧ preserves_InOdd_InOddIdeal
    ∧ algebraic_InOddIdeal_InOddRefIdeal (hInOddIdeal := hInOddIdeal) (hInOddRefIdeal := hInOddRefIdeal)
    ∧ preserves_OutOdd_OutOddIdeal
    ∧ algebraic_OutOddIdeal_OutOddRefIdeal (hOutOddIdeal := hOutOddIdeal) (hOutOddRefIdeal := hOutOddRefIdeal)
    ∧ preserves_InEven_InEvenIdeal
    ∧ algebraic_InEvenIdeal_InEvenRefIdeal (hInEvenIdeal := hInEvenIdeal) (hInEvenRefIdeal := hInEvenRefIdeal)
    ∧ preserves_OutEven_OutEvenIdeal
    ∧ algebraic_OutEvenIdeal_OutEvenRefIdeal (hOutEvenIdeal := hOutEvenIdeal) (hOutEvenRefIdeal := hOutEvenRefIdeal)
    ∧ preserves_Cross_CrossIdeal
    ∧ algebraic_CrossIdeal_CrossRefIdeal_pre_finite_mem (hCrossIdeal := hCrossIdeal) (hCrossRefIdeal := hCrossRefIdeal) (hPre_finite_mem := hPre_finite_mem)
-- ==== Pre_finite.lean ====
abbrev S8x4096x8x96 : Shape := ⟨4, ![8, 4096, 8, 96]⟩
abbrev S8x4096x8x64 : Shape := ⟨4, ![8, 4096, 8, 64]⟩
abbrev S_ : Shape := ⟨0, ![]⟩

class Facts : Prop where
  bcast_S_S8x4096x8x96 : S_.BroadcastsInDim S8x4096x8x96 (![] : Fin 0 → Fin S8x4096x8x96.rank)
  reducesTo_S8x4096x8x96_S_d0_1_2_3 : S8x4096x8x96.ReducesTo [0, 1, 2, 3] S_
  h_S_ : 0 < S_.numel

variable [Facts]

def fn {F : FTy → Type} [FloatOps F] (main_arg0 : FVec F S8x4096x8x96 .f32) (main_arg1 : FVec F S8x4096x8x96 .f32) (main_arg2 : FVec F S8x4096x8x64 .f32) : IVec S_ 1 :=
  let main_v0 : FVec F S8x4096x8x96 .f32 := Host.absf main_arg0
  let main_cst : FVec F S_ .f32 := constant S_ .f32 0x7F800000#32
  let main_v1 : FVec F S8x4096x8x96 .f32 := broadcastInDim S8x4096x8x96 ![] bcast_S_S8x4096x8x96 main_cst
  let main_v2 : IVec S8x4096x8x96 1 := cmpf .olt main_v0 main_v1
  let main_c : IVec S_ 1 := constantI S_ 1 1#1
  let main_v3 : IVec S_ 1 := (fun x v => Host.reduce IntOp.andi x v reducesTo_S8x4096x8x96_S_d0_1_2_3 h_S_) main_v2 main_c
  let main_v4 : FVec F S8x4096x8x96 .f32 := Host.absf main_arg1
  let main_cst_0 : FVec F S_ .f32 := constant S_ .f32 0x7F800000#32
  let main_v5 : FVec F S8x4096x8x96 .f32 := broadcastInDim S8x4096x8x96 ![] bcast_S_S8x4096x8x96 main_cst_0
  let main_v6 : IVec S8x4096x8x96 1 := cmpf .olt main_v4 main_v5
  let main_c_1 : IVec S_ 1 := constantI S_ 1 1#1
  let main_v7 : IVec S_ 1 := (fun x v => Host.reduce IntOp.andi x v reducesTo_S8x4096x8x96_S_d0_1_2_3 h_S_) main_v6 main_c_1
  let main_v8 : IVec S_ 1 := andi main_v3 main_v7
  main_v8
-- ==== Pre_finite_mem.lean ====
abbrev S8x4096x256 : Shape := ⟨3, ![8, 4096, 256]⟩
abbrev S8x256x4x64 : Shape := ⟨4, ![8, 256, 4, 64]⟩
abbrev S64 : Shape := ⟨1, ![64]⟩
abbrev S_ : Shape := ⟨0, ![]⟩

class Facts : Prop where
  bcast_S_S8x4096x256 : S_.BroadcastsInDim S8x4096x256 (![] : Fin 0 → Fin S8x4096x256.rank)
  reducesTo_S8x4096x256_S_d0_1_2 : S8x4096x256.ReducesTo [0, 1, 2] S_
  h_S_ : 0 < S_.numel
  bcast_S_S8x256x4x64 : S_.BroadcastsInDim S8x256x4x64 (![] : Fin 0 → Fin S8x256x4x64.rank)
  reducesTo_S8x256x4x64_S_d0_1_2_3 : S8x256x4x64.ReducesTo [0, 1, 2, 3] S_
  bcast_S_S64 : S_.BroadcastsInDim S64 (![] : Fin 0 → Fin S64.rank)
  reducesTo_S64_S_d0 : S64.ReducesTo [0] S_

variable [Facts]

def fn {F : FTy → Type} [FloatOps F] (main_arg0 : FVec F S8x4096x256 .f32) (main_arg1 : FVec F S8x256x4x64 .f32) (main_arg2 : FVec F S8x256x4x64 .f32) (main_arg3 : FVec F S64 .f32) : IVec S_ 1 :=
  let main_v0 : FVec F S8x4096x256 .f32 := Host.absf main_arg0
  let main_cst : FVec F S_ .f32 := constant S_ .f32 0x7F800000#32
  let main_v1 : FVec F S8x4096x256 .f32 := broadcastInDim S8x4096x256 ![] bcast_S_S8x4096x256 main_cst
  let main_v2 : IVec S8x4096x256 1 := cmpf .olt main_v0 main_v1
  let main_c : IVec S_ 1 := constantI S_ 1 1#1
  let main_v3 : IVec S_ 1 := (fun x v => Host.reduce IntOp.andi x v reducesTo_S8x4096x256_S_d0_1_2 h_S_) main_v2 main_c
  let main_v4 : FVec F S8x256x4x64 .f32 := Host.absf main_arg1
  let main_cst_0 : FVec F S_ .f32 := constant S_ .f32 0x7F800000#32
  let main_v5 : FVec F S8x256x4x64 .f32 := broadcastInDim S8x256x4x64 ![] bcast_S_S8x256x4x64 main_cst_0
  let main_v6 : IVec S8x256x4x64 1 := cmpf .olt main_v4 main_v5
  let main_c_1 : IVec S_ 1 := constantI S_ 1 1#1
  let main_v7 : IVec S_ 1 := (fun x v => Host.reduce IntOp.andi x v reducesTo_S8x256x4x64_S_d0_1_2_3 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S8x4096x8x96 : Shape := ⟨4, ![8, 4096, 8, 96]⟩
abbrev S8x4096x8x64 : Shape := ⟨4, ![8, 4096, 8, 64]⟩
abbrev S_ : Shape := ⟨0, ![]⟩
abbrev S8x8x4096x96 : Shape := ⟨4, ![8, 8, 4096, 96]⟩
abbrev S8x8x4096x128 : Shape := ⟨4, ![8, 8, 4096, 128]⟩
abbrev S8x4096x512 : Shape := ⟨3, ![8, 4096, 512]⟩
abbrev S1x4x1024x128 : Shape := ⟨4, ![1, 4, 1024, 128]⟩
abbrev S1x4x4096x128 : Shape := ⟨4, ![1, 4, 4096, 128]⟩
abbrev S1x4096x256 : Shape := ⟨3, ![1, 4096, 256]⟩
abbrev S1x1024x256 : Shape := ⟨3, ![1, 1024, 256]⟩
abbrev S1024x128 : Shape := ⟨2, ![1024, 128]⟩
abbrev S1x1024 : Shape := ⟨2, ![1, 1024]⟩
abbrev S1x1x1024x128 : Shape := ⟨4, ![1, 1, 1024, 128]⟩
abbrev S1x4096 : Shape := ⟨2, ![1, 4096]⟩
abbrev S128x4096 : Shape := ⟨2, ![128, 4096]⟩
abbrev S1x1x512x128 : Shape := ⟨4, ![1, 1, 512, 128]⟩
abbrev S512x128 : Shape := ⟨2, ![512, 128]⟩
abbrev S512x1024 : Shape := ⟨2, ![512, 1024]⟩
abbrev S512x4096 : Shape := ⟨2, ![512, 4096]⟩
abbrev S4096 : Shape := ⟨1, ![4096]⟩
abbrev S1x512x128 : Shape := ⟨3, ![1, 512, 128]⟩
abbrev S512x2048 : Shape := ⟨2, ![512, 2048]⟩
abbrev S128x2048 : Shape := ⟨2, ![128, 2048]⟩
abbrev S512x1 : Shape := ⟨2, ![512, 1]⟩
abbrev S128x1024 : Shape := ⟨2, ![128, 1024]⟩
abbrev S1x512 : Shape := ⟨2, ![1, 512]⟩
abbrev S512x512 : Shape := ⟨2, ![512, 512]⟩
abbrev S1x2048 : Shape := ⟨2, ![1, 2048]⟩
abbrev S128x512 : Shape := ⟨2, ![128, 512]⟩
abbrev S2048 : Shape := ⟨1, ![2048]⟩
abbrev S1x1024x128 : Shape := ⟨3, ![1, 1024, 128]⟩

abbrev nBuf : Space → Nat
  | .hbm => 25
  | .vmem => 8
  | .smem => 0
  | _ => 0

abbrev bufTy : (tb : Table) → Fin (tcTables nBuf tb) → BufTy
  | .hbm, ⟨0, _⟩ => ⟨S8x4096x8x96, .f32⟩
  | .hbm, ⟨1, _⟩ => ⟨S8x4096x8x96, .f32⟩
  | .hbm, ⟨2, _⟩ => ⟨S8x4096x8x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S8x4096x8x96, .f32⟩
  | .hbm, ⟨11, _⟩ => ⟨S8x4096x8x96, .f32⟩
  | .hbm, ⟨12, _⟩ => ⟨S8x8x4096x96, .f32⟩
  | .hbm, ⟨13, _⟩ => ⟨S_, .i32⟩
  | .hbm, ⟨14, _⟩ => ⟨S_, .f32⟩
  | .hbm, ⟨15, _⟩ => ⟨S8x8x4096x128, .f32⟩
  | .hbm, ⟨16, _⟩ => ⟨S8x8x4096x128, .bf16⟩
  | .hbm, ⟨17, _⟩ => ⟨S8x8x4096x96, .f32⟩
  | .hbm, ⟨18, _⟩ => ⟨S_, .i32⟩
  | .hbm, ⟨19, _⟩ => ⟨S_, .f32⟩
  | .hbm, ⟨20, _⟩ => ⟨S8x8x4096x128, .f32⟩
  | .hbm, ⟨21, _⟩ => ⟨S8x8x4096x128, .bf16⟩
  | .hbm, ⟨22, _⟩ => ⟨S8x4096x512, .f32⟩
  | .hbm, ⟨23, _⟩ => ⟨S8x4096x512, .bf16⟩
  | .hbm, ⟨24, _⟩ => ⟨S8x4096x512, .bf16⟩
  | .local _ .vmem, ⟨0, _⟩ => ⟨S1x4x1024x128, .bf16⟩
  | .local _ .vmem, ⟨1, _⟩ => ⟨S1x4x1024x128, .bf16⟩
  | .local _ .vmem, ⟨2, _⟩ => ⟨S1x4x4096x128, .bf16⟩
  | .local _ .vmem, ⟨3, _⟩ => ⟨S1x4x4096x128, .bf16⟩
  | .local _ .vmem, ⟨4, _⟩ => ⟨S1x4096x256, .bf16⟩
  | .local _ .vmem, ⟨5, _⟩ => ⟨S1x4096x256, .bf16⟩
  | .local _ .vmem, ⟨6, _⟩ => ⟨S1x1024x256, .bf16⟩
  | .local _ .vmem, ⟨7, _⟩ => ⟨S1x1024x256, .bf16⟩
  | _, _ => ⟨S8x4096x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_call0_v0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_call1_v0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 4], ![false, false, false]⟩

@[reducible] def k0_t1_loop (i : grid0.Coords) : Scf.Loop 32 :=
  let c0_i32 : BitVec 32 := 0#32
  let arg2 : BitVec 32 := BitVec.ofNat 32 (i 2).val
  let c2_i32 : BitVec 32 := 2#32
  let v13 : BitVec 32 := Scalar.muli arg2 c2_i32
  let v17 : BitVec 32 := Scalar.subi v13 c0_i32
  let c1_i32 : BitVec 32 := 1#32
  let v19 : BitVec 32 := Scalar.divsi v17 c1_i32
  let v20 : BitVec 32 := Scalar.muli v19 c1_i32
  let v21 : BitVec 32 := Scalar.addi c0_i32 v20
  let c1_i32_14 : BitVec 32 := 1#32
  ⟨c0_i32, v21, c1_i32_14⟩
def k0_mult1 (i : grid0.Coords) (k0_t1 : Fin (k0_t1_loop i).trips) : BitVec 32 :=
  let c0_i32 : BitVec 32 := 0#32
  let c1_i32_14 : BitVec 32 := 1#32
  let arg7 : BitVec 32 := Scf.iv c0_i32 c1_i32_14 k0_t1
  let c512_i32_91 : BitVec 32 := 512#32
  let v253 : BitVec 32 := Scalar.muli arg7 c512_i32_91
  v253
def k0_off1 (i : grid0.Coords) (k0_t1 : Fin (k0_t1_loop i).trips) : Fin 4 → Nat :=
  let c0_92 : Index := 0#32
  let c0_93 : Index := 0#32
  let c0_i32 : BitVec 32 := 0#32
  let c1_i32_14 : BitVec 32 := 1#32
  let arg7 : BitVec 32 := Scf.iv c0_i32 c1_i32_14 k0_t1
  let c512_i32_91 : BitVec 32 := 512#32
  let v253 : BitVec 32 := Scalar.muli arg7 c512_i32_91
  let v254 : BitVec 32 := v253
  let v255 : Index := Scalar.indexCast v254
  let c0_94 : Index := 0#32
  ![0, 0, v255.toNat, 0]
def k0_mult2 (i : grid0.Coords) (k0_t1 : Fin (k0_t1_loop i).trips) : BitVec 32 :=
  let c0_i32 : BitVec 32 := 0#32
  let c1_i32_14 : BitVec 32 := 1#32
  let arg7 : BitVec 32 := Scf.iv c0_i32 c1_i32_14 k0_t1
  let c512_i32_96 : BitVec 32 := 512#32
  let v259 : BitVec 32 := Scalar.muli arg7 c512_i32_96
  v259
def k0_off2 (i : grid0.Coords) (k0_t1 : Fin (k0_t1_loop i).trips) : Fin 4 → Nat :=
  let c0_97 : Index := 0#32
  let c1_98 : Index := 1#32
  let c0_i32 : BitVec 32 := 0#32
  let c1_i32_14 : BitVec 32 := 1#32
  let arg7 : BitVec 32 := Scf.iv c0_i32 c1_i32_14 k0_t1
  let c512_i32_96 : BitVec 32 := 512#32
  let v259 : BitVec 32 := Scalar.muli arg7 c512_i32_96
  let v260 : BitVec 32 := v259
  let v261 : Index := Scalar.indexCast v260
  let c0_99 : Index := 0#32
  ![0, 1, v261.toNat, 0]
def k0_mult3 (i : grid0.Coords) (k0_t1 : Fin (k0_t1_loop i).trips) : BitVec 32 :=
  let c0_i32 : BitVec 32 := 0#32
  let c1_i32_14 : BitVec 32 := 1#32
  let arg7 : BitVec 32 := Scf.iv c0_i32 c1_i32_14 k0_t1
  let c512_i32_101 : BitVec 32 := 512#32
  let v265 : BitVec 32 := Scalar.muli arg7 c512_i32_101
  v265
def k0_off3 (i : grid0.Coords) (k0_t1 : Fin (k0_t1_loop i).trips) : Fin 4 → Nat :=
  let c0_102 : Index := 0#32
  let c2_103 : Index := 2#32
  let c0_i32 : BitVec 32 := 0#32
  let c1_i32_14 : BitVec 32 := 1#32
  let arg7 : BitVec 32 := Scf.iv c0_i32 c1_i32_14 k0_t1
  let c512_i32_101 : BitVec 32 := 512#32
  let v265 : BitVec 32 := Scalar.muli arg7 c512_i32_101
  let v266 : BitVec 32 := v265
  let v267 : Index := Scalar.indexCast v266
  let c0_104 : Index := 0#32
  ![0, 2, v267.toNat, 0]
def k0_mult4 (i : grid0.Coords) (k0_t1 : Fin (k0_t1_loop i).trips) : BitVec 32 :=
  let c0_i32 : BitVec 32 := 0#32
  let c1_i32_14 : BitVec 32 := 1#32
  let arg7 : BitVec 32 := Scf.iv c0_i32 c1_i32_14 k0_t1
  let c512_i32_106 : BitVec 32 := 512#32
  let v271 : BitVec 32 := Scalar.muli arg7 c512_i32_106
  v271
def k0_off4 (i : grid0.Coords) (k0_t1 : Fin (k0_t1_loop i).trips) : Fin 4 → Nat :=
  let c0_107 : Index := 0#32
  let c3_108 : Index := 3#32
  let c0_i32 : BitVec 32 := 0#32
  let c1_i32_14 : BitVec 32 := 1#32
  let arg7 : BitVec 32 := Scf.iv c0_i32 c1_i32_14 k0_t1
  let c512_i32_106 : BitVec 32 := 512#32
  let v271 : BitVec 32 := Scalar.muli arg7 c512_i32_106
  let v272 : BitVec 32 := v271
  let v273 : Index := Scalar.indexCast v272
  let c0_109 : Index := 0#32
  ![0, 3, v273.toNat, 0]
def k0_mult5 (i : grid0.Coords) (k0_t1 : Fin (k0_t1_loop i).trips) : BitVec 32 :=
  let c0_i32 : BitVec 32 := 0#32
  let c1_i32_14 : BitVec 32 := 1#32
  let arg7 : BitVec 32 := Scf.iv c0_i32 c1_i32_14 k0_t1
  let c512_i32_113 : BitVec 32 := 512#32
  let v290 : BitVec 32 := Scalar.muli arg7 c512_i32_113
  v290
def k0_off5 (i : grid0.Coords) (k0_t1 : Fin (k0_t1_loop i).trips) : Fin 3 → Nat :=
  let c0_114 : Index := 0#32
  let c0_i32 : BitVec 32 := 0#32
  let c1_i32_14 : BitVec 32 := 1#32
  let arg7 : BitVec 32 := Scf.iv c0_i32 c1_i32_14 k0_t1
  let c512_i32_113 : BitVec 32 := 512#32
  let v290 : BitVec 32 := Scalar.muli arg7 c512_i32_113
  let v291 : BitVec 32 := v290
  let v292 : Index := Scalar.indexCast v291
  let c0_115 : Index := 0#32
  ![0, v292.toNat, 0]
def k0_mult6 (i : grid0.Coords) (k0_t1 : Fin (k0_t1_loop i).trips) : BitVec 32 :=
  let c0_i32 : BitVec 32 := 0#32
  let c1_i32_14 : BitVec 32 := 1#32
  let arg7 : BitVec 32 := Scf.iv c0_i32 c1_i32_14 k0_t1
  let c512_i32_117 : BitVec 32 := 512#32
  let v298 : BitVec 32 := Scalar.muli arg7 c512_i32_117
  v298
def k0_off6 (i : grid0.Coords) (k0_t1 : Fin (k0_t1_loop i).trips) : Fin 3 → Nat :=
  let c0_118 : Index := 0#32
  let c0_i32 : BitVec 32 := 0#32
  let c1_i32_14 : BitVec 32 := 1#32
  let arg7 : BitVec 32 := Scf.iv c0_i32 c1_i32_14 k0_t1
  let c512_i32_117 : BitVec 32 := 512#32
  let v298 : BitVec 32 := Scalar.muli arg7 c512_i32_117
  let v299 : BitVec 32 := v298
  let v300 : Index := Scalar.indexCast v299
  let c128_119 : Index := 128#32
  ![0, v300.toNat, 128]
@[reducible] def k0_t2_loop (i : grid0.Coords) : Scf.Loop 32 :=
  let c0_i32 : BitVec 32 := 0#32
  let arg2 : BitVec 32 := BitVec.ofNat 32 (i 2).val
  let c2_i32 : BitVec 32 := 2#32
  let v13 : BitVec 32 := Scalar.muli arg2 c2_i32
  let v17 : BitVec 32 := Scalar.subi v13 c0_i32
  let c1_i32 : BitVec 32 := 1#32
  let v19 : BitVec 32 := Scalar.divsi v17 c1_i32
  let v20 : BitVec 32 := Scalar.muli v19 c1_i32
  let v21 : BitVec 32 := Scalar.addi c0_i32 v20
  let v18 : BitVec 32 := Scalar.addi c0_i32 v17
  let c1_i32_15 : BitVec 32 := 1#32
  ⟨v21, v18, c1_i32_15⟩
def k0_mult7 (i : grid0.Coords) (k0_t2 : Fin (k0_t2_loop i).trips) : BitVec 32 :=
  let c0_i32 : BitVec 32 := 0#32
  let arg2 : BitVec 32 := BitVec.ofNat 32 (i 2).val
  let c2_i32 : BitVec 32 := 2#32
  let v13 : BitVec 32 := Scalar.muli arg2 c2_i32
  let v17 : BitVec 32 := Scalar.subi v13 c0_i32
  let c1_i32 : BitVec 32 := 1#32
  let v19 : BitVec 32 := Scalar.divsi v17 c1_i32
  let v20 : BitVec 32 := Scalar.muli v19 c1_i32
  let v21 : BitVec 32 := Scalar.addi c0_i32 v20
  let c1_i32_15 : BitVec 32 := 1#32
  let arg7 : BitVec 32 := Scf.iv v21 c1_i32_15 k0_t2
  let c512_i32_91 : BitVec 32 := 512#32
  let v253 : BitVec 32 := Scalar.muli arg7 c512_i32_91
  v253
def k0_off7 (i : grid0.Coords) (k0_t2 : Fin (k0_t2_loop i).trips) : Fin 4 → Nat :=
  let c0_92 : Index := 0#32
  let c0_93 : Index := 0#32
  let c0_i32 : BitVec 32 := 0#32
  let arg2 : BitVec 32 := BitVec.ofNat 32 (i 2).val
  let c2_i32 : BitVec 32 := 2#32
  let v13 : BitVec 32 := Scalar.muli arg2 c2_i32
  let v17 : BitVec 32 := Scalar.subi v13 c0_i32
  let c1_i32 : BitVec 32 := 1#32
  let v19 : BitVec 32 := Scalar.divsi v17 c1_i32
  let v20 : BitVec 32 := Scalar.muli v19 c1_i32
  let v21 : BitVec 32 := Scalar.addi c0_i32 v20
  let c1_i32_15 : BitVec 32 := 1#32
  let arg7 : BitVec 32 := Scf.iv v21 c1_i32_15 k0_t2
  let c512_i32_91 : BitVec 32 := 512#32
  let v253 : BitVec 32 := Scalar.muli arg7 c512_i32_91
  let v254 : BitVec 32 := v253
  let v255 : Index := Scalar.indexCast v254
  let c0_94 : Index := 0#32
  ![0, 0, v255.toNat, 0]
def k0_mult8 (i : grid0.Coords) (k0_t2 : Fin (k0_t2_loop i).trips) : BitVec 32 :=
  let c0_i32 : BitVec 32 := 0#32
  let arg2 : BitVec 32 := BitVec.ofNat 32 (i 2).val
  let c2_i32 : BitVec 32 := 2#32
  let v13 : BitVec 32 := Scalar.muli arg2 c2_i32
  let v17 : BitVec 32 := Scalar.subi v13 c0_i32
  let c1_i32 : BitVec 32 := 1#32
  let v19 : BitVec 32 := Scalar.divsi v17 c1_i32
  let v20 : BitVec 32 := Scalar.muli v19 c1_i32
  let v21 : BitVec 32 := Scalar.addi c0_i32 v20
  let c1_i32_15 : BitVec 32 := 1#32
  let arg7 : BitVec 32 := Scf.iv v21 c1_i32_15 k0_t2
  let c512_i32_96 : BitVec 32 := 512#32
  let v259 : BitVec 32 := Scalar.muli arg7 c512_i32_96
  v259
def k0_off8 (i : grid0.Coords) (k0_t2 : Fin (k0_t2_loop i).trips) : Fin 4 → Nat :=
  let c0_97 : Index := 0#32
  let c1_98 : Index := 1#32
  let c0_i32 : BitVec 32 := 0#32
  let arg2 : BitVec 32 := BitVec.ofNat 32 (i 2).val
  let c2_i32 : BitVec 32 := 2#32
  let v13 : BitVec 32 := Scalar.muli arg2 c2_i32
  let v17 : BitVec 32 := Scalar.subi v13 c0_i32
  let c1_i32 : BitVec 32 := 1#32
  let v19 : BitVec 32 := Scalar.divsi v17 c1_i32
  let v20 : BitVec 32 := Scalar.muli v19 c1_i32
  let v21 : BitVec 32 := Scalar.addi c0_i32 v20
  let c1_i32_15 : BitVec 32 := 1#32
  let arg7 : BitVec 32 := Scf.iv v21 c1_i32_15 k0_t2
  let c512_i32_96 : BitVec 32 := 512#32
  let v259 : BitVec 32 := Scalar.muli arg7 c512_i32_96
  let v260 : BitVec 32 := v259
  let v261 : Index := Scalar.indexCast v260
  let c0_99 : Index := 0#32
  ![0, 1, v261.toNat, 0]
def k0_mult9 (i : grid0.Coords) (k0_t2 : Fin (k0_t2_loop i).trips) : BitVec 32 :=
  let c0_i32 : BitVec 32 := 0#32
  let arg2 : BitVec 32 := BitVec.ofNat 32 (i 2).val
  let c2_i32 : BitVec 32 := 2#32
  let v13 : BitVec 32 := Scalar.muli arg2 c2_i32
  let v17 : BitVec 32 := Scalar.subi v13 c0_i32
  let c1_i32 : BitVec 32 := 1#32
  let v19 : BitVec 32 := Scalar.divsi v17 c1_i32
  let v20 : BitVec 32 := Scalar.muli v19 c1_i32
  let v21 : BitVec 32 := Scalar.addi c0_i32 v20
  let c1_i32_15 : BitVec 32 := 1#32
  let arg7 : BitVec 32 := Scf.iv v21 c1_i32_15 k0_t2
  let c512_i32_101 : BitVec 32 := 512#32
  let v265 : BitVec 32 := Scalar.muli arg7 c512_i32_101
  v265
def k0_off9 (i : grid0.Coords) (k0_t2 : Fin (k0_t2_loop i).trips) : Fin 4 → Nat :=
  let c0_102 : Index := 0#32
  let c2_103 : Index := 2#32
  let c0_i32 : BitVec 32 := 0#32
  let arg2 : BitVec 32 := BitVec.ofNat 32 (i 2).val
  let c2_i32 : BitVec 32 := 2#32
  let v13 : BitVec 32 := Scalar.muli arg2 c2_i32
  let v17 : BitVec 32 := Scalar.subi v13 c0_i32
  let c1_i32 : BitVec 32 := 1#32
  let v19 : BitVec 32 := Scalar.divsi v17 c1_i32
  let v20 : BitVec 32 := Scalar.muli v19 c1_i32
  let v21 : BitVec 32 := Scalar.addi c0_i32 v20
  let c1_i32_15 : BitVec 32 := 1#32
  let arg7 : BitVec 32 := Scf.iv v21 c1_i32_15 k0_t2
  let c512_i32_101 : BitVec 32 := 512#32
  let v265 : BitVec 32 := Scalar.muli arg7 c512_i32_101
  let v266 : BitVec 32 := v265
  let v267 : Index := Scalar.indexCast v266
  let c0_104 : Index := 0#32
  ![0, 2, v267.toNat, 0]
def k0_mult10 (i : grid0.Coords) (k0_t2 : Fin (k0_t2_loop i).trips) : BitVec 32 :=
  let c0_i32 : BitVec 32 := 0#32
  let arg2 : BitVec 32 := BitVec.ofNat 32 (i 2).val
  let c2_i32 : BitVec 32 := 2#32
  let v13 : BitVec 32 := Scalar.muli arg2 c2_i32
  let v17 : BitVec 32 := Scalar.subi v13 c0_i32
  let c1_i32 : BitVec 32 := 1#32
  let v19 : BitVec 32 := Scalar.divsi v17 c1_i32
  let v20 : BitVec 32 := Scalar.muli v19 c1_i32
  let v21 : BitVec 32 := Scalar.addi c0_i32 v20
  let c1_i32_15 : BitVec 32 := 1#32
  let arg7 : BitVec 32 := Scf.iv v21 c1_i32_15 k0_t2
  let c512_i32_106 : BitVec 32 := 512#32
  let v271 : BitVec 32 := Scalar.muli arg7 c512_i32_106
  v271
def k0_off10 (i : grid0.Coords) (k0_t2 : Fin (k0_t2_loop i).trips) : Fin 4 → Nat :=
  let c0_107 : Index := 0#32
  let c3_108 : Index := 3#32
  let c0_i32 : BitVec 32 := 0#32
  let arg2 : BitVec 32 := BitVec.ofNat 32 (i 2).val
  let c2_i32 : BitVec 32 := 2#32
  let v13 : BitVec 32 := Scalar.muli arg2 c2_i32
  let v17 : BitVec 32 := Scalar.subi v13 c0_i32
  let c1_i32 : BitVec 32 := 1#32
  let v19 : BitVec 32 := Scalar.divsi v17 c1_i32
  let v20 : BitVec 32 := Scalar.muli v19 c1_i32
  let v21 : BitVec 32 := Scalar.addi c0_i32 v20
  let c1_i32_15 : BitVec 32 := 1#32
  let arg7 : BitVec 32 := Scf.iv v21 c1_i32_15 k0_t2
  let c512_i32_106 : BitVec 32 := 512#32
  let v271 : BitVec 32 := Scalar.muli arg7 c512_i32_106
  let v272 : BitVec 32 := v271
  let v273 : Index := Scalar.indexCast v272
  let c0_109 : Index := 0#32
  ![0, 3, v273.toNat, 0]
def k0_mult11 (i : grid0.Coords) (k0_t2 : Fin (k0_t2_loop i).trips) : BitVec 32 :=
  let c0_i32 : BitVec 32 := 0#32
  let arg2 : BitVec 32 := BitVec.ofNat 32 (i 2).val
  let c2_i32 : BitVec 32 := 2#32
  let v13 : BitVec 32 := Scalar.muli arg2 c2_i32
  let v17 : BitVec 32 := Scalar.subi v13 c0_i32
  let c1_i32 : BitVec 32 := 1#32
  let v19 : BitVec 32 := Scalar.divsi v17 c1_i32
  let v20 : BitVec 32 := Scalar.muli v19 c1_i32
  let v21 : BitVec 32 := Scalar.addi c0_i32 v20
  let c1_i32_15 : BitVec 32 := 1#32
  let arg7 : BitVec 32 := Scf.iv v21 c1_i32_15 k0_t2
  let c512_i32_113 : BitVec 32 := 512#32
  let v290 : BitVec 32 := Scalar.muli arg7 c512_i32_113
  v290
def k0_off11 (i : grid0.Coords) (k0_t2 : Fin (k0_t2_loop i).trips) : Fin 3 → Nat :=
  let c0_114 : Index := 0#32
  let c0_i32 : BitVec 32 := 0#32
  let arg2 : BitVec 32 := BitVec.ofNat 32 (i 2).val
  let c2_i32 : BitVec 32 := 2#32
  let v13 : BitVec 32 := Scalar.muli arg2 c2_i32
  let v17 : BitVec 32 := Scalar.subi v13 c0_i32
  let c1_i32 : BitVec 32 := 1#32
  let v19 : BitVec 32 := Scalar.divsi v17 c1_i32
  let v20 : BitVec 32 := Scalar.muli v19 c1_i32
  let v21 : BitVec 32 := Scalar.addi c0_i32 v20
  let c1_i32_15 : BitVec 32 := 1#32
  let arg7 : BitVec 32 := Scf.iv v21 c1_i32_15 k0_t2
  let c512_i32_113 : BitVec 32 := 512#32
  let v290 : BitVec 32 := Scalar.muli arg7 c512_i32_113
  let v291 : BitVec 32 := v290
  let v292 : Index := Scalar.indexCast v291
  let c0_115 : Index := 0#32
  ![0, v292.toNat, 0]
def k0_mult12 (i : grid0.Coords) (k0_t2 : Fin (k0_t2_loop i).trips) : BitVec 32 :=
  let c0_i32 : BitVec 32 := 0#32
  let arg2 : BitVec 32 := BitVec.ofNat 32 (i 2).val
  let c2_i32 : BitVec 32 := 2#32
  let v13 : BitVec 32 := Scalar.muli arg2 c2_i32
  let v17 : BitVec 32 := Scalar.subi v13 c0_i32
  let c1_i32 : BitVec 32 := 1#32
  let v19 : BitVec 32 := Scalar.divsi v17 c1_i32
  let v20 : BitVec 32 := Scalar.muli v19 c1_i32
  let v21 : BitVec 32 := Scalar.addi c0_i32 v20
  let c1_i32_15 : BitVec 32 := 1#32
  let arg7 : BitVec 32 := Scf.iv v21 c1_i32_15 k0_t2
  let c512_i32_117 : BitVec 32 := 512#32
  let v298 : BitVec 32 := Scalar.muli arg7 c512_i32_117
  v298
def k0_off12 (i : grid0.Coords) (k0_t2 : Fin (k0_t2_loop i).trips) : Fin 3 → Nat :=
  let c0_118 : Index := 0#32
  let c0_i32 : BitVec 32 := 0#32
  let arg2 : BitVec 32 := BitVec.ofNat 32 (i 2).val
  let c2_i32 : BitVec 32 := 2#32
  let v13 : BitVec 32 := Scalar.muli arg2 c2_i32
  let v17 : BitVec 32 := Scalar.subi v13 c0_i32
  let c1_i32 : BitVec 32 := 1#32
  let v19 : BitVec 32 := Scalar.divsi v17 c1_i32
  let v20 : BitVec 32 := Scalar.muli v19 c1_i32
  let v21 : BitVec 32 := Scalar.addi c0_i32 v20
  let c1_i32_15 : BitVec 32 := 1#32
  let arg7 : BitVec 32 := Scf.iv v21 c1_i32_15 k0_t2
  let c512_i32_117 : BitVec 32 := 512#32
  let v298 : BitVec 32 := Scalar.muli arg7 c512_i32_117
  let v299 : BitVec 32 := v298
  let v300 : Index := Scalar.indexCast v299
  let c128_119 : Index := 128#32
  ![0, v300.toNat, 128]
def k0_mult13 (i : grid0.Coords) : BitVec 32 :=
  let arg2 : BitVec 32 := BitVec.ofNat 32 (i 2).val
  let c2_i32_16 : BitVec 32 := 2#32
  let v24 : BitVec 32 := Scalar.muli arg2 c2_i32_16
  let c0_i32_17 : BitVec 32 := 0#32
  let v25 : BitVec 32 := Scalar.addi v24 c0_i32_17
  let c512_i32_20 : BitVec 32 := 512#32
  let v51 : BitVec 32 := Scalar.muli v25 c512_i32_20
  v51
def k0_off13 (i : grid0.Coords) (c0_i32_17 : BitVec 32) : Fin 4 → Nat :=
  let c0_21 : Index := 0#32
  let c0_22 : Index := 0#32
  let arg2 : BitVec 32 := BitVec.ofNat 32 (i 2).val
  let c2_i32_16 : BitVec 32 := 2#32
  let v24 : BitVec 32 := Scalar.muli arg2 c2_i32_16
  let v25 : BitVec 32 := Scalar.addi v24 c0_i32_17
  let c512_i32_20 : BitVec 32 := 512#32
  let v51 : BitVec 32 := Scalar.muli v25 c512_i32_20
  let v52 : BitVec 32 := v51
  let v53 : Index := Scalar.indexCast v52
  let c0_23 : Index := 0#32
  ![0, 0, v53.toNat, 0]
def k0_mult14 (i : grid0.Coords) : BitVec 32 :=
  let arg2 : BitVec 32 := BitVec.ofNat 32 (i 2).val
  let c2_i32_16 : BitVec 32 := 2#32
  let v24 : BitVec 32 := Scalar.muli arg2 c2_i32_16
  let c0_i32_17 : BitVec 32 := 0#32
  let v25 : BitVec 32 := Scalar.addi v24 c0_i32_17
  let c512_i32_25 : BitVec 32 := 512#32
  let v57 : BitVec 32 := Scalar.muli v25 c512_i32_25
  v57
def k0_off14 (i : grid0.Coords) (c0_i32_17 : BitVec 32) : Fin 4 → Nat :=
  let c0_26 : Index := 0#32
  let c1_27 : Index := 1#32
  let arg2 : BitVec 32 := BitVec.ofNat 32 (i 2).val
  let c2_i32_16 : BitVec 32 := 2#32
  let v24 : BitVec 32 := Scalar.muli arg2 c2_i32_16
  let v25 : BitVec 32 := Scalar.addi v24 c0_i32_17
  let c512_i32_25 : BitVec 32 := 512#32
  let v57 : BitVec 32 := Scalar.muli v25 c512_i32_25
  let v58 : BitVec 32 := v57
  let v59 : Index := Scalar.indexCast v58
  let c0_28 : Index := 0#32
  ![0, 1, v59.toNat, 0]
def k0_mult15 (i : grid0.Coords) : BitVec 32 :=
  let arg2 : BitVec 32 := BitVec.ofNat 32 (i 2).val
  let c2_i32_16 : BitVec 32 := 2#32
  let v24 : BitVec 32 := Scalar.muli arg2 c2_i32_16
  let c0_i32_17 : BitVec 32 := 0#32
  let v25 : BitVec 32 := Scalar.addi v24 c0_i32_17
  let c512_i32_30 : BitVec 32 := 512#32
  let v63 : BitVec 32 := Scalar.muli v25 c512_i32_30
  v63
def k0_off15 (i : grid0.Coords) (c0_i32_17 : BitVec 32) : Fin 4 → Nat :=
  let c0_31 : Index := 0#32
  let c2_32 : Index := 2#32
  let arg2 : BitVec 32 := BitVec.ofNat 32 (i 2).val
  let c2_i32_16 : BitVec 32 := 2#32
  let v24 : BitVec 32 := Scalar.muli arg2 c2_i32_16
  let v25 : BitVec 32 := Scalar.addi v24 c0_i32_17
  let c512_i32_30 : BitVec 32 := 512#32
  let v63 : BitVec 32 := Scalar.muli v25 c512_i32_30
  let v64 : BitVec 32 := v63
  let v65 : Index := Scalar.indexCast v64
  let c0_33 : Index := 0#32
  ![0, 2, v65.toNat, 0]
def k0_mult16 (i : grid0.Coords) : BitVec 32 :=
  let arg2 : BitVec 32 := BitVec.ofNat 32 (i 2).val
  let c2_i32_16 : BitVec 32 := 2#32
  let v24 : BitVec 32 := Scalar.muli arg2 c2_i32_16
  let c0_i32_17 : BitVec 32 := 0#32
  let v25 : BitVec 32 := Scalar.addi v24 c0_i32_17
  let c512_i32_35 : BitVec 32 := 512#32
  let v69 : BitVec 32 := Scalar.muli v25 c512_i32_35
  v69
def k0_off16 (i : grid0.Coords) (c0_i32_17 : BitVec 32) : Fin 4 → Nat :=
  let c0_36 : Index := 0#32
  let c3_37 : Index := 3#32
  let arg2 : BitVec 32 := BitVec.ofNat 32 (i 2).val
  let c2_i32_16 : BitVec 32 := 2#32
  let v24 : BitVec 32 := Scalar.muli arg2 c2_i32_16
  let v25 : BitVec 32 := Scalar.addi v24 c0_i32_17
  let c512_i32_35 : BitVec 32 := 512#32
  let v69 : BitVec 32 := Scalar.muli v25 c512_i32_35
  let v70 : BitVec 32 := v69
  let v71 : Index := Scalar.indexCast v70
  let c0_38 : Index := 0#32
  ![0, 3, v71.toNat, 0]
def k0_mult17 (i : grid0.Coords) : BitVec 32 :=
  let arg2 : BitVec 32 := BitVec.ofNat 32 (i 2).val
  let c2_i32_16 : BitVec 32 := 2#32
  let v24 : BitVec 32 := Scalar.muli arg2 c2_i32_16
  let c0_i32_17 : BitVec 32 := 0#32
  let v25 : BitVec 32 := Scalar.addi v24 c0_i32_17
  let c512_i32_42 : BitVec 32 := 512#32
  let v90 : BitVec 32 := Scalar.muli v25 c512_i32_42
  v90
def k0_off17 (i : grid0.Coords) (c0_i32_17 : BitVec 32) : Fin 3 → Nat :=
  let c0_43 : Index := 0#32
  let arg2 : BitVec 32 := BitVec.ofNat 32 (i 2).val
  let c2_i32_16 : BitVec 32 := 2#32
  let v24 : BitVec 32 := Scalar.muli arg2 c2_i32_16
  let v25 : BitVec 32 := Scalar.addi v24 c0_i32_17
  let c512_i32_42 : BitVec 32 := 512#32
  let v90 : BitVec 32 := Scalar.muli v25 c512_i32_42
  let v91 : BitVec 32 := v90
  let v92 : Index := Scalar.indexCast v91
  let c0_44 : Index := 0#32
  ![0, v92.toNat, 0]
def k0_mult18 (i : grid0.Coords) : BitVec 32 :=
  let arg2 : BitVec 32 := BitVec.ofNat 32 (i 2).val
  let c2_i32_16 : BitVec 32 := 2#32
  let v24 : BitVec 32 := Scalar.muli arg2 c2_i32_16
  let c0_i32_17 : BitVec 32 := 0#32
  let v25 : BitVec 32 := Scalar.addi v24 c0_i32_17
  let c512_i32_46 : BitVec 32 := 512#32
  let v98 : BitVec 32 := Scalar.muli v25 c512_i32_46
  v98
def k0_off18 (i : grid0.Coords) (c0_i32_17 : BitVec 32) : Fin 3 → Nat :=
  let c0_47 : Index := 0#32
  let arg2 : BitVec 32 := BitVec.ofNat 32 (i 2).val
  let c2_i32_16 : BitVec 32 := 2#32
  let v24 : BitVec 32 := Scalar.muli arg2 c2_i32_16
  let v25 : BitVec 32 := Scalar.addi v24 c0_i32_17
  let c512_i32_46 : BitVec 32 := 512#32
  let v98 : BitVec 32 := Scalar.muli v25 c512_i32_46
  let v99 : BitVec 32 := v98
  let v100 : Index := Scalar.indexCast v99
  let c128 : Index := 128#32
  ![0, v100.toNat, 128]
def k0_mult19 (i : grid0.Coords) : BitVec 32 :=
  let arg2 : BitVec 32 := BitVec.ofNat 32 (i 2).val
  let c2_i32_49 : BitVec 32 := 2#32
  let v110 : BitVec 32 := Scalar.muli arg2 c2_i32_49
  let c1_i32_50 : BitVec 32 := 1#32
  let v111 : BitVec 32 := Scalar.addi v110 c1_i32_50
  let c512_i32_54 : BitVec 32 := 512#32
  let v138 : BitVec 32 := Scalar.muli v111 c512_i32_54
  v138
def k0_mult20 (i : grid0.Coords) : BitVec 32 :=
  let arg2 : BitVec 32 := BitVec.ofNat 32 (i 2).val
  let c2_i32_49 : BitVec 32 := 2#32
  let v110 : BitVec 32 := Scalar.muli arg2 c2_i32_49
  let c1_i32_50 : BitVec 32 := 1#32
  let v111 : BitVec 32 := Scalar.addi v110 c1_i32_50
  let c512_i32_59 : BitVec 32 := 512#32
  let v145 : BitVec 32 := Scalar.muli v111 c512_i32_59
  v145
def k0_mult21 (i : grid0.Coords) : BitVec 32 :=
  let arg2 : BitVec 32 := BitVec.ofNat 32 (i 2).val
  let c2_i32_49 : BitVec 32 := 2#32
  let v110 : BitVec 32 := Scalar.muli arg2 c2_i32_49
  let c1_i32_50 : BitVec 32 := 1#32
  let v111 : BitVec 32 := Scalar.addi v110 c1_i32_50
  let c512_i32_64 : BitVec 32 := 512#32
  let v152 : BitVec 32 := Scalar.muli v111 c512_i32_64
  v152
def k0_mult22 (i : grid0.Coords) : BitVec 32 :=
  let arg2 : BitVec 32 := BitVec.ofNat 32 (i 2).val
  let c2_i32_49 : BitVec 32 := 2#32
  let v110 : BitVec 32 := Scalar.muli arg2 c2_i32_49
  let c1_i32_50 : BitVec 32 := 1#32
  let v111 : BitVec 32 := Scalar.addi v110 c1_i32_50
  let c512_i32_69 : BitVec 32 := 512#32
  let v159 : BitVec 32 := Scalar.muli v111 c512_i32_69
  v159
def k0_mult23 (i : grid0.Coords) : BitVec 32 :=
  let arg2 : BitVec 32 := BitVec.ofNat 32 (i 2).val
  let c2_i32_49 : BitVec 32 := 2#32
  let v110 : BitVec 32 := Scalar.muli arg2 c2_i32_49
  let c1_i32_50 : BitVec 32 := 1#32
  let v111 : BitVec 32 := Scalar.addi v110 c1_i32_50
  let c512_i32_76 : BitVec 32 := 512#32
  let v181 : BitVec 32 := Scalar.muli v111 c512_i32_76
  v181
def k0_mult24 (i : grid0.Coords) : BitVec 32 :=
  let arg2 : BitVec 32 := BitVec.ofNat 32 (i 2).val
  let c2_i32_49 : BitVec 32 := 2#32
  let v110 : BitVec 32 := Scalar.muli arg2 c2_i32_49
  let c1_i32_50 : BitVec 32 := 1#32
  let v111 : BitVec 32 := Scalar.addi v110 c1_i32_50
  let c512_i32_80 : BitVec 32 := 512#32
  let v189 : BitVec 32 := Scalar.muli v111 c512_i32_80
  v189
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x4x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S8x4096x8x96 : Shape := ⟨4, ![8, 4096, 8, 96]⟩
abbrev S8x4096x8x64 : Shape := ⟨4, ![8, 4096, 8, 64]⟩
abbrev S4096 : Shape := ⟨1, ![4096]⟩
abbrev S8x8x4096x4096 : Shape := ⟨4, ![8, 8, 4096, 4096]⟩
abbrev S_ : Shape := ⟨0, ![]⟩
abbrev S1x4096 : Shape := ⟨2, ![1, 4096]⟩
abbrev S4096x1 : Shape := ⟨2, ![4096, 1]⟩
abbrev S4096x4096 : Shape := ⟨2, ![4096, 4096]⟩
abbrev S8x8x4096 : Shape := ⟨3, ![8, 8, 4096]⟩
abbrev S8x8x4096x1 : Shape := ⟨4, ![8, 8, 4096, 1]⟩
abbrev S8x8x64x4096 : Shape := ⟨4, ![8, 8, 64, 4096]⟩
abbrev S8x4096x512 : Shape := ⟨3, ![8, 4096, 512]⟩

abbrev nBuf : Space → Nat
  | .hbm => 37
  | .vmem => 0
  | .smem => 0
  | _ => 0

abbrev bufTy : (tb : Table) → Fin (tcTables nBuf tb) → BufTy
  | .hbm, ⟨0, _⟩ => ⟨S8x4096x8x96, .f32⟩
  | .hbm, ⟨1, _⟩ => ⟨S8x4096x8x96, .f32⟩
  | .hbm, ⟨2, _⟩ => ⟨S8x4096x8x64, .f32⟩
  | .hbm, ⟨3, _⟩ => ⟨S4096, .i32⟩
  | .hbm, ⟨4, _⟩ => ⟨S8x8x4096x4096, .f32⟩
  | .hbm, ⟨5, _⟩ => ⟨S_, .f32⟩
  | .hbm, ⟨6, _⟩ => ⟨S_, .f32⟩
  | .hbm, ⟨7, _⟩ => ⟨S8x8x4096x4096, .f32⟩
  | .hbm, ⟨8, _⟩ => ⟨S8x8x4096x4096, .f32⟩
  | .hbm, ⟨9, _⟩ => ⟨S1x4096, .i32⟩
  | .hbm, ⟨10, _⟩ => ⟨S4096x1, .i32⟩
  | .hbm, ⟨11, _⟩ => ⟨S4096x4096, .i32⟩
  | .hbm, ⟨12, _⟩ => ⟨S4096x4096, .i32⟩
  | .hbm, ⟨13, _⟩ => ⟨S4096x4096, .i1⟩
  | .hbm, ⟨14, _⟩ => ⟨S_, .f32⟩
  | .hbm, ⟨15, _⟩ => ⟨S_, .f32⟩
  | .hbm, ⟨16, _⟩ => ⟨S8x8x4096x4096, .i1⟩
  | .hbm, ⟨17, _⟩ => ⟨S8x8x4096x4096, .f32⟩
  | .hbm, ⟨18, _⟩ => ⟨S8x8x4096x4096, .f32⟩
  | .hbm, ⟨19, _⟩ => ⟨S_, .f32⟩
  | .hbm, ⟨20, _⟩ => ⟨S8x8x4096, .f32⟩
  | .hbm, ⟨21, _⟩ => ⟨S_, .f32⟩
  | .hbm, ⟨22, _⟩ => ⟨S8x8x4096, .f32⟩
  | .hbm, ⟨23, _⟩ => ⟨S8x8x4096, .f32⟩
  | .hbm, ⟨24, _⟩ => ⟨S8x8x4096x1, .f32⟩
  | .hbm, ⟨25, _⟩ => ⟨S8x8x4096x4096, .f32⟩
  | .hbm, ⟨26, _⟩ => ⟨S8x8x4096x4096, .f32⟩
  | .hbm, ⟨27, _⟩ => ⟨S8x8x4096x4096, .f32⟩
  | .hbm, ⟨28, _⟩ => ⟨S_, .f32⟩
  | .hbm, ⟨29, _⟩ => ⟨S8x8x4096, .f32⟩
  | .hbm, ⟨30, _⟩ => ⟨S8x8x4096x1, .f32⟩
  | .hbm, ⟨31, _⟩ => ⟨S8x8x4096x4096, .f32⟩
  | .hbm, ⟨32, _⟩ => ⟨S8x8x4096x4096, .f32⟩
  | .hbm, ⟨33, _⟩ => ⟨S8x8x64x4096, .f32⟩
  | .hbm, ⟨34, _⟩ => ⟨S8x4096x8x64, .f32⟩
  | .hbm, ⟨35, _⟩ => ⟨S8x4096x512, .f32⟩
  | .hbm, ⟨36, _⟩ => ⟨S8x4096x512, .bf16⟩
  | _, _ => ⟨S8x4096x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]
-- ==== InOdd.lean ====
abbrev S8x4096x1024 : Shape := ⟨3, ![8, 4096, 1024]⟩
abbrev S1024 : Shape := ⟨1, ![1024]⟩
abbrev S1024x4016 : Shape := ⟨2, ![1024, 4016]⟩
abbrev S1x1024 : Shape := ⟨2, ![1, 1024]⟩
abbrev S1024x512 : Shape := ⟨2, ![1024, 512]⟩
abbrev S1024x256 : Shape := ⟨2, ![1024, 256]⟩
abbrev S1024x64 : Shape := ⟨2, ![1024, 64]⟩
abbrev S1024x32 : Shape := ⟨2, ![1024, 32]⟩
abbrev S1024x8 : Shape := ⟨2, ![1024, 8]⟩
abbrev S1024x4 : Shape := ⟨2, ![1024, 4]⟩
abbrev S_ : Shape := ⟨0, ![]⟩
abbrev S1024x80 : Shape := ⟨2, ![1024, 80]⟩
abbrev S1024x3328 : Shape := ⟨2, ![1024, 3328]⟩
abbrev S1024x768 : Shape := ⟨2, ![1024, 768]⟩
abbrev S1024x4096 : Shape := ⟨2, ![1024, 4096]⟩
abbrev S8x4096x4096 : Shape := ⟨3, ![8, 4096, 4096]⟩
abbrev S8x4096x128 : Shape := ⟨3, ![8, 4096, 128]⟩
abbrev S1x1024x1024 : Shape := ⟨3, ![1, 1024, 1024]⟩
abbrev S1x1024x4096 : Shape := ⟨3, ![1, 1024, 4096]⟩
abbrev S1x1024x128 : Shape := ⟨3, ![1, 1024, 128]⟩
abbrev S1024x1024 : Shape := ⟨2, ![1024, 1024]⟩
abbrev S1024x1 : Shape := ⟨2, ![1024, 1]⟩
abbrev S1024x128 : Shape := ⟨2, ![1024, 128]⟩

abbrev nBuf : Space → Nat
  | .hbm => 43
  | .vmem => 8
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x4016, .f32⟩
  | .hbm, ⟨3, _⟩ => ⟨S1x1024, .f32⟩
  | .hbm, ⟨4, _⟩ => ⟨S1024x512, .f32⟩
  | .hbm, ⟨5, _⟩ => ⟨S1024x512, .bf16⟩
  | .hbm, ⟨6, _⟩ => ⟨S1024x512, .f32⟩
  | .hbm, ⟨7, _⟩ => ⟨S1024x512, .bf16⟩
  | .hbm, ⟨8, _⟩ => ⟨S1024x512, .f32⟩
  | .hbm, ⟨9, _⟩ => ⟨S1024x512, .bf16⟩
  | .hbm, ⟨10, _⟩ => ⟨S1024x512, .f32⟩
  | .hbm, ⟨11, _⟩ => ⟨S1024x512, .bf16⟩
  | .hbm, ⟨12, _⟩ => ⟨S1024x512, .f32⟩
  | .hbm, ⟨13, _⟩ => ⟨S1024x512, .bf16⟩
  | .hbm, ⟨14, _⟩ => ⟨S1024x256, .f32⟩
  | .hbm, ⟨15, _⟩ => ⟨S1024x256, .bf16⟩
  | .hbm, ⟨16, _⟩ => ⟨S1024x256, .f32⟩
  | .hbm, ⟨17, _⟩ => ⟨S1024x256, .bf16⟩
  | .hbm, ⟨18, _⟩ => ⟨S1024x256, .f32⟩
  | .hbm, ⟨19, _⟩ => ⟨S1024x256, .bf16⟩
  | .hbm, ⟨20, _⟩ => ⟨S1024x256, .f32⟩
  | .hbm, ⟨21, _⟩ => ⟨S1024x256, .bf16⟩
  | .hbm, ⟨22, _⟩ => ⟨S1024x256, .f32⟩
  | .hbm, ⟨23, _⟩ => ⟨S1024x256, .bf16⟩
  | .hbm, ⟨24, _⟩ => ⟨S1024x64, .f32⟩
  | .hbm, ⟨25, _⟩ => ⟨S1024x64, .bf16⟩
  | .hbm, ⟨26, _⟩ => ⟨S1024x64, .f32⟩
  | .hbm, ⟨27, _⟩ => ⟨S1024x64, .bf16⟩
  | .hbm, ⟨28, _⟩ => ⟨S1024x32, .f32⟩
  | .hbm, ⟨29, _⟩ => ⟨S1024x32, .bf16⟩
  | .hbm, ⟨30, _⟩ => ⟨S1024x8, .f32⟩
  | .hbm, ⟨31, _⟩ => ⟨S1024x8, .bf16⟩
  | .hbm, ⟨32, _⟩ => ⟨S1024x4, .f32⟩
  | .hbm, ⟨33, _⟩ => ⟨S1024x4, .bf16⟩
  | .hbm, ⟨34, _⟩ => ⟨S1024x4, .f32⟩
  | .hbm, ⟨35, _⟩ => ⟨S1024x4, .bf16⟩
  | .hbm, ⟨36, _⟩ => ⟨S_, .bf16⟩
  | .hbm, ⟨37, _⟩ => ⟨S1024x80, .bf16⟩
  | .hbm, ⟨38, _⟩ => ⟨S1024x3328, .bf16⟩
  | .hbm, ⟨39, _⟩ => ⟨S1024x768, .bf16⟩
  | .hbm, ⟨40, _⟩ => ⟨S1024x4096, .bf16⟩
  | .hbm, ⟨41, _⟩ => ⟨S8x4096x4096, .bf16⟩
  | .hbm, ⟨42, _⟩ => ⟨S8x4096x128, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1024x4096, .bf16⟩
  | .local _ .vmem, ⟨4, _⟩ => ⟨S1x1024x4096, .bf16⟩
  | .local _ .vmem, ⟨5, _⟩ => ⟨S1x1024x4096, .bf16⟩
  | .local _ .vmem, ⟨6, _⟩ => ⟨S1x1024x128, .f32⟩
  | .local _ .vmem, ⟨7, _⟩ => ⟨S1x1024x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_cst : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37_0 : Ref sig .tc := ⟨.hbm, 41, rfl⟩
abbrev main_v37_1 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== InOddRefIdeal.lean ====
abbrev S8x4096x1024 : Shape := ⟨3, ![8, 4096, 1024]⟩
abbrev S1024 : Shape := ⟨1, ![1024]⟩
abbrev S1024x4016 : Shape := ⟨2, ![1024, 4016]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x4016 : Shape := ⟨3, ![8, 4096, 4016]⟩
abbrev S8x4096x512 : Shape := ⟨3, ![8, 4096, 512]⟩
abbrev S8x4096x64 : Shape := ⟨3, ![8, 4096, 64]⟩
abbrev S8x4096x256 : Shape := ⟨3, ![8, 4096, 256]⟩
abbrev S8x4096x32 : Shape := ⟨3, ![8, 4096, 32]⟩
abbrev S8x4096x8 : Shape := ⟨3, ![8, 4096, 8]⟩
abbrev S8x4096x4 : Shape := ⟨3, ![8, 4096, 4]⟩
abbrev S8x4096x80 : Shape := ⟨3, ![8, 4096, 80]⟩
abbrev S8x4096x128 : Shape := ⟨3, ![8, 4096, 128]⟩
abbrev S8x4096x3072 : Shape := ⟨3, ![8, 4096, 3072]⟩
abbrev S8x4096x4096 : Shape := ⟨3, ![8, 4096, 4096]⟩

abbrev nBuf : Space → Nat
  | .hbm => 43
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x4016, .f32⟩
  | .hbm, ⟨3, _⟩ => ⟨S8x4096x1024, .f32⟩
  | .hbm, ⟨4, _⟩ => ⟨S_, .f32⟩
  | .hbm, ⟨5, _⟩ => ⟨S8x4096, .f32⟩
  | .hbm, ⟨6, _⟩ => ⟨S8x4096x1, .f32⟩
  | .hbm, ⟨7, _⟩ => ⟨S_, .f32⟩
  | .hbm, ⟨8, _⟩ => ⟨S8x4096x1, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S8x4096x1, .f32⟩
  | .hbm, ⟨14, _⟩ => ⟨S8x4096x1024, .f32⟩
  | .hbm, ⟨15, _⟩ => ⟨S8x4096x1024, .f32⟩
  | .hbm, ⟨16, _⟩ => ⟨S1x1x1024, .f32⟩
  | .hbm, ⟨17, _⟩ => ⟨S8x4096x1024, .f32⟩
  | .hbm, ⟨18, _⟩ => ⟨S8x4096x1024, .f32⟩
  | .hbm, ⟨19, _⟩ => ⟨S8x4096x4016, .f32⟩
  | .hbm, ⟨20, _⟩ => ⟨S8x4096x512, .f32⟩
  | .hbm, ⟨21, _⟩ => ⟨S8x4096x64, .f32⟩
  | .hbm, ⟨22, _⟩ => ⟨S8x4096x64, .f32⟩
  | .hbm, ⟨23, _⟩ => ⟨S8x4096x256, .f32⟩
  | .hbm, ⟨24, _⟩ => ⟨S8x4096x32, .f32⟩
  | .hbm, ⟨25, _⟩ => ⟨S8x4096x8, .f32⟩
  | .hbm, ⟨26, _⟩ => ⟨S8x4096x512, .f32⟩
  | .hbm, ⟨27, _⟩ => ⟨S8x4096x256, .f32⟩
  | .hbm, ⟨28, _⟩ => ⟨S8x4096x256, .f32⟩
  | .hbm, ⟨29, _⟩ => ⟨S8x4096x512, .f32⟩
  | .hbm, ⟨30, _⟩ => ⟨S8x4096x4, .f32⟩
  | .hbm, ⟨31, _⟩ => ⟨S8x4096x4, .f32⟩
  | .hbm, ⟨32, _⟩ => ⟨S8x4096x512, .f32⟩
  | .hbm, ⟨33, _⟩ => ⟨S8x4096x512, .f32⟩
  | .hbm, ⟨34, _⟩ => ⟨S8x4096x256, .f32⟩
  | .hbm, ⟨35, _⟩ => ⟨S8x4096x256, .f32⟩
  | .hbm, ⟨36, _⟩ => ⟨S_, .f32⟩
  | .hbm, ⟨37, _⟩ => ⟨S8x4096x80, .f32⟩
  | .hbm, ⟨38, _⟩ => ⟨S8x4096x128, .f32⟩
  | .hbm, ⟨39, _⟩ => ⟨S8x4096x3072, .f32⟩
  | .hbm, ⟨40, _⟩ => ⟨S8x4096x1024, .f32⟩
  | .hbm, ⟨41, _⟩ => ⟨S8x4096x4096, .f32⟩
  | .hbm, ⟨42, _⟩ => ⟨S8x4096x4096, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst_2 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩

abbrev nD : Nat := 1
abbrev τ : Topo := Topo.v7x

variable {F : FTy → Type} [FloatOps F]
-- ==== OutOdd.lean ====
abbrev S8x4096x1024 : Shape := ⟨3, ![8, 4096, 1024]⟩
abbrev S8x4096x512 : Shape := ⟨3, ![8, 4096, 512]⟩
abbrev S8x4096x256 : Shape := ⟨3, ![8, 4096, 256]⟩
abbrev S8x4096x4016 : Shape := ⟨3, ![8, 4096, 4016]⟩
abbrev S1280x1024 : Shape := ⟨2, ![1280, 1024]⟩
abbrev S32768x4016 : Shape := ⟨2, ![32768, 4016]⟩
abbrev S32768x512 : Shape := ⟨2, ![32768, 512]⟩
abbrev S32768x256 : Shape := ⟨2, ![32768, 256]⟩
abbrev S32768x64 : Shape := ⟨2, ![32768, 64]⟩
abbrev S32768x32 : Shape := ⟨2, ![32768, 32]⟩
abbrev S32768x8 : Shape := ⟨2, ![32768, 8]⟩
abbrev S32768x4 : Shape := ⟨2, ![32768, 4]⟩
abbrev S_ : Shape := ⟨0, ![]⟩
abbrev S32768x80 : Shape := ⟨2, ![32768, 80]⟩
abbrev S32768x3328 : Shape := ⟨2, ![32768, 3328]⟩
abbrev S32768x768 : Shape := ⟨2, ![32768, 768]⟩
abbrev S32768x4096 : Shape := ⟨2, ![32768, 4096]⟩
abbrev S8x4096x4096 : Shape := ⟨3, ![8, 4096, 4096]⟩
abbrev S1x512x1024 : Shape := ⟨3, ![1, 512, 1024]⟩
abbrev S1x512x512 : Shape := ⟨3, ![1, 512, 512]⟩
abbrev S1x512x256 : Shape := ⟨3, ![1, 512, 256]⟩
abbrev S512x1024 : Shape := ⟨2, ![512, 1024]⟩
abbrev S512x512 : Shape := ⟨2, ![512, 512]⟩
abbrev S512x256 : Shape := ⟨2, ![512, 256]⟩
abbrev S256x1024 : Shape := ⟨2, ![256, 1024]⟩

abbrev nBuf : Space → Nat
  | .hbm => 50
  | .vmem => 17
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .f32⟩
  | .hbm, ⟨2, _⟩ => ⟨S8x4096x512, .f32⟩
  | .hbm, ⟨3, _⟩ => ⟨S8x4096x256, .f32⟩
  | .hbm, ⟨4, _⟩ => ⟨S8x4096x4016, .f32⟩
  | .hbm, ⟨5, _⟩ => ⟨S1280x1024, .f32⟩
  | .hbm, ⟨6, _⟩ => ⟨S32768x4016, .f32⟩
  | .hbm, ⟨7, _⟩ => ⟨S32768x512, .f32⟩
  | .hbm, ⟨8, _⟩ => ⟨S32768x512, .bf16⟩
  | .hbm, ⟨9, _⟩ => ⟨S32768x512, .f32⟩
  | .hbm, ⟨10, _⟩ => ⟨S32768x512, .bf16⟩
  | .hbm, ⟨11, _⟩ => ⟨S32768x512, .f32⟩
  | .hbm, ⟨12, _⟩ => ⟨S32768x512, .bf16⟩
  | .hbm, ⟨13, _⟩ => ⟨S32768x512, .f32⟩
  | .hbm, ⟨14, _⟩ => ⟨S32768x512, .bf16⟩
  | .hbm, ⟨15, _⟩ => ⟨S32768x512, .f32⟩
  | .hbm, ⟨16, _⟩ => ⟨S32768x512, .bf16⟩
  | .hbm, ⟨17, _⟩ => ⟨S32768x256, .f32⟩
  | .hbm, ⟨18, _⟩ => ⟨S32768x256, .bf16⟩
  | .hbm, ⟨19, _⟩ => ⟨S32768x256, .f32⟩
  | .hbm, ⟨20, _⟩ => ⟨S32768x256, .bf16⟩
  | .hbm, ⟨21, _⟩ => ⟨S32768x256, .f32⟩
  | .hbm, ⟨22, _⟩ => ⟨S32768x256, .bf16⟩
  | .hbm, ⟨23, _⟩ => ⟨S32768x256, .f32⟩
  | .hbm, ⟨24, _⟩ => ⟨S32768x256, .bf16⟩
  | .hbm, ⟨25, _⟩ => ⟨S32768x256, .f32⟩
  | .hbm, ⟨26, _⟩ => ⟨S32768x256, .bf16⟩
  | .hbm, ⟨27, _⟩ => ⟨S32768x64, .f32⟩
  | .hbm, ⟨28, _⟩ => ⟨S32768x64, .bf16⟩
  | .hbm, ⟨29, _⟩ => ⟨S32768x64, .f32⟩
  | .hbm, ⟨30, _⟩ => ⟨S32768x64, .bf16⟩
  | .hbm, ⟨31, _⟩ => ⟨S32768x32, .f32⟩
  | .hbm, ⟨32, _⟩ => ⟨S32768x32, .bf16⟩
  | .hbm, ⟨33, _⟩ => ⟨S32768x8, .f32⟩
  | .hbm, ⟨34, _⟩ => ⟨S32768x8, .bf16⟩
  | .hbm, ⟨35, _⟩ => ⟨S32768x4, .f32⟩
  | .hbm, ⟨36, _⟩ => ⟨S32768x4, .bf16⟩
  | .hbm, ⟨37, _⟩ => ⟨S32768x4, .f32⟩
  | .hbm, ⟨38, _⟩ => ⟨S32768x4, .bf16⟩
  | .hbm, ⟨39, _⟩ => ⟨S_, .bf16⟩
  | .hbm, ⟨40, _⟩ => ⟨S32768x80, .bf16⟩
  | .hbm, ⟨41, _⟩ => ⟨S32768x3328, .bf16⟩
  | .hbm, ⟨42, _⟩ => ⟨S32768x768, .bf16⟩
  | .hbm, ⟨43, _⟩ => ⟨S32768x4096, .bf16⟩
  | .hbm, ⟨44, _⟩ => ⟨S8x4096x4096, .bf16⟩
  | .hbm, ⟨45, _⟩ => ⟨S8x4096x512, .bf16⟩
  | .hbm, ⟨46, _⟩ => ⟨S8x4096x512, .bf16⟩
  | .hbm, ⟨47, _⟩ => ⟨S8x4096x256, .bf16⟩
  | .hbm, ⟨48, _⟩ => ⟨S1280x1024, .bf16⟩
  | .hbm, ⟨49, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x256, .bf16⟩
  | .local _ .vmem, ⟨7, _⟩ => ⟨S1x512x256, .bf16⟩
  | .local _ .vmem, ⟨8, _⟩ => ⟨S1x512x512, .bf16⟩
  | .local _ .vmem, ⟨9, _⟩ => ⟨S1x512x512, .bf16⟩
  | .local _ .vmem, ⟨10, _⟩ => ⟨S1x512x512, .bf16⟩
  | .local _ .vmem, ⟨11, _⟩ => ⟨S1x512x512, .bf16⟩
  | .local _ .vmem, ⟨12, _⟩ => ⟨S1x512x256, .bf16⟩
  | .local _ .vmem, ⟨13, _⟩ => ⟨S1x512x256, .bf16⟩
  | .local _ .vmem, ⟨14, _⟩ => ⟨S1280x1024, .bf16⟩
  | .local _ .vmem, ⟨15, _⟩ => ⟨S1x512x1024, .f32⟩
  | .local _ .vmem, ⟨16, _⟩ => ⟨S1x512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_cst : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_6 (i : grid0.Coords) : Fin 3 → Nat :=
  let arg0 : BitVec 32 := BitVec.ofNat 32 (i 0).val
  let arg1 : BitVec 32 := BitVec.ofNat 32 (i 1).val
  let c13_i32 : BitVec 32 := 13#32
  let c0_i32 : BitVec 32 := 0#32
  ![arg0.toNat, arg1.toNat, c13_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1280x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== OutOddRefIdeal.lean ====
abbrev S8x4096x1024 : Shape := ⟨3, ![8, 4096, 1024]⟩
abbrev S8x4096x512 : Shape := ⟨3, ![8, 4096, 512]⟩
abbrev S8x4096x256 : Shape := ⟨3, ![8, 4096, 256]⟩
abbrev S8x4096x4016 : Shape := ⟨3, ![8, 4096, 4016]⟩
abbrev S1280x1024 : Shape := ⟨2, ![1280, 1024]⟩
abbrev S8x4096x64 : Shape := ⟨3, ![8, 4096, 64]⟩
abbrev S8x4096x32 : Shape := ⟨3, ![8, 4096, 32]⟩
abbrev S8x4096x8 : Shape := ⟨3, ![8, 4096, 8]⟩
abbrev S8x4096x4 : Shape := ⟨3, ![8, 4096, 4]⟩
abbrev S_ : Shape := ⟨0, ![]⟩
abbrev S8x4096x1280 : Shape := ⟨3, ![8, 4096, 1280]⟩

abbrev nBuf : Space → Nat
  | .hbm => 55
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .f32⟩
  | .hbm, ⟨2, _⟩ => ⟨S8x4096x512, .f32⟩
  | .hbm, ⟨3, _⟩ => ⟨S8x4096x256, .f32⟩
  | .hbm, ⟨4, _⟩ => ⟨S8x4096x4016, .f32⟩
  | .hbm, ⟨5, _⟩ => ⟨S1280x1024, .f32⟩
  | .hbm, ⟨6, _⟩ => ⟨S8x4096x512, .f32⟩
  | .hbm, ⟨7, _⟩ => ⟨S8x4096x64, .f32⟩
  | .hbm, ⟨8, _⟩ => ⟨S8x4096x64, .f32⟩
  | .hbm, ⟨9, _⟩ => ⟨S8x4096x256, .f32⟩
  | .hbm, ⟨10, _⟩ => ⟨S8x4096x32, .f32⟩
  | .hbm, ⟨11, _⟩ => ⟨S8x4096x8, .f32⟩
  | .hbm, ⟨12, _⟩ => ⟨S8x4096x512, .f32⟩
  | .hbm, ⟨13, _⟩ => ⟨S8x4096x256, .f32⟩
  | .hbm, ⟨14, _⟩ => ⟨S8x4096x256, .f32⟩
  | .hbm, ⟨15, _⟩ => ⟨S8x4096x512, .f32⟩
  | .hbm, ⟨16, _⟩ => ⟨S8x4096x4, .f32⟩
  | .hbm, ⟨17, _⟩ => ⟨S8x4096x4, .f32⟩
  | .hbm, ⟨18, _⟩ => ⟨S8x4096x512, .f32⟩
  | .hbm, ⟨19, _⟩ => ⟨S8x4096x512, .f32⟩
  | .hbm, ⟨20, _⟩ => ⟨S8x4096x256, .f32⟩
  | .hbm, ⟨21, _⟩ => ⟨S8x4096x256, .f32⟩
  | .hbm, ⟨22, _⟩ => ⟨S8x4096x512, .f32⟩
  | .hbm, ⟨23, _⟩ => ⟨S8x4096x512, .f32⟩
  | .hbm, ⟨24, _⟩ => ⟨S_, .f32⟩
  | .hbm, ⟨25, _⟩ => ⟨S8x4096x512, .f32⟩
  | .hbm, ⟨26, _⟩ => ⟨S8x4096x512, .f32⟩
  | .hbm, ⟨27, _⟩ => ⟨S_, .f32⟩
  | .hbm, ⟨28, _⟩ => ⟨S8x4096x512, .f32⟩
  | .hbm, ⟨29, _⟩ => ⟨S8x4096x512, .f32⟩
  | .hbm, ⟨30, _⟩ => ⟨S8x4096x512, .f32⟩
  | .hbm, ⟨31, _⟩ => ⟨S8x4096x512, .f32⟩
  | .hbm, ⟨32, _⟩ => ⟨S8x4096x512, .f32⟩
  | .hbm, ⟨33, _⟩ => ⟨S8x4096x512, .f32⟩
  | .hbm, ⟨34, _⟩ => ⟨S_, .f32⟩
  | .hbm, ⟨35, _⟩ => ⟨S8x4096x512, .f32⟩
  | .hbm, ⟨36, _⟩ => ⟨S8x4096x512, .f32⟩
  | .hbm, ⟨37, _⟩ => ⟨S_, .f32⟩
  | .hbm, ⟨38, _⟩ => ⟨S8x4096x512, .f32⟩
  | .hbm, ⟨39, _⟩ => ⟨S8x4096x512, .f32⟩
  | .hbm, ⟨40, _⟩ => ⟨S8x4096x512, .f32⟩
  | .hbm, ⟨41, _⟩ => ⟨S8x4096x512, .f32⟩
  | .hbm, ⟨42, _⟩ => ⟨S8x4096x256, .f32⟩
  | .hbm, ⟨43, _⟩ => ⟨S8x4096x256, .f32⟩
  | .hbm, ⟨44, _⟩ => ⟨S_, .f32⟩
  | .hbm, ⟨45, _⟩ => ⟨S8x4096x256, .f32⟩
  | .hbm, ⟨46, _⟩ => ⟨S8x4096x256, .f32⟩
  | .hbm, ⟨47, _⟩ => ⟨S_, .f32⟩
  | .hbm, ⟨48, _⟩ => ⟨S8x4096x256, .f32⟩
  | .hbm, ⟨49, _⟩ => ⟨S8x4096x256, .f32⟩
  | .hbm, ⟨50, _⟩ => ⟨S8x4096x256, .f32⟩
  | .hbm, ⟨51, _⟩ => ⟨S8x4096x256, .f32⟩
  | .hbm, ⟨52, _⟩ => ⟨S8x4096x1280, .f32⟩
  | .hbm, ⟨53, _⟩ => ⟨S8x4096x1024, .f32⟩
  | .hbm, ⟨54, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v16 : Ref sig .tc := ⟨.hbm, 30, rfl⟩
abbrev main_v17 : Ref sig .tc := ⟨.hbm, 31, rfl⟩
abbrev main_call1_v0 : Ref sig .tc := ⟨.hbm, 32, rfl⟩
abbrev main_call1_v1 : Ref sig .tc := ⟨.hbm, 33, rfl⟩
abbrev main_call1_cst : Ref sig .tc := ⟨.hbm, 34, rfl⟩
abbrev main_call1_v2 : Ref sig .tc := ⟨.hbm, 35, rfl⟩
abbrev main_call1_v3 : Ref sig .tc := ⟨.hbm, 36, rfl⟩
abbrev main_call1_cst_0 : Ref sig .tc := ⟨.hbm, 37, rfl⟩
abbrev main_call1_v4 : Ref sig .tc := ⟨.hbm, 38, rfl⟩
abbrev main_call1_v5 : Ref sig .tc := ⟨.hbm, 39, rfl⟩
abbrev main_v18 : Ref sig .tc := ⟨.hbm, 40, rfl⟩
abbrev main_v19 : Ref sig .tc := ⟨.hbm, 41, rfl⟩
abbrev main_call2_v0 : Ref sig .tc := ⟨.hbm, 42, rfl⟩
abbrev main_call2_v1 : Ref sig .tc := ⟨.hbm, 43, rfl⟩
abbrev main_call2_cst : Ref sig .tc := ⟨.hbm, 44, rfl⟩
abbrev main_call2_v2 : Ref sig .tc := ⟨.hbm, 45, rfl⟩
abbrev main_call2_v3 : Ref sig .tc := ⟨.hbm, 46, rfl⟩
abbrev main_call2_cst_0 : Ref sig .tc := ⟨.hbm, 47, rfl⟩
abbrev main_call2_v4 : Ref sig .tc := ⟨.hbm, 48, rfl⟩
abbrev main_call2_v5 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩

abbrev nD : Nat := 1
abbrev τ : Topo := Topo.v7x

variable {F : FTy → Type} [FloatOps F]
-- ==== InEven.lean ====
abbrev S8x4096x1024 : Shape := ⟨3, ![8, 4096, 1024]⟩
abbrev S1024 : Shape := ⟨1, ![1024]⟩
abbrev S1024x3256 : Shape := ⟨2, ![1024, 3256]⟩
abbrev S1x1024 : Shape := ⟨2, ![1, 1024]⟩
abbrev S1024x256 : Shape := ⟨2, ![1024, 256]⟩
abbrev S1024x128 : Shape := ⟨2, ![1024, 128]⟩
abbrev S1024x32 : Shape := ⟨2, ![1024, 32]⟩
abbrev S_ : Shape := ⟨0, ![]⟩
abbrev S1024x96 : Shape := ⟨2, ![1024, 96]⟩
abbrev S1024x512 : Shape := ⟨2, ![1024, 512]⟩
abbrev S1024x24 : Shape := ⟨2, ![1024, 24]⟩
abbrev S1024x104 : Shape := ⟨2, ![1024, 104]⟩
abbrev S1024x2304 : Shape := ⟨2, ![1024, 2304]⟩
abbrev S1024x1152 : Shape := ⟨2, ![1024, 1152]⟩
abbrev S1024x3456 : Shape := ⟨2, ![1024, 3456]⟩
abbrev S8x4096x3456 : Shape := ⟨3, ![8, 4096, 3456]⟩
abbrev S8x4096x128 : Shape := ⟨3, ![8, 4096, 128]⟩
abbrev S1x1024x1024 : Shape := ⟨3, ![1, 1024, 1024]⟩
abbrev S1x1024x3456 : Shape := ⟨3, ![1, 1024, 3456]⟩
abbrev S1x1024x128 : Shape := ⟨3, ![1, 1024, 128]⟩
abbrev S1024x1024 : Shape := ⟨2, ![1024, 1024]⟩
abbrev S1024x1 : Shape := ⟨2, ![1024, 1]⟩
abbrev S1024x384 : Shape := ⟨2, ![1024, 384]⟩
abbrev S1x1024x384 : Shape := ⟨3, ![1, 1024, 384]⟩

abbrev nBuf : Space → Nat
  | .hbm => 43
  | .vmem => 8
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x3256, .f32⟩
  | .hbm, ⟨3, _⟩ => ⟨S1x1024, .f32⟩
  | .hbm, ⟨4, _⟩ => ⟨S1024x256, .f32⟩
  | .hbm, ⟨5, _⟩ => ⟨S1024x256, .bf16⟩
  | .hbm, ⟨6, _⟩ => ⟨S1024x128, .f32⟩
  | .hbm, ⟨7, _⟩ => ⟨S1024x128, .bf16⟩
  | .hbm, ⟨8, _⟩ => ⟨S1024x32, .f32⟩
  | .hbm, ⟨9, _⟩ => ⟨S1024x32, .bf16⟩
  | .hbm, ⟨10, _⟩ => ⟨S_, .bf16⟩
  | .hbm, ⟨11, _⟩ => ⟨S1024x96, .bf16⟩
  | .hbm, ⟨12, _⟩ => ⟨S1024x512, .f32⟩
  | .hbm, ⟨13, _⟩ => ⟨S1024x512, .bf16⟩
  | .hbm, ⟨14, _⟩ => ⟨S1024x512, .f32⟩
  | .hbm, ⟨15, _⟩ => ⟨S1024x512, .bf16⟩
  | .hbm, ⟨16, _⟩ => ⟨S1024x512, .f32⟩
  | .hbm, ⟨17, _⟩ => ⟨S1024x512, .bf16⟩
  | .hbm, ⟨18, _⟩ => ⟨S1024x256, .f32⟩
  | .hbm, ⟨19, _⟩ => ⟨S1024x256, .bf16⟩
  | .hbm, ⟨20, _⟩ => ⟨S1024x256, .f32⟩
  | .hbm, ⟨21, _⟩ => ⟨S1024x256, .bf16⟩
  | .hbm, ⟨22, _⟩ => ⟨S1024x24, .f32⟩
  | .hbm, ⟨23, _⟩ => ⟨S1024x24, .bf16⟩
  | .hbm, ⟨24, _⟩ => ⟨S_, .bf16⟩
  | .hbm, ⟨25, _⟩ => ⟨S1024x104, .bf16⟩
  | .hbm, ⟨26, _⟩ => ⟨S1024x128, .f32⟩
  | .hbm, ⟨27, _⟩ => ⟨S1024x128, .bf16⟩
  | .hbm, ⟨28, _⟩ => ⟨S1024x128, .f32⟩
  | .hbm, ⟨29, _⟩ => ⟨S1024x128, .bf16⟩
  | .hbm, ⟨30, _⟩ => ⟨S1024x128, .f32⟩
  | .hbm, ⟨31, _⟩ => ⟨S1024x128, .bf16⟩
  | .hbm, ⟨32, _⟩ => ⟨S1024x128, .f32⟩
  | .hbm, ⟨33, _⟩ => ⟨S1024x128, .bf16⟩
  | .hbm, ⟨34, _⟩ => ⟨S1024x128, .f32⟩
  | .hbm, ⟨35, _⟩ => ⟨S1024x128, .bf16⟩
  | .hbm, ⟨36, _⟩ => ⟨S1024x128, .f32⟩
  | .hbm, ⟨37, _⟩ => ⟨S1024x128, .bf16⟩
  | .hbm, ⟨38, _⟩ => ⟨S1024x2304, .bf16⟩
  | .hbm, ⟨39, _⟩ => ⟨S1024x1152, .bf16⟩
  | .hbm, ⟨40, _⟩ => ⟨S1024x3456, .bf16⟩
  | .hbm, ⟨41, _⟩ => ⟨S8x4096x3456, .bf16⟩
  | .hbm, ⟨42, _⟩ => ⟨S8x4096x128, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1024x3456, .bf16⟩
  | .local _ .vmem, ⟨4, _⟩ => ⟨S1x1024x3456, .bf16⟩
  | .local _ .vmem, ⟨5, _⟩ => ⟨S1x1024x3456, .bf16⟩
  | .local _ .vmem, ⟨6, _⟩ => ⟨S1x1024x128, .f32⟩
  | .local _ .vmem, ⟨7, _⟩ => ⟨S1x1024x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst_0 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36_0 : Ref sig .tc := ⟨.hbm, 41, rfl⟩
abbrev main_v36_1 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3456 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x3456 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== InEvenRefIdeal.lean ====
abbrev S8x4096x1024 : Shape := ⟨3, ![8, 4096, 1024]⟩
abbrev S1024 : Shape := ⟨1, ![1024]⟩
abbrev S1024x3256 : Shape := ⟨2, ![1024, 3256]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x3256 : Shape := ⟨3, ![8, 4096, 3256]⟩
abbrev S8x4096x256 : Shape := ⟨3, ![8, 4096, 256]⟩
abbrev S8x4096x128 : Shape := ⟨3, ![8, 4096, 128]⟩
abbrev S8x4096x32 : Shape := ⟨3, ![8, 4096, 32]⟩
abbrev S8x4096x512 : Shape := ⟨3, ![8, 4096, 512]⟩
abbrev S8x4096x24 : Shape := ⟨3, ![8, 4096, 24]⟩
abbrev S8x4096x104 : Shape := ⟨3, ![8, 4096, 104]⟩
abbrev S8x4096x96 : Shape := ⟨3, ![8, 4096, 96]⟩
abbrev S8x4096x2048 : Shape := ⟨3, ![8, 4096, 2048]⟩
abbrev S8x4096x1408 : Shape := ⟨3, ![8, 4096, 1408]⟩
abbrev S8x4096x3456 : Shape := ⟨3, ![8, 4096, 3456]⟩

abbrev nBuf : Space → Nat
  | .hbm => 44
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x3256, .f32⟩
  | .hbm, ⟨3, _⟩ => ⟨S8x4096x1024, .f32⟩
  | .hbm, ⟨4, _⟩ => ⟨S_, .f32⟩
  | .hbm, ⟨5, _⟩ => ⟨S8x4096, .f32⟩
  | .hbm, ⟨6, _⟩ => ⟨S8x4096x1, .f32⟩
  | .hbm, ⟨7, _⟩ => ⟨S_, .f32⟩
  | .hbm, ⟨8, _⟩ => ⟨S8x4096x1, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S8x4096x1, .f32⟩
  | .hbm, ⟨14, _⟩ => ⟨S8x4096x1024, .f32⟩
  | .hbm, ⟨15, _⟩ => ⟨S8x4096x1024, .f32⟩
  | .hbm, ⟨16, _⟩ => ⟨S1x1x1024, .f32⟩
  | .hbm, ⟨17, _⟩ => ⟨S8x4096x1024, .f32⟩
  | .hbm, ⟨18, _⟩ => ⟨S8x4096x1024, .f32⟩
  | .hbm, ⟨19, _⟩ => ⟨S8x4096x3256, .f32⟩
  | .hbm, ⟨20, _⟩ => ⟨S8x4096x256, .f32⟩
  | .hbm, ⟨21, _⟩ => ⟨S8x4096x128, .f32⟩
  | .hbm, ⟨22, _⟩ => ⟨S8x4096x32, .f32⟩
  | .hbm, ⟨23, _⟩ => ⟨S8x4096x512, .f32⟩
  | .hbm, ⟨24, _⟩ => ⟨S8x4096x512, .f32⟩
  | .hbm, ⟨25, _⟩ => ⟨S8x4096x128, .f32⟩
  | .hbm, ⟨26, _⟩ => ⟨S8x4096x128, .f32⟩
  | .hbm, ⟨27, _⟩ => ⟨S8x4096x128, .f32⟩
  | .hbm, ⟨28, _⟩ => ⟨S8x4096x128, .f32⟩
  | .hbm, ⟨29, _⟩ => ⟨S8x4096x128, .f32⟩
  | .hbm, ⟨30, _⟩ => ⟨S8x4096x128, .f32⟩
  | .hbm, ⟨31, _⟩ => ⟨S8x4096x24, .f32⟩
  | .hbm, ⟨32, _⟩ => ⟨S8x4096x512, .f32⟩
  | .hbm, ⟨33, _⟩ => ⟨S8x4096x256, .f32⟩
  | .hbm, ⟨34, _⟩ => ⟨S8x4096x256, .f32⟩
  | .hbm, ⟨35, _⟩ => ⟨S_, .f32⟩
  | .hbm, ⟨36, _⟩ => ⟨S8x4096x104, .f32⟩
  | .hbm, ⟨37, _⟩ => ⟨S8x4096x128, .f32⟩
  | .hbm, ⟨38, _⟩ => ⟨S_, .f32⟩
  | .hbm, ⟨39, _⟩ => ⟨S8x4096x96, .f32⟩
  | .hbm, ⟨40, _⟩ => ⟨S8x4096x2048, .f32⟩
  | .hbm, ⟨41, _⟩ => ⟨S8x4096x1408, .f32⟩
  | .hbm, ⟨42, _⟩ => ⟨S8x4096x3456, .f32⟩
  | .hbm, ⟨43, _⟩ => ⟨S8x4096x3456, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst_2 : Ref sig .tc := ⟨.hbm, 35, rfl⟩
abbrev main_v29 : Ref sig .tc := ⟨.hbm, 36, rfl⟩
abbrev main_v30 : Ref sig .tc := ⟨.hbm, 37, rfl⟩
abbrev main_cst_3 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩

abbrev nD : Nat := 1
abbrev τ : Topo := Topo.v7x

variable {F : FTy → Type} [FloatOps F]
-- ==== OutEven.lean ====
abbrev S8x4096x1024 : Shape := ⟨3, ![8, 4096, 1024]⟩
abbrev S8x4096x512 : Shape := ⟨3, ![8, 4096, 512]⟩
abbrev S8x4096x256 : Shape := ⟨3, ![8, 4096, 256]⟩
abbrev S8x4096x3256 : Shape := ⟨3, ![8, 4096, 3256]⟩
abbrev S1280x1024 : Shape := ⟨2, ![1280, 1024]⟩
abbrev S32768x3256 : Shape := ⟨2, ![32768, 3256]⟩
abbrev S32768x256 : Shape := ⟨2, ![32768, 256]⟩
abbrev S32768x128 : Shape := ⟨2, ![32768, 128]⟩
abbrev S32768x32 : Shape := ⟨2, ![32768, 32]⟩
abbrev S_ : Shape := ⟨0, ![]⟩
abbrev S32768x96 : Shape := ⟨2, ![32768, 96]⟩
abbrev S32768x512 : Shape := ⟨2, ![32768, 512]⟩
abbrev S32768x24 : Shape := ⟨2, ![32768, 24]⟩
abbrev S32768x104 : Shape := ⟨2, ![32768, 104]⟩
abbrev S32768x2304 : Shape := ⟨2, ![32768, 2304]⟩
abbrev S32768x1152 : Shape := ⟨2, ![32768, 1152]⟩
abbrev S32768x3456 : Shape := ⟨2, ![32768, 3456]⟩
abbrev S8x4096x3456 : Shape := ⟨3, ![8, 4096, 3456]⟩
abbrev S1x512x1024 : Shape := ⟨3, ![1, 512, 1024]⟩
abbrev S1x512x512 : Shape := ⟨3, ![1, 512, 512]⟩
abbrev S1x512x256 : Shape := ⟨3, ![1, 512, 256]⟩
abbrev S512x1024 : Shape := ⟨2, ![512, 1024]⟩
abbrev S512x512 : Shape := ⟨2, ![512, 512]⟩
abbrev S512x256 : Shape := ⟨2, ![512, 256]⟩
abbrev S256x1024 : Shape := ⟨2, ![256, 1024]⟩

abbrev nBuf : Space → Nat
  | .hbm => 50
  | .vmem => 17
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .f32⟩
  | .hbm, ⟨2, _⟩ => ⟨S8x4096x512, .f32⟩
  | .hbm, ⟨3, _⟩ => ⟨S8x4096x256, .f32⟩
  | .hbm, ⟨4, _⟩ => ⟨S8x4096x3256, .f32⟩
  | .hbm, ⟨5, _⟩ => ⟨S1280x1024, .f32⟩
  | .hbm, ⟨6, _⟩ => ⟨S32768x3256, .f32⟩
  | .hbm, ⟨7, _⟩ => ⟨S32768x256, .f32⟩
  | .hbm, ⟨8, _⟩ => ⟨S32768x256, .bf16⟩
  | .hbm, ⟨9, _⟩ => ⟨S32768x128, .f32⟩
  | .hbm, ⟨10, _⟩ => ⟨S32768x128, .bf16⟩
  | .hbm, ⟨11, _⟩ => ⟨S32768x32, .f32⟩
  | .hbm, ⟨12, _⟩ => ⟨S32768x32, .bf16⟩
  | .hbm, ⟨13, _⟩ => ⟨S_, .bf16⟩
  | .hbm, ⟨14, _⟩ => ⟨S32768x96, .bf16⟩
  | .hbm, ⟨15, _⟩ => ⟨S32768x512, .f32⟩
  | .hbm, ⟨16, _⟩ => ⟨S32768x512, .bf16⟩
  | .hbm, ⟨17, _⟩ => ⟨S32768x512, .f32⟩
  | .hbm, ⟨18, _⟩ => ⟨S32768x512, .bf16⟩
  | .hbm, ⟨19, _⟩ => ⟨S32768x512, .f32⟩
  | .hbm, ⟨20, _⟩ => ⟨S32768x512, .bf16⟩
  | .hbm, ⟨21, _⟩ => ⟨S32768x256, .f32⟩
  | .hbm, ⟨22, _⟩ => ⟨S32768x256, .bf16⟩
  | .hbm, ⟨23, _⟩ => ⟨S32768x256, .f32⟩
  | .hbm, ⟨24, _⟩ => ⟨S32768x256, .bf16⟩
  | .hbm, ⟨25, _⟩ => ⟨S32768x24, .f32⟩
  | .hbm, ⟨26, _⟩ => ⟨S32768x24, .bf16⟩
  | .hbm, ⟨27, _⟩ => ⟨S_, .bf16⟩
  | .hbm, ⟨28, _⟩ => ⟨S32768x104, .bf16⟩
  | .hbm, ⟨29, _⟩ => ⟨S32768x128, .f32⟩
  | .hbm, ⟨30, _⟩ => ⟨S32768x128, .bf16⟩
  | .hbm, ⟨31, _⟩ => ⟨S32768x128, .f32⟩
  | .hbm, ⟨32, _⟩ => ⟨S32768x128, .bf16⟩
  | .hbm, ⟨33, _⟩ => ⟨S32768x128, .f32⟩
  | .hbm, ⟨34, _⟩ => ⟨S32768x128, .bf16⟩
  | .hbm, ⟨35, _⟩ => ⟨S32768x128, .f32⟩
  | .hbm, ⟨36, _⟩ => ⟨S32768x128, .bf16⟩
  | .hbm, ⟨37, _⟩ => ⟨S32768x128, .f32⟩
  | .hbm, ⟨38, _⟩ => ⟨S32768x128, .bf16⟩
  | .hbm, ⟨39, _⟩ => ⟨S32768x128, .f32⟩
  | .hbm, ⟨40, _⟩ => ⟨S32768x128, .bf16⟩
  | .hbm, ⟨41, _⟩ => ⟨S32768x2304, .bf16⟩
  | .hbm, ⟨42, _⟩ => ⟨S32768x1152, .bf16⟩
  | .hbm, ⟨43, _⟩ => ⟨S32768x3456, .bf16⟩
  | .hbm, ⟨44, _⟩ => ⟨S8x4096x3456, .bf16⟩
  | .hbm, ⟨45, _⟩ => ⟨S8x4096x512, .bf16⟩
  | .hbm, ⟨46, _⟩ => ⟨S8x4096x512, .bf16⟩
  | .hbm, ⟨47, _⟩ => ⟨S8x4096x256, .bf16⟩
  | .hbm, ⟨48, _⟩ => ⟨S1280x1024, .bf16⟩
  | .hbm, ⟨49, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x256, .bf16⟩
  | .local _ .vmem, ⟨7, _⟩ => ⟨S1x512x256, .bf16⟩
  | .local _ .vmem, ⟨8, _⟩ => ⟨S1x512x512, .bf16⟩
  | .local _ .vmem, ⟨9, _⟩ => ⟨S1x512x512, .bf16⟩
  | .local _ .vmem, ⟨10, _⟩ => ⟨S1x512x512, .bf16⟩
  | .local _ .vmem, ⟨11, _⟩ => ⟨S1x512x512, .bf16⟩
  | .local _ .vmem, ⟨12, _⟩ => ⟨S1x512x256, .bf16⟩
  | .local _ .vmem, ⟨13, _⟩ => ⟨S1x512x256, .bf16⟩
  | .local _ .vmem, ⟨14, _⟩ => ⟨S1280x1024, .bf16⟩
  | .local _ .vmem, ⟨15, _⟩ => ⟨S1x512x1024, .f32⟩
  | .local _ .vmem, ⟨16, _⟩ => ⟨S1x512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_0 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_5 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_6 (i : grid0.Coords) : Fin 3 → Nat :=
  let arg0 : BitVec 32 := BitVec.ofNat 32 (i 0).val
  let arg1 : BitVec 32 := BitVec.ofNat 32 (i 1).val
  let c9_i32 : BitVec 32 := 9#32
  let c0_i32 : BitVec 32 := 0#32
  ![arg0.toNat, arg1.toNat, c9_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1280x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== OutEvenRefIdeal.lean ====
abbrev S8x4096x1024 : Shape := ⟨3, ![8, 4096, 1024]⟩
abbrev S8x4096x512 : Shape := ⟨3, ![8, 4096, 512]⟩
abbrev S8x4096x256 : Shape := ⟨3, ![8, 4096, 256]⟩
abbrev S8x4096x3256 : Shape := ⟨3, ![8, 4096, 3256]⟩
abbrev S1280x1024 : Shape := ⟨2, ![1280, 1024]⟩
abbrev S8x4096x128 : Shape := ⟨3, ![8, 4096, 128]⟩
abbrev S8x4096x32 : Shape := ⟨3, ![8, 4096, 32]⟩
abbrev S8x4096x24 : Shape := ⟨3, ![8, 4096, 24]⟩
abbrev S_ : Shape := ⟨0, ![]⟩
abbrev S8x4096x1280 : Shape := ⟨3, ![8, 4096, 1280]⟩

abbrev nBuf : Space → Nat
  | .hbm => 54
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .f32⟩
  | .hbm, ⟨2, _⟩ => ⟨S8x4096x512, .f32⟩
  | .hbm, ⟨3, _⟩ => ⟨S8x4096x256, .f32⟩
  | .hbm, ⟨4, _⟩ => ⟨S8x4096x3256, .f32⟩
  | .hbm, ⟨5, _⟩ => ⟨S1280x1024, .f32⟩
  | .hbm, ⟨6, _⟩ => ⟨S8x4096x256, .f32⟩
  | .hbm, ⟨7, _⟩ => ⟨S8x4096x128, .f32⟩
  | .hbm, ⟨8, _⟩ => ⟨S8x4096x32, .f32⟩
  | .hbm, ⟨9, _⟩ => ⟨S8x4096x512, .f32⟩
  | .hbm, ⟨10, _⟩ => ⟨S8x4096x512, .f32⟩
  | .hbm, ⟨11, _⟩ => ⟨S8x4096x128, .f32⟩
  | .hbm, ⟨12, _⟩ => ⟨S8x4096x128, .f32⟩
  | .hbm, ⟨13, _⟩ => ⟨S8x4096x128, .f32⟩
  | .hbm, ⟨14, _⟩ => ⟨S8x4096x128, .f32⟩
  | .hbm, ⟨15, _⟩ => ⟨S8x4096x128, .f32⟩
  | .hbm, ⟨16, _⟩ => ⟨S8x4096x128, .f32⟩
  | .hbm, ⟨17, _⟩ => ⟨S8x4096x24, .f32⟩
  | .hbm, ⟨18, _⟩ => ⟨S8x4096x512, .f32⟩
  | .hbm, ⟨19, _⟩ => ⟨S8x4096x256, .f32⟩
  | .hbm, ⟨20, _⟩ => ⟨S8x4096x256, .f32⟩
  | .hbm, ⟨21, _⟩ => ⟨S8x4096x512, .f32⟩
  | .hbm, ⟨22, _⟩ => ⟨S8x4096x512, .f32⟩
  | .hbm, ⟨23, _⟩ => ⟨S_, .f32⟩
  | .hbm, ⟨24, _⟩ => ⟨S8x4096x512, .f32⟩
  | .hbm, ⟨25, _⟩ => ⟨S8x4096x512, .f32⟩
  | .hbm, ⟨26, _⟩ => ⟨S_, .f32⟩
  | .hbm, ⟨27, _⟩ => ⟨S8x4096x512, .f32⟩
  | .hbm, ⟨28, _⟩ => ⟨S8x4096x512, .f32⟩
  | .hbm, ⟨29, _⟩ => ⟨S8x4096x512, .f32⟩
  | .hbm, ⟨30, _⟩ => ⟨S8x4096x512, .f32⟩
  | .hbm, ⟨31, _⟩ => ⟨S8x4096x512, .f32⟩
  | .hbm, ⟨32, _⟩ => ⟨S8x4096x512, .f32⟩
  | .hbm, ⟨33, _⟩ => ⟨S_, .f32⟩
  | .hbm, ⟨34, _⟩ => ⟨S8x4096x512, .f32⟩
  | .hbm, ⟨35, _⟩ => ⟨S8x4096x512, .f32⟩
  | .hbm, ⟨36, _⟩ => ⟨S_, .f32⟩
  | .hbm, ⟨37, _⟩ => ⟨S8x4096x512, .f32⟩
  | .hbm, ⟨38, _⟩ => ⟨S8x4096x512, .f32⟩
  | .hbm, ⟨39, _⟩ => ⟨S8x4096x512, .f32⟩
  | .hbm, ⟨40, _⟩ => ⟨S8x4096x512, .f32⟩
  | .hbm, ⟨41, _⟩ => ⟨S8x4096x256, .f32⟩
  | .hbm, ⟨42, _⟩ => ⟨S8x4096x256, .f32⟩
  | .hbm, ⟨43, _⟩ => ⟨S_, .f32⟩
  | .hbm, ⟨44, _⟩ => ⟨S8x4096x256, .f32⟩
  | .hbm, ⟨45, _⟩ => ⟨S8x4096x256, .f32⟩
  | .hbm, ⟨46, _⟩ => ⟨S_, .f32⟩
  | .hbm, ⟨47, _⟩ => ⟨S8x4096x256, .f32⟩
  | .hbm, ⟨48, _⟩ => ⟨S8x4096x256, .f32⟩
  | .hbm, ⟨49, _⟩ => ⟨S8x4096x256, .f32⟩
  | .hbm, ⟨50, _⟩ => ⟨S8x4096x256, .f32⟩
  | .hbm, ⟨51, _⟩ => ⟨S8x4096x1280, .f32⟩
  | .hbm, ⟨52, _⟩ => ⟨S8x4096x1024, .f32⟩
  | .hbm, ⟨53, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_call0_v5 : Ref sig .tc := ⟨.hbm, 28, rfl⟩
abbrev main_v15 : Ref sig .tc := ⟨.hbm, 29, rfl⟩
abbrev main_v16 : Ref sig .tc := ⟨.hbm, 30, rfl⟩
abbrev main_call1_v0 : Ref sig .tc := ⟨.hbm, 31, rfl⟩
abbrev main_call1_v1 : Ref sig .tc := ⟨.hbm, 32, rfl⟩
abbrev main_call1_cst : Ref sig .tc := ⟨.hbm, 33, rfl⟩
abbrev main_call1_v2 : Ref sig .tc := ⟨.hbm, 34, rfl⟩
abbrev main_call1_v3 : Ref sig .tc := ⟨.hbm, 35, rfl⟩
abbrev main_call1_cst_0 : Ref sig .tc := ⟨.hbm, 36, rfl⟩
abbrev main_call1_v4 : Ref sig .tc := ⟨.hbm, 37, rfl⟩
abbrev main_call1_v5 : Ref sig .tc := ⟨.hbm, 38, rfl⟩
abbrev main_v17 : Ref sig .tc := ⟨.hbm, 39, rfl⟩
abbrev main_v18 : Ref sig .tc := ⟨.hbm, 40, rfl⟩
abbrev main_call2_v0 : Ref sig .tc := ⟨.hbm, 41, rfl⟩
abbrev main_call2_v1 : Ref sig .tc := ⟨.hbm, 42, rfl⟩
abbrev main_call2_cst : Ref sig .tc := ⟨.hbm, 43, rfl⟩
abbrev main_call2_v2 : Ref sig .tc := ⟨.hbm, 44, rfl⟩
abbrev main_call2_v3 : Ref sig .tc := ⟨.hbm, 45, rfl⟩
abbrev main_call2_cst_0 : Ref sig .tc := ⟨.hbm, 46, rfl⟩
abbrev main_call2_v4 : Ref sig .tc := ⟨.hbm, 47, rfl⟩
abbrev main_call2_v5 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩

abbrev nD : Nat := 1
abbrev τ : Topo := Topo.v7x

variable {F : FTy → Type} [FloatOps F]
-- ==== Cross.lean ====
abbrev S8x4096x256 : Shape := ⟨3, ![8, 4096, 256]⟩
abbrev S8x256x4x64 : Shape := ⟨4, ![8, 256, 4, 64]⟩
abbrev S64 : Shape := ⟨1, ![64]⟩
abbrev S1x8x256x256 : Shape := ⟨4, ![1, 8, 256, 256]⟩
abbrev S1x64 : Shape := ⟨2, ![1, 64]⟩
abbrev S1x1x1x64 : Shape := ⟨4, ![1, 1, 1, 64]⟩
abbrev S1x1x2x64 : Shape := ⟨4, ![1, 1, 2, 64]⟩
abbrev S1x128 : Shape := ⟨2, ![1, 128]⟩
abbrev S1x1024x256 : Shape := ⟨3, ![1, 1024, 256]⟩
abbrev S1x1x256x256 : Shape := ⟨4, ![1, 1, 256, 256]⟩
abbrev S1024x128 : Shape := ⟨2, ![1024, 128]⟩
abbrev S128x1024 : Shape := ⟨2, ![128, 1024]⟩
abbrev S1x1024x128 : Shape := ⟨3, ![1, 1024, 128]⟩
abbrev S128x128 : Shape := ⟨2, ![128, 128]⟩
abbrev S1x1x256x128 : Shape := ⟨4, ![1, 1, 256, 128]⟩
abbrev S256x128 : Shape := ⟨2, ![256, 128]⟩
abbrev S256x1024 : Shape := ⟨2, ![256, 1024]⟩
abbrev S256x4096 : Shape := ⟨2, ![256, 4096]⟩
abbrev S4096 : Shape := ⟨1, ![4096]⟩
abbrev S1x4096 : Shape := ⟨2, ![1, 4096]⟩
abbrev S256x2048 : Shape := ⟨2, ![256, 2048]⟩
abbrev S128x2048 : Shape := ⟨2, ![128, 2048]⟩
abbrev S1x2048 : Shape := ⟨2, ![1, 2048]⟩

abbrev nBuf : Space → Nat
  | .hbm => 14
  | .vmem => 9
  | .smem => 0
  | _ => 0

abbrev bufTy : (tb : Table) → Fin (tcTables nBuf tb) → BufTy
  | .hbm, ⟨0, _⟩ => ⟨S8x4096x256, .f32⟩
  | .hbm, ⟨1, _⟩ => ⟨S8x256x4x64, .f32⟩
  | .hbm, ⟨2, _⟩ => ⟨S8x256x4x64, .f32⟩
  | .hbm, ⟨3, _⟩ => ⟨S64, .f32⟩
  | .hbm, ⟨4, _⟩ => ⟨S1x8x256x256, .f32⟩
  | .hbm, ⟨5, _⟩ => ⟨S1x8x256x256, .bf16⟩
  | .hbm, ⟨6, _⟩ => ⟨S1x8x256x256, .f32⟩
  | .hbm, ⟨7, _⟩ => ⟨S1x8x256x256, .bf16⟩
  | .hbm, ⟨8, _⟩ => ⟨S8x4096x256, .bf16⟩
  | .hbm, ⟨9, _⟩ => ⟨S1x64, .f32⟩
  | .hbm, ⟨10, _⟩ => ⟨S1x1x1x64, .f32⟩
  | .hbm, ⟨11, _⟩ => ⟨S1x1x2x64, .f32⟩
  | .hbm, ⟨12, _⟩ => ⟨S1x128, .f32⟩
  | .hbm, ⟨13, _⟩ => ⟨S8x4096x256, .bf16⟩
  | .local _ .vmem, ⟨0, _⟩ => ⟨S1x1024x256, .bf16⟩
  | .local _ .vmem, ⟨1, _⟩ => ⟨S1x1024x256, .bf16⟩
  | .local _ .vmem, ⟨2, _⟩ => ⟨S1x1x256x256, .bf16⟩
  | .local _ .vmem, ⟨3, _⟩ => ⟨S1x1x256x256, .bf16⟩
  | .local _ .vmem, ⟨4, _⟩ => ⟨S1x1x256x256, .bf16⟩
  | .local _ .vmem, ⟨5, _⟩ => ⟨S1x1x256x256, .bf16⟩
  | .local _ .vmem, ⟨6, _⟩ => ⟨S1x128, .f32⟩
  | .local _ .vmem, ⟨7, _⟩ => ⟨S1x1024x256, .bf16⟩
  | .local _ .vmem, ⟨8, _⟩ => ⟨S1x1024x256, .bf16⟩
  | _, _ => ⟨S8x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== CrossIdeal.lean ====
variable {F : FTy → Type} [FloatOps F] [Named F]
def κ : String → Option EReal := fun
  | "scale" => some (((1 / 8) * (Real.log 2)⁻¹ : ℝ) : EReal)
  | _ => none
-- ==== CrossRefIdeal.lean ====
abbrev S8x4096x256 : Shape := ⟨3, ![8, 4096, 256]⟩
abbrev S8x256x4x64 : Shape := ⟨4, ![8, 256, 4, 64]⟩
abbrev S64 : Shape := ⟨1, ![64]⟩
abbrev S8x4096x4x64 : Shape := ⟨4, ![8, 4096, 4, 64]⟩
abbrev S_ : Shape := ⟨0, ![]⟩
abbrev S8x4096x4 : Shape := ⟨3, ![8, 4096, 4]⟩
abbrev S8x4096x4x1 : Shape := ⟨4, ![8, 4096, 4, 1]⟩
abbrev S1x1x1x64 : Shape := ⟨4, ![1, 1, 1, 64]⟩
abbrev S8x4x4096x256 : Shape := ⟨4, ![8, 4, 4096, 256]⟩
abbrev S8x4x4096 : Shape := ⟨3, ![8, 4, 4096]⟩
abbrev S8x4x4096x1 : Shape := ⟨4, ![8, 4, 4096, 1]⟩
abbrev S8x4x64x4096 : Shape := ⟨4, ![8, 4, 64, 4096]⟩

abbrev nBuf : Space → Nat
  | .hbm => 43
  | .vmem => 0
  | .smem => 0
  | _ => 0

abbrev bufTy : (tb : Table) → Fin (tcTables nBuf tb) → BufTy
  | .hbm, ⟨0, _⟩ => ⟨S8x4096x256, .f32⟩
  | .hbm, ⟨1, _⟩ => ⟨S8x256x4x64, .f32⟩
  | .hbm, ⟨2, _⟩ => ⟨S8x256x4x64, .f32⟩
  | .hbm, ⟨3, _⟩ => ⟨S64, .f32⟩
  | .hbm, ⟨4, _⟩ => ⟨S8x4096x4x64, .f32⟩
  | .hbm, ⟨5, _⟩ => ⟨S8x4096x4x64, .f32⟩
  | .hbm, ⟨6, _⟩ => ⟨S_, .f32⟩
  | .hbm, ⟨7, _⟩ => ⟨S8x4096x4, .f32⟩
  | .hbm, ⟨8, _⟩ => ⟨S8x4096x4x1, .f32⟩
  | .hbm, ⟨9, _⟩ => ⟨S_, .f32⟩
  | .hbm, ⟨10, _⟩ => ⟨S8x4096x4x1, .f32⟩
  | .hbm, ⟨11, _⟩ => ⟨S8x4096x4x1, .f32⟩
  | .hbm, ⟨12, _⟩ => ⟨S_, .f32⟩
  | .hbm, ⟨13, _⟩ => ⟨S8x4096x4x1, .f32⟩
  | .hbm, ⟨14, _⟩ => ⟨S8x4096x4x1, .f32⟩
  | .hbm, ⟨15, _⟩ => ⟨S8x4096x4x1, .f32⟩
  | .hbm, ⟨16, _⟩ => ⟨S8x4096x4x64, .f32⟩
  | .hbm, ⟨17, _⟩ => ⟨S8x4096x4x64, .f32⟩
  | .hbm, ⟨18, _⟩ => ⟨S1x1x1x64, .f32⟩
  | .hbm, ⟨19, _⟩ => ⟨S8x4096x4x64, .f32⟩
  | .hbm, ⟨20, _⟩ => ⟨S8x4096x4x64, .f32⟩
  | .hbm, ⟨21, _⟩ => ⟨S8x4x4096x256, .f32⟩
  | .hbm, ⟨22, _⟩ => ⟨S_, .f32⟩
  | .hbm, ⟨23, _⟩ => ⟨S8x4x4096x256, .f32⟩
  | .hbm, ⟨24, _⟩ => ⟨S8x4x4096x256, .f32⟩
  | .hbm, ⟨25, _⟩ => ⟨S_, .f32⟩
  | .hbm, ⟨26, _⟩ => ⟨S8x4x4096, .f32⟩
  | .hbm, ⟨27, _⟩ => ⟨S_, .f32⟩
  | .hbm, ⟨28, _⟩ => ⟨S8x4x4096, .f32⟩
  | .hbm, ⟨29, _⟩ => ⟨S8x4x4096, .f32⟩
  | .hbm, ⟨30, _⟩ => ⟨S8x4x4096x1, .f32⟩
  | .hbm, ⟨31, _⟩ => ⟨S8x4x4096x256, .f32⟩
  | .hbm, ⟨32, _⟩ => ⟨S8x4x4096x256, .f32⟩
  | .hbm, ⟨33, _⟩ => ⟨S8x4x4096x256, .f32⟩
  | .hbm, ⟨34, _⟩ => ⟨S_, .f32⟩
  | .hbm, ⟨35, _⟩ => ⟨S8x4x4096, .f32⟩
  | .hbm, ⟨36, _⟩ => ⟨S8x4x4096x1, .f32⟩
  | .hbm, ⟨37, _⟩ => ⟨S8x4x4096x256, .f32⟩
  | .hbm, ⟨38, _⟩ => ⟨S8x4x4096x256, .f32⟩
  | .hbm, ⟨39, _⟩ => ⟨S8x4x64x4096, .f32⟩
  | .hbm, ⟨40, _⟩ => ⟨S8x4096x4x64, .f32⟩
  | .hbm, ⟨41, _⟩ => ⟨S8x4096x256, .f32⟩
  | .hbm, ⟨42, _⟩ => ⟨S8x4096x256, .bf16⟩
  | _, _ => ⟨S8x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== Proof.Flash.lean ====
module
public import Idealize.ShloMosaic.Lib.Pointwise
@[expose] public noncomputable section
open Idealize.ShloMosaic

/-!
# A softmax taken tile by tile, over the extended reals

One query reads the keys in tiles. It keeps the largest score met (`m`), the sum of the powers of two of the scores less
`m` (`l`), and the same sum with the values as weights (`a`). A masked key has the score `⊥`.
-/

namespace Attn

/-- What one query holds after the first `n` keys: scores `σ`, values `v`. -/
structure Held (σ v : ℕ → EReal) (n : ℕ) (m l a : EReal) : Prop where
  top : m = (Finset.range n).sup σ
  tot : l = ∑ j ∈ Finset.range n, Ideal.exp2 (σ j - m)
  acc : a = ∑ j ∈ Finset.range n, v j * Ideal.exp2 (σ j - m)

/-- No key read yet. -/
theorem Held.zero (σ v : ℕ → EReal) : Held σ v 0 ⊥ 0 0 := ⟨by simp, by simp, by simp⟩

theorem exp2_nonneg (x : EReal) : 0 ≤ Ideal.exp2 x := by
  induction x using EReal.rec with
  | bot => simp
  | top => simp
  | coe r => rw [Ideal.exp2_coe]; exact_mod_cast (Real.rpow_pos_of_pos two_pos r).le

theorem exp2_ne_top {x : EReal} (h : x ≠ ⊤) : Ideal.exp2 x ≠ ⊤ := by
  induction x using EReal.rec with
  | bot => simp
  | top => exact absurd rfl h
  | coe r => rw [Ideal.exp2_coe]; exact EReal.coe_ne_top _

/-- Moving the reference point of a power of two from `m` up to `m'`. -/
theorem exp2_shift {s m m' : EReal} (hs : s ≤ m) (hm : m ≤ m') (ht : m' ≠ ⊤) :
    Ideal.exp2 (m - m') * Ideal.exp2 (s - m) = Ideal.exp2 (s - m') := by
  induction m using EReal.rec with
  | bot =>
    have : s = ⊥ := le_bot_iff.mp hs
    subst this
    simp [sub_eq_add_neg]
  | top => exact absurd (top_le_iff.mp hm) ht
  | coe a =>
    induction m' using EReal.rec with
    | bot => exact absurd (le_bot_iff.mp hm) (EReal.coe_ne_bot a)
    | top => exact absurd rfl ht
    | coe b =>
      induction s using EReal.rec with
      | bot => simp [sub_eq_add_neg]
      | top => exact absurd (top_le_iff.mp hs) (EReal.coe_ne_top a)
      | coe r =>
        rw [← EReal.coe_sub, ← EReal.coe_sub, ← EReal.coe_sub, Ideal.exp2_coe, Ideal.exp2_coe, Ideal.exp2_coe, ← EReal.coe_mul]
        congr 1
        show (2 : ℝ) ^ (a - b) * (2 : ℝ) ^ (r - a) = (2 : ℝ) ^ (r - b)
        rw [← Real.rpow_add two_pos]
        congr 1; ring

/-- A non-negative real factor goes into a sum of extended reals. -/
theorem mul_sum {ι : Type} (s : Finset ι) (f : ι → EReal) {x : EReal} (h0 : 0 ≤ x) (ht : x ≠ ⊤) :
    x * ∑ j ∈ s, f j = ∑ j ∈ s, x * f j := by
  classical
  induction s using Finset.induction_on with
  | empty => simp
  | insert a s ha ih =>
    rw [Finset.sum_insert ha, Finset.sum_insert ha, ← ih, EReal.left_distrib_of_nonneg_of_ne_top h0 ht]

theorem sup_range_ne_top {σ : ℕ → EReal} (h : ∀ j, σ j ≠ ⊤) (n : ℕ) : (Finset.range n).sup σ ≠ ⊤ := by
  induction n with
  | zero => simp
  | succ n ih =>
    rw [Finset.range_add_one, Finset.sup_insert]
    rcases max_choice (σ n) ((Finset.range n).sup σ) with e | e
    · rw [e]; exact h n
    · rw [e]; exact ih

theorem sup_range_add (σ : ℕ → EReal) (n T : ℕ) :
    (Finset.range (n + T)).sup σ = max ((Finset.range n).sup σ) (Finset.univ.sup fun r : Fin T => σ (n + r)) := by
  apply le_antisymm
  · refine Finset.sup_le fun j hj => ?_
    rcases lt_or_ge j n with h | h
    · exact le_max_of_le_left (Finset.le_sup (f := σ) (Finset.mem_range.mpr h))
    · have hj' := Finset.mem_range.mp hj
      refine le_max_of_le_right ?_
      have := Finset.le_sup (f := fun r : Fin T => σ (n + r)) (Finset.mem_univ ⟨j - n, by omega⟩)
      simpa [Nat.add_sub_cancel' h] using this
  · refine max_le (Finset.sup_mono (Finset.range_mono (by omega))) (Finset.sup_le fun r _ => ?_)
    exact Finset.le_sup (f := σ) (Finset.mem_range.mpr (by omega))

/-- ONE TILE of `T` keys more. -/
theorem Held.tile {σ v : ℕ → EReal} {n : ℕ} {m l a : EReal} (h : Held σ v n m l a) (hσ : ∀ j, σ j ≠ ⊤)
    (T : ℕ) (S V : Fin T → EReal) (hS : ∀ r : Fin T, S r = σ (n + r)) (hV : ∀ r : Fin T, V r = v (n + r)) :
    Held σ v (n + T) (max m (Finset.univ.fold max ⊥ S))
      (Ideal.exp2 (m - max m (Finset.univ.fold max ⊥ S)) * l + ∑ r, Ideal.exp2 (S r - max m (Finset.univ.fold max ⊥ S)))
      (Ideal.exp2 (m - max m (Finset.univ.fold max ⊥ S)) * a
        + ∑ r, V r * Ideal.exp2 (S r - max m (Finset.univ.fold max ⊥ S))) := by
  have hm' : max m (Finset.univ.fold max ⊥ S) = (Finset.range (n + T)).sup σ := by
    rw [sup_range_add, ← h.top]
    congr 1
    show Finset.univ.sup S = _
    exact Finset.sup_congr rfl fun r _ => hS r
  have hle : m ≤ (Finset.range (n + T)).sup σ := by rw [← hm']; exact le_max_left _ _
  have hnt := sup_range_ne_top hσ (n + T)
  generalize max m (Finset.univ.fold max ⊥ S) = m' at hm'
  subst hm'
  have hα := exp2_nonneg (m - (Finset.range (n + T)).sup σ)
  have hαt : Ideal.exp2 (m - (Finset.range (n + T)).sup σ) ≠ ⊤ := by
    refine exp2_ne_top fun e => ?_
    have hm : m ≠ ⊤ := by rw [h.top]; exact sup_range_ne_top hσ n
    revert hle hnt hm e
    generalize (Finset.range (n + T)).sup σ = b
    induction m using EReal.rec with
    | bot => intros; simp_all [sub_eq_add_neg]
    | top => intros; simp_all
    | coe x =>
      induction b using EReal.rec with
      | bot => intro hle; exact absurd (le_bot_iff.mp hle) (EReal.coe_ne_bot x)
      | top => intro _ hn; exact absurd rfl hn
      | coe y => intro _ _ e _; rw [← EReal.coe_sub] at e; exact absurd e (EReal.coe_ne_top _)
  have hs : ∀ j ∈ Finset.range n, σ j ≤ m := fun j hj => by rw [h.top]; exact Finset.le_sup (f := σ) hj
  refine ⟨rfl, ?_, ?_⟩
  · rw [Finset.sum_range_add, h.tot, mul_sum _ _ hα hαt, Finset.sum_range fun r => Ideal.exp2 (σ (n + r) - _)]
    congr 1
    · exact Finset.sum_congr rfl fun j hj => exp2_shift (hs j hj) hle hnt
    · exact Finset.sum_congr rfl fun r _ => by rw [hS]
  · rw [Finset.sum_range_add, h.acc, mul_sum _ _ hα hαt, Finset.sum_range fun r => v (n + r) * Ideal.exp2 (σ (n + r) - _)]
    congr 1
    · refine Finset.sum_congr rfl fun j hj => ?_
      rw [mul_left_comm, exp2_shift (hs j hj) hle hnt]
    · exact Finset.sum_congr rfl fun r _ => by rw [hS, hV]

/-- Keys whose score is `⊥` change nothing. -/
theorem Held.masked {σ v : ℕ → EReal} {n : ℕ} {m l a : EReal} (h : Held σ v n m l a) {N : ℕ} (hN : n ≤ N)
    (hb : ∀ j, n ≤ j → j < N → σ j = ⊥) : Held σ v N m l a := by
  obtain ⟨T, rfl⟩ := Nat.exists_eq_add_of_le hN
  have hx : ∀ r ∈ Finset.range T, σ (n + r) = ⊥ := fun r hr => hb _ (by omega) (by have := Finset.mem_range.mp hr; omega)
  refine ⟨?_, ?_, ?_⟩
  · rw [sup_range_add, ← h.top]
    refine (max_eq_left (Finset.sup_le fun r _ => ?_)).symm
    rw [hx r (Finset.mem_range.mpr r.2)]; exact bot_le
  · rw [Finset.sum_range_add, ← h.tot, Finset.sum_eq_zero, add_zero]
    intro r hr; rw [hx r hr]; simp [sub_eq_add_neg]
  · rw [Finset.sum_range_add, ← h.acc, Finset.sum_eq_zero, add_zero]
    intro r hr; rw [hx r hr]; simp [sub_eq_add_neg]

/-- The same scores on the first `n` keys. -/
theorem Held.congr {σ τ v w : ℕ → EReal} {n : ℕ} {m l a : EReal} (h : Held σ v n m l a)
    (hs : ∀ j, j < n → σ j = τ j) (hv : ∀ j, j < n → v j = w j) : Held τ w n m l a := by
  refine ⟨h.top.trans (Finset.sup_congr rfl fun j hj => hs j (Finset.mem_range.mp hj)), h.tot.trans ?_, h.acc.trans ?_⟩
  · exact Finset.sum_congr rfl fun j hj => by rw [hs j (Finset.mem_range.mp hj)]
  · exact Finset.sum_congr rfl fun j hj => by rw [hs j (Finset.mem_range.mp hj), hv j (Finset.mem_range.mp hj)]

end Attn
-- ==== Proof.Blocks.lean ====
module
public import proofs.«01_k».proof.Proof.Gen.KernelIdeal.Skeleton
public import proofs.«01_k».proof.Proof.Flash
public import Idealize.ShloMosaic.Lib.Pipeline.ValueKit
public import Idealize.ShloMosaic.Lib.Pointwise
public import Idealize.ShloMosaic.Lib.WordCmp
set_option maxRecDepth 16384
@[expose] public noncomputable section
open Idealize.ShloMosaic Idealize.ShloMosaic.TcCoe Idealize.SL.Sem

/-!
# The attention body's values, read at an index

The body holds four heads side by side: column `1024 * e + x` is head `e`'s query `x`. Each value that the body names is
read here at such a column.
-/

namespace Cert.KernelIdeal.Value
open Cert.KernelIdeal Cert.KernelIdeal.Gen

/-- Head `e`'s query `x`, as a column of the four heads side by side. -/
def col (e : Fin 4) (x : Fin 1024) : Fin 4096 := ⟨1024 * e + x, by omega⟩
/-- The same among the upper halves of the heads. -/
def half (e : Fin 4) (x : Fin 512) : Fin 2048 := ⟨512 * e + x, by omega⟩
/-- A query of the upper half. -/
def up (x : Fin 512) : Fin 1024 := ⟨512 + x, by omega⟩

theorem neg_inf : Ideal.ofBits FTy.f32 4286578688#32 = ⊥ := by simp [Ideal.ofBits, Ideal.ieee]
theorem fexp2 (x : EReal) : FloatOps.exp2 (F := Ideal) (φ := .f32) x = Ideal.exp2 x := rfl
theorem mask_bot : (Named.named (F := Ideal) κ "mask" (φ := .f32) 4048155338#32) = (⊥ : EReal) :=
  IdealRules.named_const.ideal_named_scalar κ _ _ _ (by rfl)

/-- Four pieces of 1024 columns side by side. -/
theorem four (f : Fin 4 → Fin 1024 → EReal) (e : Fin 4) (x : Fin 1024) :
    (if h : 1024 * (e : ℕ) + x < 1024 then f 0 ⟨1024 * e + x, h⟩
      else if h : 1024 * (e : ℕ) + x - 1024 < 1024 then f 1 ⟨1024 * e + x - 1024, h⟩
      else if h : 1024 * (e : ℕ) + x - 1024 - 1024 < 1024 then f 2 ⟨1024 * e + x - 1024 - 1024, h⟩
      else f 3 ⟨1024 * e + x - 1024 - 1024 - 1024, by omega⟩) = f e x := by
  split_ifs with h0 h1 h2
  · obtain rfl : e = 0 := Fin.ext (by simp; omega)
    congr 1; exact Fin.ext (by simp)
  · obtain rfl : e = 1 := Fin.ext (by simp; omega)
    congr 1; exact Fin.ext (by simp)
  · obtain rfl : e = 2 := Fin.ext (by simp; omega)
    congr 1; exact Fin.ext (by simp; omega)
  · obtain rfl : e = 3 := Fin.ext (by simp; omega)
    congr 1; exact Fin.ext (by simp; omega)

/-- Four pieces of 512 columns side by side. -/
theorem four_half (f : Fin 4 → Fin 512 → EReal) (e : Fin 4) (x : Fin 512) :
    (if h : 512 * (e : ℕ) + x < 512 then f 0 ⟨512 * e + x, h⟩
      else if h : 512 * (e : ℕ) + x - 512 < 512 then f 1 ⟨512 * e + x - 512, h⟩
      else if h : 512 * (e : ℕ) + x - 512 - 512 < 512 then f 2 ⟨512 * e + x - 512 - 512, h⟩
      else f 3 ⟨512 * e + x - 512 - 512 - 512, by omega⟩) = f e x := by
  split_ifs with h0 h1 h2
  · obtain rfl : e = 0 := Fin.ext (by simp; omega)
    congr 1; exact Fin.ext (by simp)
  · obtain rfl : e = 1 := Fin.ext (by simp; omega)
    congr 1; exact Fin.ext (by simp)
  · obtain rfl : e = 2 := Fin.ext (by simp; omega)
    congr 1; exact Fin.ext (by simp; omega)
  · obtain rfl : e = 3 := Fin.ext (by simp; omega)
    congr 1; exact Fin.ext (by simp; omega)

/-- The pair of heads that head `e` belongs to. -/
def pair (e : Fin 4) : Fin 2 := ⟨e / 2, by omega⟩

section
variable (q0 q1 q2 q3 : Vec Ideal S1x1x1024x128 .bf16) (k0 k1 k2 k3 : Vec Ideal S1x1x512x128 .bf16)
  (w0 w1 : Vec Ideal S1x512x128 .bf16)

/-- A score of one tile: key `r` of head `e` against query `x`. -/
def dotp (e : Fin 4) (r : Fin 512) (x : Fin 1024) : EReal :=
  ∑ d : Fin 128, (![k0, k1, k2, k3] e) (ix4 0 0 r d) * (![q0, q1, q2, q3] e) (ix4 0 0 x d)

theorem scores_at (e : Fin 4) (r : Fin 512) (x : Fin 1024) :
    k0_pay1 (F := Ideal) (k0_pay12 q0) (k0_pay13 q1) (k0_pay14 q2) (k0_pay15 q3) k0 k1 k2 k3 (ix2 r (col e x))
      = dotp q0 q1 q2 q3 k0 k1 k2 k3 e r x := by
  pointwise [k0_pay1, k0_pay12, k0_pay13, k0_pay14, k0_pay15, col, dotp]
  exact four (fun e x => ∑ d, ![k0, k1, k2, k3] e (ix4 0 0 r d) * ![q0, q1, q2, q3] e (ix4 0 0 x d)) e x

/-- The accumulator after a tile: rescaled, plus the tile's values under the weights. -/
theorem acc_at (e : Fin 4) (x : Fin 1024) (ln : Fin 128) (a : FVec Ideal S128x4096 .f32) (α : FVec Ideal S1x4096 .f32)
    (p : FVec Ideal S512x4096 .f32) :
    k0_pay19 (F := Ideal) a α p w0 w1 (ix2 ln (col e x)) = α (ix2 0 (col e x)) * a (ix2 ln (col e x))
      + ∑ r : Fin 512, (![w0, w1] (pair e)) (ix3 0 r ln) * p (ix2 r (col e x)) := by
  pointwise [k0_pay19]
  refine congrArg₂ (· + ·) rfl ?_
  by_cases h : (col e x).val < 2048
  · rw [dif_pos h]
    have : pair e = 0 := Fin.ext (by show e.val / 2 = 0; have : 1024 * e.val + x < 2048 := h; omega)
    rw [this]; rfl
  · rw [dif_neg h]
    have : pair e = 1 := Fin.ext (by show e.val / 2 = 1; have : ¬ 1024 * e.val + x < 2048 := h; omega)
    rw [this]
    refine Finset.sum_congr rfl fun r _ => congrArg (_ * p ·) (congrArg (ix2 r) (Fin.ext ?_))
    show 2048 + ((col e x).val - 2048) = _
    omega

section
variable (m l : FVec Ideal S1x4096 .f32) (c : Fin 4096)
local notation "Sc" => k0_pay1 (F := Ideal) (k0_pay12 q0) (k0_pay13 q1) (k0_pay14 q2) (k0_pay15 q3) k0 k1 k2 k3
local notation "Mx" => k0_pay2 (F := Ideal) (k0_pay12 q0) (k0_pay13 q1) (k0_pay14 q2) (k0_pay15 q3) m k0 k1 k2 k3

/-- The largest entry of each column. -/
theorem red_max (S : FVec Ideal S512x4096 .f32) :
    multiReduction (F := Ideal) .maximumf [0] S4096 S 0xFF800000#32 reduces_S512x4096_S4096 (.inl rfl) rfl (ix1 c)
      = Finset.univ.fold max ⊥ fun r => (S (ix2 r c) : EReal) := by
  pointwise; rw [neg_inf]
theorem max_row (R : FVec Ideal S4096 .f32) :
    maximumf m (shapeCast S1x4096 R shapeCasts_S4096_S1x4096) (ix2 0 c) = max (m (ix2 0 c)) (R (ix1 c)) := by
  pointwise
theorem loop_m : Mx (ix2 0 c) = max (m (ix2 0 c)) (Finset.univ.fold max ⊥ fun r => Sc (ix2 r c)) :=
  (max_row m c _).trans (congrArg (max _) (red_max c _))
theorem loop_al : k0_pay3 (F := Ideal) (k0_pay12 q0) (k0_pay13 q1) (k0_pay14 q2) (k0_pay15 q3) m k0 k1 k2 k3 (ix2 0 c) = Ideal.exp2 (m (ix2 0 c) - Mx (ix2 0 c)) := by
  pointwise [k0_pay3]; simp only [fexp2]
theorem loop_p (r : Fin 512) : k0_pay4 (F := Ideal) (k0_pay12 q0) (k0_pay13 q1) (k0_pay14 q2) (k0_pay15 q3) m k0 k1 k2 k3 (ix2 r c) = Ideal.exp2 (Sc (ix2 r c) - Mx (ix2 0 c)) := by
  pointwise [k0_pay4]; simp only [fexp2]
theorem loop_l : k0_pay5 (F := Ideal) (k0_pay12 q0) (k0_pay13 q1) (k0_pay14 q2) (k0_pay15 q3) m l k0 k1 k2 k3 (ix2 0 c)
    = Ideal.exp2 (m (ix2 0 c) - Mx (ix2 0 c)) * l (ix2 0 c) + ∑ r, Ideal.exp2 (Sc (ix2 r c) - Mx (ix2 0 c)) := by
  pointwise [k0_pay5, k0_pay3, k0_pay4]; simp only [fexp2]
end

/-- ONE TILE of the loop, at one query and one lane of the values. -/
theorem trip_held {σ v : ℕ → EReal} (hσ : ∀ j, σ j ≠ ⊤) {n : ℕ} (e : Fin 4) (x : Fin 1024) (ln : Fin 128)
    (m l : FVec Ideal S1x4096 .f32) (a : FVec Ideal S128x4096 .f32)
    (hs : ∀ r : Fin 512, dotp q0 q1 q2 q3 k0 k1 k2 k3 e r x = σ (n + r))
    (hv : ∀ r : Fin 512, (![w0, w1] (pair e)) (ix3 0 r ln) = v (n + r))
    (h : Attn.Held σ v n (m (ix2 0 (col e x))) (l (ix2 0 (col e x))) (a (ix2 ln (col e x)))) :
    Attn.Held σ v (n + 512)
      (k0_pay2 (F := Ideal) (k0_pay12 q0) (k0_pay13 q1) (k0_pay14 q2) (k0_pay15 q3) m k0 k1 k2 k3 (ix2 0 (col e x)))
      (k0_pay5 (F := Ideal) (k0_pay12 q0) (k0_pay13 q1) (k0_pay14 q2) (k0_pay15 q3) m l k0 k1 k2 k3 (ix2 0 (col e x)))
      (k0_pay19 a (k0_pay3 (F := Ideal) (k0_pay12 q0) (k0_pay13 q1) (k0_pay14 q2) (k0_pay15 q3) m k0 k1 k2 k3) (k0_pay4 (F := Ideal) (k0_pay12 q0) (k0_pay13 q1) (k0_pay14 q2) (k0_pay15 q3) m k0 k1 k2 k3) w0 w1
        (ix2 ln (col e x))) := by
  rw [acc_at, loop_l, loop_al, loop_m]
  simp only [loop_p, loop_m]
  exact h.tile hσ 512 _ _ (fun r => (scores_at ..).trans (hs r)) hv
end

end Cert.KernelIdeal.Value
-- ==== Proof.Diag.lean ====
module
public import proofs.«01_k».proof.Proof.Gen.KernelIdeal.Skeleton
public import proofs.«01_k».proof.Proof.Blocks
public import Idealize.ShloMosaic.Lib.Pipeline.ValueKit
public import Idealize.ShloMosaic.Lib.Pointwise
public import Idealize.ShloMosaic.Lib.WordCmp
set_option maxRecDepth 16384
@[expose] public noncomputable section
open Idealize.ShloMosaic Idealize.ShloMosaic.TcCoe Idealize.SL.Sem

/-!
# The two diagonal tiles of the attention body

The first holds all queries of the block, the second only the upper half of each head.
-/

namespace Cert.KernelIdeal.Value
open Cert.KernelIdeal Cert.KernelIdeal.Gen
variable (q0 q1 q2 q3 : Vec Ideal S1x1x1024x128 .bf16) (k0 k1 k2 k3 : Vec Ideal S1x1x512x128 .bf16)
  (w0 w1 : Vec Ideal S1x512x128 .bf16)

section
variable (m l : FVec Ideal S1x4096 .f32) (a : FVec Ideal S128x4096 .f32) (bias : FVec Ideal S512x1024 .f32)
local notation "Sc" => k0_pay29 (F := Ideal) (k0_pay15 q3) bias (k0_pay26 (k0_pay12 q0) k0) (k0_pay27 (k0_pay13 q1) k1) (k0_pay28 (k0_pay14 q2) k2) k3
local notation "Mx" => k0_pay30 (F := Ideal) (k0_pay15 q3) bias m (k0_pay26 (k0_pay12 q0) k0) (k0_pay27 (k0_pay13 q1) k1) (k0_pay28 (k0_pay14 q2) k2) k3

theorem low_s (e : Fin 4) (r : Fin 512) (x : Fin 1024) :
    Sc (ix2 r (col e x)) = dotp q0 q1 q2 q3 k0 k1 k2 k3 e r x + bias (ix2 r x) := by
  pointwise [k0_pay29, k0_pay26, k0_pay27, k0_pay28, k0_pay12, k0_pay13, k0_pay14, k0_pay15, col, dotp, up]
  exact congrArg₂ (· + ·) (four (fun e x => ∑ d, ![k0, k1, k2, k3] e (ix4 0 0 r d) * ![q0, q1, q2, q3] e (ix4 0 0 x d)) e x)
    (four (fun _ x => bias (ix2 r x)) e x)

theorem low_red (S : FVec Ideal S512x4096 .f32) (c : Fin 4096) :
    multiReduction (F := Ideal) .maximumf [0] S4096 S 0xFF800000#32 reduces_S512x4096_S4096 (.inl rfl) rfl (ix1 c)
      = Finset.univ.fold max ⊥ fun r => (S (ix2 r c) : EReal) := by
  pointwise; rw [neg_inf]
theorem low_row (R : FVec Ideal S4096 .f32) (c : Fin 4096) :
    maximumf m (shapeCast S1x4096 R shapeCasts_S4096_S1x4096) (ix2 0 c) = max (m (ix2 0 c)) (R (ix1 c)) := by
  pointwise
theorem low_m (c : Fin 4096) : Mx (ix2 0 c) = max (m (ix2 0 c)) (Finset.univ.fold max ⊥ fun r => Sc (ix2 r c)) :=
  (low_row m _ c).trans (congrArg (max _) (low_red _ c))
theorem low_l (c : Fin 4096) : k0_pay33 (F := Ideal) (k0_pay15 q3) bias m l (k0_pay26 (k0_pay12 q0) k0) (k0_pay27 (k0_pay13 q1) k1) (k0_pay28 (k0_pay14 q2) k2) k3 (ix2 0 c)
    = Ideal.exp2 (m (ix2 0 c) - Mx (ix2 0 c)) * l (ix2 0 c) + ∑ r, Ideal.exp2 (Sc (ix2 r c) - Mx (ix2 0 c)) := by
  pointwise [k0_pay33, k0_pay31, k0_pay32]; simp only [fexp2]
theorem low_acc (e : Fin 4) (x : Fin 1024) (ln : Fin 128) :
    k0_pay34 (F := Ideal) (k0_pay15 q3) bias m a (k0_pay26 (k0_pay12 q0) k0) (k0_pay27 (k0_pay13 q1) k1) (k0_pay28 (k0_pay14 q2) k2) k3 w0 w1 (ix2 ln (col e x))
    = Ideal.exp2 (m (ix2 0 (col e x)) - Mx (ix2 0 (col e x))) * a (ix2 ln (col e x))
      + ∑ r : Fin 512, (![w0, w1] (pair e)) (ix3 0 r ln) * Ideal.exp2 (Sc (ix2 r (col e x)) - Mx (ix2 0 (col e x))) := by
  pointwise [k0_pay34, k0_pay31, k0_pay32]; simp only [fexp2]
  refine congrArg₂ (· + ·) rfl ?_
  by_cases h : (col e x).val < 2048
  · rw [dif_pos h]
    have : pair e = 0 := Fin.ext (by show e.val / 2 = 0; have : 1024 * e.val + x < 2048 := h; omega)
    rw [this]; rfl
  · rw [dif_neg h]
    have : pair e = 1 := Fin.ext (by show e.val / 2 = 1; have : ¬ 1024 * e.val + x < 2048 := h; omega)
    rw [this]
    have hc : ∀ hh, (⟨2048 + ((col e x).val - 2048), hh⟩ : Fin 4096) = col e x := fun _ => Fin.ext (by show 2048 + ((col e x).val - 2048) = _; omega)
    simp only [hc]; rfl

/-- THE FIRST DIAGONAL TILE, at one query and one lane of the values. -/
theorem low_held {σ v : ℕ → EReal} (hσ : ∀ j, σ j ≠ ⊤) {n : ℕ} (e : Fin 4) (x : Fin 1024) (ln : Fin 128)
    (hs : ∀ r : Fin 512, dotp q0 q1 q2 q3 k0 k1 k2 k3 e r x + bias (ix2 r x) = σ (n + r))
    (hv : ∀ r : Fin 512, (![w0, w1] (pair e)) (ix3 0 r ln) = v (n + r))
    (h : Attn.Held σ v n (m (ix2 0 (col e x))) (l (ix2 0 (col e x))) (a (ix2 ln (col e x)))) :
    Attn.Held σ v (n + 512) (Mx (ix2 0 (col e x)))
      (k0_pay33 (F := Ideal) (k0_pay15 q3) bias m l (k0_pay26 (k0_pay12 q0) k0) (k0_pay27 (k0_pay13 q1) k1) (k0_pay28 (k0_pay14 q2) k2) k3 (ix2 0 (col e x)))
      (k0_pay34 (F := Ideal) (k0_pay15 q3) bias m a (k0_pay26 (k0_pay12 q0) k0) (k0_pay27 (k0_pay13 q1) k1) (k0_pay28 (k0_pay14 q2) k2) k3 w0 w1 (ix2 ln (col e x))) := by
  rw [low_acc, low_l, low_m]
  exact h.tile hσ 512 _ _ (fun r => (low_s ..).trans (hs r)) hv
end

section
variable (m l : FVec Ideal S1x2048 .f32) (a : FVec Ideal S128x2048 .f32) (bias : FVec Ideal S512x512 .f32)
local notation "Sc" => k0_pay43 (F := Ideal) (k0_pay15 q3) bias (k0_pay39 (k0_pay12 q0) k0) (k0_pay40 (k0_pay13 q1) k1) (k0_pay41 k2) (k0_pay42 (k0_pay14 q2)) k3
local notation "Mx" => k0_pay44 (F := Ideal) (k0_pay15 q3) bias m (k0_pay39 (k0_pay12 q0) k0) (k0_pay40 (k0_pay13 q1) k1) (k0_pay41 k2) (k0_pay42 (k0_pay14 q2)) k3

theorem high_s (e : Fin 4) (r : Fin 512) (x : Fin 512) :
    Sc (ix2 r (half e x)) = dotp q0 q1 q2 q3 k0 k1 k2 k3 e r (up x) + bias (ix2 r x) := by
  pointwise [k0_pay43, k0_pay39, k0_pay40, k0_pay41, k0_pay42, k0_pay12, k0_pay13, k0_pay14, k0_pay15, half, dotp, up]
  exact congrArg₂ (· + ·) (four_half (fun e x => ∑ d, ![k0, k1, k2, k3] e (ix4 0 0 r d) * ![q0, q1, q2, q3] e (ix4 0 0 (up x) d)) e x)
    (four_half (fun _ x => bias (ix2 r x)) e x)

theorem high_red (S : FVec Ideal S512x2048 .f32) (c : Fin 2048) :
    multiReduction (F := Ideal) .maximumf [0] S2048 S 0xFF800000#32 reduces_S512x2048_S2048 (.inl rfl) rfl (ix1 c)
      = Finset.univ.fold max ⊥ fun r => (S (ix2 r c) : EReal) := by
  pointwise; rw [neg_inf]
theorem high_row (R : FVec Ideal S2048 .f32) (c : Fin 2048) :
    maximumf m (shapeCast S1x2048 R shapeCasts_S2048_S1x2048) (ix2 0 c) = max (m (ix2 0 c)) (R (ix1 c)) := by
  pointwise
theorem high_m (c : Fin 2048) : Mx (ix2 0 c) = max (m (ix2 0 c)) (Finset.univ.fold max ⊥ fun r => Sc (ix2 r c)) :=
  (high_row m _ c).trans (congrArg (max _) (high_red _ c))
theorem high_l (c : Fin 2048) : k0_pay47 (F := Ideal) (k0_pay15 q3) bias m l (k0_pay39 (k0_pay12 q0) k0) (k0_pay40 (k0_pay13 q1) k1) (k0_pay41 k2) (k0_pay42 (k0_pay14 q2)) k3 (ix2 0 c)
    = Ideal.exp2 (m (ix2 0 c) - Mx (ix2 0 c)) * l (ix2 0 c) + ∑ r, Ideal.exp2 (Sc (ix2 r c) - Mx (ix2 0 c)) := by
  pointwise [k0_pay47, k0_pay45, k0_pay46]; simp only [fexp2]
theorem high_acc (e : Fin 4) (x : Fin 512) (ln : Fin 128) :
    k0_pay48 (F := Ideal) (k0_pay15 q3) bias m a (k0_pay39 (k0_pay12 q0) k0) (k0_pay40 (k0_pay13 q1) k1) (k0_pay41 k2) (k0_pay42 (k0_pay14 q2)) k3 w0 w1 (ix2 ln (half e x))
    = Ideal.exp2 (m (ix2 0 (half e x)) - Mx (ix2 0 (half e x))) * a (ix2 ln (half e x))
      + ∑ r : Fin 512, (![w0, w1] (pair e)) (ix3 0 r ln) * Ideal.exp2 (Sc (ix2 r (half e x)) - Mx (ix2 0 (half e x))) := by
  pointwise [k0_pay48, k0_pay45, k0_pay46]; simp only [fexp2]
  refine congrArg₂ (· + ·) rfl ?_
  by_cases h : (half e x).val < 1024
  · rw [dif_pos h]
    have : pair e = 0 := Fin.ext (by show e.val / 2 = 0; have : 512 * e.val + x < 1024 := h; omega)
    rw [this]; rfl
  · rw [dif_neg h]
    have : pair e = 1 := Fin.ext (by show e.val / 2 = 1; have : ¬ 512 * e.val + x < 1024 := h; omega)
    rw [this]
    have hc : ∀ hh, (⟨1024 + ((half e x).val - 1024), hh⟩ : Fin 2048) = half e x := fun _ => Fin.ext (by show 1024 + ((half e x).val - 1024) = _; omega)
    simp only [hc]; rfl

/-- THE SECOND DIAGONAL TILE, at one query and one lane of the values. -/
theorem high_held {σ v : ℕ → EReal} (hσ : ∀ j, σ j ≠ ⊤) {n : ℕ} (e : Fin 4) (x : Fin 512) (ln : Fin 128)
    (hs : ∀ r : Fin 512, dotp q0 q1 q2 q3 k0 k1 k2 k3 e r (up x) + bias (ix2 r x) = σ (n + r))
    (hv : ∀ r : Fin 512, (![w0, w1] (pair e)) (ix3 0 r ln) = v (n + r))
    (h : Attn.Held σ v n (m (ix2 0 (half e x))) (l (ix2 0 (half e x))) (a (ix2 ln (half e x)))) :
    Attn.Held σ v (n + 512) (Mx (ix2 0 (half e x)))
      (k0_pay47 (F := Ideal) (k0_pay15 q3) bias m l (k0_pay39 (k0_pay12 q0) k0) (k0_pay40 (k0_pay13 q1) k1) (k0_pay41 k2) (k0_pay42 (k0_pay14 q2)) k3 (ix2 0 (half e x)))
      (k0_pay48 (F := Ideal) (k0_pay15 q3) bias m a (k0_pay39 (k0_pay12 q0) k0) (k0_pay40 (k0_pay13 q1) k1) (k0_pay41 k2) (k0_pay42 (k0_pay14 q2)) k3 w0 w1 (ix2 ln (half e x))) := by
  rw [high_acc, high_l, high_m]
  exact h.tile hσ 512 _ _ (fun r => (high_s ..).trans (hs r)) hv
end

end Cert.KernelIdeal.Value
-- ==== Proof.Loop.lean ====
module
public import proofs.«01_k».proof.Proof.Gen.KernelIdeal.Value
public import proofs.«01_k».proof.Proof.Diag
public import Idealize.ShloMosaic.Lib.Pipeline.ValueKit
public import Idealize.ShloMosaic.Lib.Pointwise
public import Idealize.ShloMosaic.Lib.WholeRead
set_option maxRecDepth 16384
@[expose] public noncomputable section
open Idealize.ShloMosaic Idealize.ShloMosaic.TcCoe Idealize.SL.Sem
/-!
# The loop over the full key tiles
-/

namespace Cert.KernelIdeal.Value
open Cert.KernelIdeal Cert.KernelIdeal.Gen

/-- A load of a block held as `X`. -/
theorem read_ld {sp : Space} {s : Shape} {e : EltTy} {m : Memref sig .tc sp s e} (h : m.IsWhole) (X : s.Idx → Elt Ideal e) (B : Rect s) :
    View.readAt (Elt Ideal) m.view B.toLoadRect (h.unread X) = View.ld X B := funext fun x => h.readAt_unread X _ x

/-- One trip of the loop: the new maxima, sums and accumulators. -/
theorem trip_val (𝒱 : Variants) (c : Dev nD) (bd : Option 𝒱.V) (i : grid0.Coords) (arg3 : Memref sig .tc .vmem S1x4x1024x128 .bf16) (harg3 : arg3.IsWhole) (arg4 : Memref sig .tc .vmem S1x4x4096x128 .bf16) (harg4 : arg4.IsWhole) (arg5 : Memref sig .tc .vmem S1x4096x256 .bf16) (harg5 : arg5.IsWhole) (arg6 : Memref sig .tc .vmem S1x1024x256 .bf16) (harg6 : arg6.IsWhole) (v5 : Vec Ideal S1x1x1024x128 .bf16) (v7 : Vec Ideal S1x1x1024x128 .bf16) (v9 : Vec Ideal S1x1x1024x128 .bf16) (v11 : Vec Ideal S1x1x1024x128 .bf16)
    (x1 : Vec Ideal S1x4x4096x128 .bf16) (x2 : Vec Ideal S1x4096x256 .bf16) (k : Fin (k0_t1_loop i).trips)
    (acc : FVec Ideal S1x4096 .f32 × FVec Ideal S1x4096 .f32 × FVec Ideal S128x4096 .f32) :
    tripR_k0_t1 (F := Ideal) 𝒱 c bd i arg3 harg3 arg4 harg4 arg5 harg5 arg6 harg6 v5 v7 v9 v11 (harg4.unread x1) (harg5.unread x2) k acc
      = (k0_pay2 (k0_pay12 v5) (k0_pay13 v7) (k0_pay14 v9) (k0_pay15 v11) acc.1
          (View.ld x1 (Rect.unit (s := S1x4x4096x128) (k0_off1 i k) S1x1x512x128.size (k0_off1_inb i k))) (View.ld x1 (Rect.unit (s := S1x4x4096x128) (k0_off2 i k) S1x1x512x128.size (k0_off2_inb i k))) (View.ld x1 (Rect.unit (s := S1x4x4096x128) (k0_off3 i k) S1x1x512x128.size (k0_off3_inb i k))) (View.ld x1 (Rect.unit (s := S1x4x4096x128) (k0_off4 i k) S1x1x512x128.size (k0_off4_inb i k))),
        k0_pay5 (k0_pay12 v5) (k0_pay13 v7) (k0_pay14 v9) (k0_pay15 v11) acc.1 acc.2.1
          (View.ld x1 (Rect.unit (s := S1x4x4096x128) (k0_off1 i k) S1x1x512x128.size (k0_off1_inb i k))) (View.ld x1 (Rect.unit (s := S1x4x4096x128) (k0_off2 i k) S1x1x512x128.size (k0_off2_inb i k))) (View.ld x1 (Rect.unit (s := S1x4x4096x128) (k0_off3 i k) S1x1x512x128.size (k0_off3_inb i k))) (View.ld x1 (Rect.unit (s := S1x4x4096x128) (k0_off4 i k) S1x1x512x128.size (k0_off4_inb i k))),
        k0_pay19 acc.2.2
          (k0_pay3 (k0_pay12 v5) (k0_pay13 v7) (k0_pay14 v9) (k0_pay15 v11) acc.1
            (View.ld x1 (Rect.unit (s := S1x4x4096x128) (k0_off1 i k) S1x1x512x128.size (k0_off1_inb i k))) (View.ld x1 (Rect.unit (s := S1x4x4096x128) (k0_off2 i k) S1x1x512x128.size (k0_off2_inb i k))) (View.ld x1 (Rect.unit (s := S1x4x4096x128) (k0_off3 i k) S1x1x512x128.size (k0_off3_inb i k))) (View.ld x1 (Rect.unit (s := S1x4x4096x128) (k0_off4 i k) S1x1x512x128.size (k0_off4_inb i k))))
          (k0_pay4 (k0_pay12 v5) (k0_pay13 v7) (k0_pay14 v9) (k0_pay15 v11) acc.1
            (View.ld x1 (Rect.unit (s := S1x4x4096x128) (k0_off1 i k) S1x1x512x128.size (k0_off1_inb i k))) (View.ld x1 (Rect.unit (s := S1x4x4096x128) (k0_off2 i k) S1x1x512x128.size (k0_off2_inb i k))) (View.ld x1 (Rect.unit (s := S1x4x4096x128) (k0_off3 i k) S1x1x512x128.size (k0_off3_inb i k))) (View.ld x1 (Rect.unit (s := S1x4x4096x128) (k0_off4 i k) S1x1x512x128.size (k0_off4_inb i k))))
          (View.ld x2 (Rect.unit (s := S1x4096x256) (k0_off5 i k) S1x512x128.size (k0_off5_inb i k)))
          (View.ld x2 (Rect.unit (s := S1x4096x256) (k0_off6 i k) S1x512x128.size (k0_off6_inb i k)))) := by
  simp only [← read_ld harg4, ← read_ld harg5]
  unfold tripR_k0_t1
  unfold trip_k0_t1
  rfl

section
variable (x0 : Vec Ideal S1x4x1024x128 .bf16) (x1 : Vec Ideal S1x4x4096x128 .bf16) (x2 : Vec Ideal S1x4096x256 .bf16)

/-- The score of key `j` against query `x`, head `e`. -/
def sc (e : Fin 4) (x : Fin 1024) (j : ℕ) : EReal :=
  if h : j < 4096 then ∑ d : Fin 128, x1 (ix4 0 e ⟨j, h⟩ d) * x0 (ix4 0 e x d) else ⊥
/-- The same with the keys after the query masked; the block's first query is number `1024 * b`. -/
def cs (b : ℕ) (e : Fin 4) (x : Fin 1024) (j : ℕ) : EReal := if j ≤ 1024 * b + x then sc x0 x1 e x j else ⊥
/-- The value of key `j` at lane `ln` of head `e`'s pair. -/
def vl (e : Fin 4) (ln : Fin 128) (j : ℕ) : EReal :=
  if h : j < 4096 then x2 (ix3 0 ⟨j, h⟩ ⟨128 * (pair e).val + ln.val, by omega⟩) else 0

theorem ld4 (off : Fin 4 → ℕ) (inb) (e : Fin 4) (n : ℕ) (hn : n + 512 ≤ 4096) (h : off = ![0, (e : ℕ), n, 0])
    (r : Fin 512) (d : Fin 128) :
    View.ld x1 (Rect.unit (s := S1x4x4096x128) off S1x1x512x128.size inb) (ix4 0 0 r d) = x1 (ix4 0 e ⟨n + r, by omega⟩ d) := by
  subst h; pointwise
theorem ld3 (off : Fin 3 → ℕ) (inb) (p : Fin 2) (n : ℕ) (hn : n + 512 ≤ 4096) (h : off = ![0, n, 128 * (p : ℕ)])
    (r : Fin 512) (ln : Fin 128) :
    View.ld x2 (Rect.unit (s := S1x4096x256) off S1x512x128.size inb) (ix3 0 r ln)
      = x2 (ix3 0 ⟨n + r, by omega⟩ ⟨128 * p.val + ln.val, by omega⟩) := by
  subst h; pointwise
theorem ldq (off : Fin 4 → ℕ) (inb) (e : Fin 4) (h : off = ![0, (e : ℕ), 0, 0]) (x : Fin 1024) (d : Fin 128) :
    View.ld x0 (Rect.unit (s := S1x4x1024x128) off ![1, 1, 1024, 128] inb) (ix4 0 0 x d) = x0 (ix4 0 e x d) := by
  subst h; pointwise

/-- Head `e`'s queries of the block. -/
def qs (e : Fin 4) : Vec Ideal S1x1x1024x128 .bf16 :=
  ![View.ld x0 (Rect.unit (s := S1x4x1024x128) ![0, 0, 0, 0] ![1, 1, 1024, 128] inb_S1x4x1024x128_S1x1x1024x128_0_0_0_0), View.ld x0 (Rect.unit (s := S1x4x1024x128) ![0, 1, 0, 0] ![1, 1, 1024, 128] inb_S1x4x1024x128_S1x1x1024x128_0_1_0_0), View.ld x0 (Rect.unit (s := S1x4x1024x128) ![0, 2, 0, 0] ![1, 1, 1024, 128] inb_S1x4x1024x128_S1x1x1024x128_0_2_0_0), View.ld x0 (Rect.unit (s := S1x4x1024x128) ![0, 3, 0, 0] ![1, 1, 1024, 128] inb_S1x4x1024x128_S1x1x1024x128_0_3_0_0)] e

theorem qs_at (e : Fin 4) (x : Fin 1024) (d : Fin 128) : qs x0 e (ix4 0 0 x d) = x0 (ix4 0 e x d) := by
  fin_cases e
  · exact ldq x0 _ _ 0 rfl x d
  · exact ldq x0 _ _ 1 rfl x d
  · exact ldq x0 _ _ 2 rfl x d
  · exact ldq x0 _ _ 3 rfl x d

/-- A tile's score: keys `n …` loaded head by head. -/
theorem dotp_ld (o0 o1 o2 o3 : Fin 4 → ℕ) (b0 b1 b2 b3) (n : ℕ) (hn : n + 512 ≤ 4096)
    (h0 : o0 = ![0, 0, n, 0]) (h1 : o1 = ![0, 1, n, 0]) (h2 : o2 = ![0, 2, n, 0]) (h3 : o3 = ![0, 3, n, 0])
    (e : Fin 4) (r : Fin 512) (x : Fin 1024) :
    dotp (qs x0 0) (qs x0 1) (qs x0 2) (qs x0 3)
      (View.ld x1 (Rect.unit (s := S1x4x4096x128) o0 S1x1x512x128.size b0))
      (View.ld x1 (Rect.unit (s := S1x4x4096x128) o1 S1x1x512x128.size b1))
      (View.ld x1 (Rect.unit (s := S1x4x4096x128) o2 S1x1x512x128.size b2))
      (View.ld x1 (Rect.unit (s := S1x4x4096x128) o3 S1x1x512x128.size b3)) e r x = sc x0 x1 e x (n + r) := by
  unfold dotp sc
  rw [dif_pos (by omega)]
  refine Finset.sum_congr rfl fun d _ => ?_
  fin_cases e
  · exact congrArg₂ (· * ·) (ld4 x1 o0 b0 0 n hn h0 r d) (qs_at x0 0 x d)
  · exact congrArg₂ (· * ·) (ld4 x1 o1 b1 1 n hn h1 r d) (qs_at x0 1 x d)
  · exact congrArg₂ (· * ·) (ld4 x1 o2 b2 2 n hn h2 r d) (qs_at x0 2 x d)
  · exact congrArg₂ (· * ·) (ld4 x1 o3 b3 3 n hn h3 r d) (qs_at x0 3 x d)

/-- A tile's values: both pairs of heads. -/
theorem vl_ld (o0 o1 : Fin 3 → ℕ) (b0 b1) (n : ℕ) (hn : n + 512 ≤ 4096) (h0 : o0 = ![0, n, 0]) (h1 : o1 = ![0, n, 128])
    (e : Fin 4) (r : Fin 512) (ln : Fin 128) :
    (![View.ld x2 (Rect.unit (s := S1x4096x256) o0 S1x512x128.size b0),
       View.ld x2 (Rect.unit (s := S1x4096x256) o1 S1x512x128.size b1)] (pair e)) (ix3 0 r ln) = vl x2 e ln (n + r) := by
  have key : ∀ p : Fin 2, (![View.ld x2 (Rect.unit (s := S1x4096x256) o0 S1x512x128.size b0),
      View.ld x2 (Rect.unit (s := S1x4096x256) o1 S1x512x128.size b1)] p) (ix3 0 r ln)
        = x2 (ix3 0 ⟨n + r, by omega⟩ ⟨128 * p.val + ln.val, by omega⟩) := by
    intro p
    fin_cases p
    · exact ld3 x2 o0 b0 0 n hn h0 r ln
    · exact ld3 x2 o1 b1 1 n hn h1 r ln
  unfold vl
  rw [dif_pos (by omega)]
  exact key (pair e)

theorem trips1 : ∀ i : grid0.Coords, (k0_t1_loop i).trips = 2 * (i 2).val := by decide +kernel
theorem trips2 : ∀ i : grid0.Coords, (k0_t2_loop i).trips = 0 := by decide +kernel

theorem init_m (c : Fin 4096) : k0_pay16 (F := Ideal) (ix2 0 c) = ⊥ := by
  pointwise [k0_pay16]; exact mask_bot
theorem init_l (c : Fin 4096) : k0_pay17 (F := Ideal) (ix2 0 c) = 0 := by pointwise [k0_pay17]
theorem init_a (ln : Fin 128) (c : Fin 4096) : k0_pay18 (F := Ideal) (ix2 ln c) = 0 := by pointwise [k0_pay18]

/-- THE LOOP: after `k` tiles a query holds its first `512 * k` keys. -/
theorem loop_held (𝒱 : Variants) (c : Dev nD) (bd : Option 𝒱.V) (i : grid0.Coords) (arg3 : Memref sig .tc .vmem S1x4x1024x128 .bf16) (harg3 : arg3.IsWhole) (arg4 : Memref sig .tc .vmem S1x4x4096x128 .bf16) (harg4 : arg4.IsWhole) (arg5 : Memref sig .tc .vmem S1x4096x256 .bf16) (harg5 : arg5.IsWhole) (arg6 : Memref sig .tc .vmem S1x1024x256 .bf16) (harg6 : arg6.IsWhole)
    (e : Fin 4) (x : Fin 1024) (ln : Fin 128) (hσ : ∀ j, cs x0 x1 (i 2).val e x j ≠ ⊤) (k : ℕ) (hk : k ≤ (k0_t1_loop i).trips) :
    Attn.Held (cs x0 x1 (i 2).val e x) (vl x2 e ln) (512 * k)
      ((st_k0_t1 𝒱 c bd i arg3 harg3 arg4 harg4 arg5 harg5 arg6 harg6 (qs x0 0) (qs x0 1) (qs x0 2) (qs x0 3)
        (harg4.unread x1) (harg5.unread x2) (k0_pay16, k0_pay17, k0_pay18) k).1 (ix2 0 (col e x)))
      ((st_k0_t1 𝒱 c bd i arg3 harg3 arg4 harg4 arg5 harg5 arg6 harg6 (qs x0 0) (qs x0 1) (qs x0 2) (qs x0 3)
        (harg4.unread x1) (harg5.unread x2) (k0_pay16, k0_pay17, k0_pay18) k).2.1 (ix2 0 (col e x)))
      ((st_k0_t1 𝒱 c bd i arg3 harg3 arg4 harg4 arg5 harg5 arg6 harg6 (qs x0 0) (qs x0 1) (qs x0 2) (qs x0 3)
        (harg4.unread x1) (harg5.unread x2) (k0_pay16, k0_pay17, k0_pay18) k).2.2 (ix2 ln (col e x))) := by
  induction k with
  | zero =>
    rw [st_k0_t1_zero]
    dsimp only
    rw [init_m, init_l, init_a]
    exact Attn.Held.zero _ _
  | succ k ih =>
    have hb : (i 2).val < 4 := (i 2).2
    have hlt : k < 2 * (i 2).val := by rw [← trips1 i]; omega
    rw [show 512 * (k + 1) = 512 * k + 512 by ring, st_k0_t1_succ 𝒱 c bd i arg3 harg3 arg4 harg4 arg5 harg5 arg6 harg6 _ _ _ _ _ _ _ ⟨k, by omega⟩, trip_val]
    refine trip_held _ _ _ _ _ _ _ _ _ _ hσ e x ln _ _ _ (fun r => ?_) (fun r => ?_) (ih (by omega))
    · unfold cs
      rw [if_pos (by omega)]
      exact dotp_ld x0 x1 _ _ _ _ _ _ _ _ (512 * k) (by omega) (k0_off1_eq i ⟨k, by omega⟩) (k0_off2_eq i ⟨k, by omega⟩)
        (k0_off3_eq i ⟨k, by omega⟩) (k0_off4_eq i ⟨k, by omega⟩) e r x
    · exact vl_ld x2 _ _ _ _ (512 * k) (by omega) (k0_off5_eq i ⟨k, by omega⟩) (k0_off6_eq i ⟨k, by omega⟩) e r ln
end

end Cert.KernelIdeal.Value
-- ==== Proof.Bias.lean ====
module
public import proofs.«01_k».proof.Proof.Gen.KernelIdeal.Skeleton
public import proofs.«01_k».proof.Proof.Blocks
public import Idealize.ShloMosaic.Lib.Pipeline.ValueKit
public import Idealize.ShloMosaic.Lib.Pointwise
public import Idealize.ShloMosaic.Lib.WordCmp
set_option maxRecDepth 16384
@[expose] public noncomputable section
open Idealize.ShloMosaic Idealize.ShloMosaic.TcCoe Idealize.SL.Sem

/-!
# The causal mask of the two diagonal tiles
-/

namespace Cert.KernelIdeal.Value
open Cert.KernelIdeal Cert.KernelIdeal.Gen

/-- What the first diagonal tile adds to its scores. -/
theorem bias0_at (i : grid0.Coords) (r : Fin 512) (x : Fin 1024) :
    k0_pay22 (F := Ideal) (k0_pay11 i) (iota .tc S512x1 32 [0] iota_S512x1_d0_w32) (k0_pay21 i) (ix2 r x)
      = if r.val ≤ x.val then (0 : EReal) else ⊥ := by
  pointwise [k0_pay22, k0_pay11, k0_pay21]
  rw [mask_bot]
  have hi : (i 2).val < 4 := (i 2).2
  generalize (i 2).val = b at hi ⊢
  have e1 : IntOp.addi (Scalar.muli (Scalar.addi (Scalar.muli (BitVec.ofNat 32 b) 2#32) 0#32) 512#32) (BitVec.ofNat 32 r)
      = BitVec.ofNat 32 (1024 * b + r) := by
    apply BitVec.eq_of_toNat_eq; simp [IntOp.addi, Scalar.muli, Scalar.addi, IntOp.muli]; omega
  have e2 : IntOp.addi (Scalar.muli (BitVec.ofNat 32 b) 1024#32) (BitVec.ofNat 32 x) = BitVec.ofNat 32 (1024 * b + x) := by
    apply BitVec.eq_of_toNat_eq; simp [IntOp.addi, Scalar.muli, Scalar.addi, IntOp.muli]; omega
  rw [e1, e2, Idealize.ShloMosaic.WordCmp.cmpi_sle_ofNat (by omega) (by omega)]
  by_cases h : r.val ≤ x.val
  · simp [Scalar.select, h]
  · simp [Scalar.select, h]

/-- What the second diagonal tile adds to its scores. -/
theorem bias1_at (i : grid0.Coords) (r : Fin 512) (x : Fin 512) :
    k0_pay35 (F := Ideal) (k0_pay11 i) (Scalar.muli (Scalar.addi (Scalar.muli (BitVec.ofNat 32 (i 2).val) 2#32) 1#32) 512#32)
      (iota .tc S512x1 32 [0] iota_S512x1_d0_w32) (ix2 r x)
      = if r.val ≤ x.val then (0 : EReal) else ⊥ := by
  pointwise [k0_pay35, k0_pay11]
  rw [mask_bot]
  have hi : (i 2).val < 4 := (i 2).2
  generalize (i 2).val = b at hi ⊢
  have e1 : IntOp.addi (Scalar.muli (Scalar.addi (Scalar.muli (BitVec.ofNat 32 b) 2#32) 1#32) 512#32) (BitVec.ofNat 32 r)
      = BitVec.ofNat 32 (1024 * b + 512 + r) := by
    apply BitVec.eq_of_toNat_eq; simp [IntOp.addi, Scalar.muli, Scalar.addi, IntOp.muli]; omega
  have e2 : IntOp.addi (Scalar.muli (BitVec.ofNat 32 b) 1024#32) (BitVec.ofNat 32 (512 + x)) = BitVec.ofNat 32 (1024 * b + 512 + x) := by
    apply BitVec.eq_of_toNat_eq; simp [IntOp.addi, Scalar.muli, Scalar.addi, IntOp.muli]; omega
  rw [e1, e2, Idealize.ShloMosaic.WordCmp.cmpi_sle_ofNat (by omega) (by omega)]
  by_cases h : r.val ≤ x.val
  · simp [Scalar.select, h]
  · simp [Scalar.select, h]

end Cert.KernelIdeal.Value
-- ==== Proof.Store.lean ====
module
public import proofs.«01_k».proof.Proof.Gen.KernelIdeal.Skeleton
public import proofs.«01_k».proof.Proof.Blocks
public import Idealize.ShloMosaic.Lib.Pipeline.ValueKit
public import Idealize.ShloMosaic.Lib.Pointwise
public import Idealize.ShloMosaic.Lib.WordCmp
set_option maxRecDepth 16384
@[expose] public noncomputable section
open Idealize.ShloMosaic Idealize.ShloMosaic.TcCoe Idealize.SL.Sem

/-!
# What the body stores, from what its queries hold

The queries of the lower half are done after the first diagonal tile, those of the upper half after the second.
-/

namespace Cert.KernelIdeal.Value
open Cert.KernelIdeal Cert.KernelIdeal.Gen

/-- A row taken apart by heads and put together again. -/
theorem take_m (v : FVec Ideal S1x4096 .f32) (e : Fin 4) (x : Fin 1024) :
    k0_pay23 (F := Ideal) v (ix2 0 (col e x)) = v (ix2 0 (col e x)) := by
  pointwise [k0_pay23, col]
  fin_vals e with he
  all_goals (repeat (first | rw [dif_pos (by omega)] | rw [dif_neg (by omega)]))
  all_goals exact congrArg v (congrArg (ix2 _) (Fin.ext (by dsimp only; omega)))
theorem take_l (v : FVec Ideal S1x4096 .f32) (e : Fin 4) (x : Fin 1024) :
    k0_pay24 (F := Ideal) v (ix2 0 (col e x)) = v (ix2 0 (col e x)) := take_m v e x
theorem take_a (v : FVec Ideal S128x4096 .f32) (ln : Fin 128) (e : Fin 4) (x : Fin 1024) :
    k0_pay25 (F := Ideal) v (ix2 ln (col e x)) = v (ix2 ln (col e x)) := by
  pointwise [k0_pay25, col]
  fin_vals e with he
  all_goals (repeat (first | rw [dif_pos (by omega)] | rw [dif_neg (by omega)]))
  all_goals exact congrArg v (congrArg (ix2 _) (Fin.ext (by dsimp only; omega)))

/-- The upper halves. -/
theorem upper_m (v : FVec Ideal S1x4096 .f32) (e : Fin 4) (x : Fin 512) :
    k0_pay36 (F := Ideal) v (ix2 0 (half e x)) = v (ix2 0 (col e (up x))) := by
  pointwise [k0_pay36, col, half, up]
  fin_vals e with he
  all_goals (repeat (first | rw [dif_pos (by omega)] | rw [dif_neg (by omega)]))
  all_goals exact congrArg v (congrArg (ix2 _) (Fin.ext (by dsimp only; omega)))
theorem upper_l (v : FVec Ideal S1x4096 .f32) (e : Fin 4) (x : Fin 512) :
    k0_pay37 (F := Ideal) v (ix2 0 (half e x)) = v (ix2 0 (col e (up x))) := upper_m v e x
theorem upper_a (v : FVec Ideal S128x4096 .f32) (ln : Fin 128) (e : Fin 4) (x : Fin 512) :
    k0_pay38 (F := Ideal) v (ix2 ln (half e x)) = v (ix2 ln (col e (up x))) := by
  pointwise [k0_pay38, col, half, up]
  fin_vals e with he
  all_goals (repeat (first | rw [dif_pos (by omega)] | rw [dif_neg (by omega)]))
  all_goals exact congrArg v (congrArg (ix2 _) (Fin.ext (by dsimp only; omega)))

/-- The halves put together: a query of the lower half. -/
theorem whole_l_low (l : FVec Ideal S1x4096 .f32) (l2 : FVec Ideal S1x2048 .f32) (e : Fin 4) (x : Fin 1024) (h : x.val < 512) :
    k0_pay50 (F := Ideal) l l2 (k0_pay49 l) (ix2 0 (col e x)) = l (ix2 0 (col e x)) := by
  pointwise [k0_pay50, k0_pay49, col]
  fin_vals e with he
  all_goals (repeat (first | rw [dif_pos (by omega)] | rw [dif_neg (by omega)]))
  all_goals exact congrArg l (congrArg (ix2 _) (Fin.ext (by dsimp only; omega)))
theorem whole_a_low (a : FVec Ideal S128x4096 .f32) (a2 : FVec Ideal S128x2048 .f32) (ln : Fin 128) (e : Fin 4) (x : Fin 1024)
    (h : x.val < 512) : k0_pay51 (F := Ideal) a a2 (ix2 ln (col e x)) = a (ix2 ln (col e x)) := by
  pointwise [k0_pay51, col]
  fin_vals e with he
  all_goals (repeat (first | rw [dif_pos (by omega)] | rw [dif_neg (by omega)]))
  all_goals exact congrArg a (congrArg (ix2 _) (Fin.ext (by dsimp only; omega)))
/-- A query of the upper half. -/
theorem whole_l_high (l : FVec Ideal S1x4096 .f32) (l2 : FVec Ideal S1x2048 .f32) (e : Fin 4) (x : Fin 512) :
    k0_pay50 (F := Ideal) l l2 (k0_pay49 l) (ix2 0 (col e (up x))) = l2 (ix2 0 (half e x)) := by
  pointwise [k0_pay50, k0_pay49, col, half, up]
  fin_vals e with he
  all_goals (repeat (first | rw [dif_pos (by omega)] | rw [dif_neg (by omega)]))
  all_goals exact congrArg l2 (congrArg (ix2 _) (Fin.ext (by dsimp only; omega)))
theorem whole_a_high (a : FVec Ideal S128x4096 .f32) (a2 : FVec Ideal S128x2048 .f32) (ln : Fin 128) (e : Fin 4) (x : Fin 512) :
    k0_pay51 (F := Ideal) a a2 (ix2 ln (col e (up x))) = a2 (ix2 ln (half e x)) := by
  pointwise [k0_pay51, col, half, up]
  fin_vals e with he
  all_goals (repeat (first | rw [dif_pos (by omega)] | rw [dif_neg (by omega)]))
  all_goals exact congrArg a2 (congrArg (ix2 _) (Fin.ext (by dsimp only; omega)))

/-- The head whose values lie at lane `ln` of pair `p`. -/
def headOf (p : Fin 2) (ln : Fin 128) : Fin 4 := ⟨2 * p + ln / 64, by omega⟩

theorem lane_lt (ln : Fin 128) : (IntOp.cmpi .slt (BitVec.ofNat 32 ln) 64#32 = 1#1) ↔ ln.val < 64 := by
  rw [show (64#32) = BitVec.ofNat 32 64 from rfl, WordCmp.cmpi_slt_ofNat (by omega) (by omega)]
  by_cases h : ln.val < 64 <;> simp [h]

theorem lane_ge (ln : Fin 128) (h : ¬ ln.val < 64) : IntOp.cmpi .slt (BitVec.ofNat 32 ln) 64#32 = 0#1 := by
  rw [show (64#32) = BitVec.ofNat 32 64 from rfl, WordCmp.cmpi_slt_ofNat (by omega) (by omega)]
  simp [h]

theorem store0 (l : FVec Ideal S1x4096 .f32) (a : FVec Ideal S128x4096 .f32) (l2 : FVec Ideal S1x2048 .f32)
    (a2 : FVec Ideal S128x2048 .f32) (x : Fin 1024) (ln : Fin 128) :
    k0_pay52 (F := Ideal) (iota .tc S1024x128 32 [1] iota_S1024x128_d1_w32) l a l2 a2 (k0_pay49 l) (ix3 0 x ln)
      = Ideal.div (k0_pay51 (F := Ideal) a a2 (ix2 ln (col (headOf 0 ln) x)))
          (k0_pay50 (F := Ideal) l l2 (k0_pay49 l) (ix2 0 (col (headOf 0 ln) x))) := by
  pointwise [k0_pay52]
  by_cases h : ln.val < 64
  · rw [(lane_lt ln).mpr h,
      show col (headOf 0 ln) x = ⟨x.val, by omega⟩ from Fin.ext (by show 1024 * (2 * 0 + ln.val / 64) + x.val = x.val; omega)]
    rfl
  · rw [lane_ge ln h,
      show col (headOf 0 ln) x = ⟨1024 + x.val, by omega⟩ from Fin.ext (by show 1024 * (2 * 0 + ln.val / 64) + x.val = 1024 + x.val; omega)]
    rfl
theorem store1 (l : FVec Ideal S1x4096 .f32) (a : FVec Ideal S128x4096 .f32) (l2 : FVec Ideal S1x2048 .f32)
    (a2 : FVec Ideal S128x2048 .f32) (x : Fin 1024) (ln : Fin 128) :
    k0_pay53 (F := Ideal) (iota .tc S1024x128 32 [1] iota_S1024x128_d1_w32) l a l2 a2 (k0_pay49 l) (ix3 0 x ln)
      = Ideal.div (k0_pay51 (F := Ideal) a a2 (ix2 ln (col (headOf 1 ln) x)))
          (k0_pay50 (F := Ideal) l l2 (k0_pay49 l) (ix2 0 (col (headOf 1 ln) x))) := by
  pointwise [k0_pay53]
  by_cases h : ln.val < 64
  · rw [(lane_lt ln).mpr h,
      show col (headOf 1 ln) x = ⟨2048 + x.val, by omega⟩ from Fin.ext (by show 1024 * (2 * 1 + ln.val / 64) + x.val = 2048 + x.val; omega)]
    rfl
  · rw [lane_ge ln h,
      show col (headOf 1 ln) x = ⟨3072 + x.val, by omega⟩ from Fin.ext (by show 1024 * (2 * 1 + ln.val / 64) + x.val = 3072 + x.val; omega)]
    rfl

end Cert.KernelIdeal.Value
-- ==== Proof.Body.lean ====
module
public import proofs.«01_k».proof.Proof.Gen.KernelIdeal.Value
public import proofs.«01_k».proof.Proof.Loop
public import proofs.«01_k».proof.Proof.Bias
public import proofs.«01_k».proof.Proof.Store
public import Idealize.ShloMosaic.Lib.Pipeline.ValueKit
public import Idealize.ShloMosaic.Lib.Pointwise
public import Idealize.ShloMosaic.Lib.WholeRead
set_option maxRecDepth 16384
@[expose] public noncomputable section
open Idealize.ShloMosaic Idealize.ShloMosaic.TcCoe Idealize.SL.Sem
/-!
# What the body stores at one entry of its block
-/

namespace Cert.KernelIdeal.Value
open Cert.KernelIdeal Cert.KernelIdeal.Gen

section
variable (i : grid0.Coords) (x0 : Vec Ideal S1x4x1024x128 .bf16) (x1 : Vec Ideal S1x4x4096x128 .bf16) (x2 : Vec Ideal S1x4096x256 .bf16)
  (S : FVec Ideal S1x4096 .f32 × FVec Ideal S1x4096 .f32 × FVec Ideal S128x4096 .f32)

/-- What the two diagonal tiles add to their scores. -/
def bias0 : FVec Ideal S512x1024 .f32 :=
  k0_pay22 (k0_pay11 i) (iota .tc S512x1 32 [0] iota_S512x1_d0_w32) (k0_pay21 i)
def bias1 : FVec Ideal S512x512 .f32 :=
  k0_pay35 (k0_pay11 i) (Scalar.muli (Scalar.addi (Scalar.muli (BitVec.ofNat 32 (i 2).val) 2#32) 1#32) 512#32)
    (iota .tc S512x1 32 [0] iota_S512x1_d0_w32)

/-- Maxima, sums and accumulators after the first diagonal tile, from the loop's `S`. -/
def dM : FVec Ideal S1x4096 .f32 :=
  k0_pay30 (k0_pay15 (qs x0 3)) (bias0 i) (k0_pay23 S.1)
    (k0_pay26 (k0_pay12 (qs x0 0)) (View.ld x1 (Rect.unit (s := S1x4x4096x128) (k0_off13 i 0#32) S1x1x512x128.size (k0_off13_inb i 0))))
    (k0_pay27 (k0_pay13 (qs x0 1)) (View.ld x1 (Rect.unit (s := S1x4x4096x128) (k0_off14 i 0#32) S1x1x512x128.size (k0_off14_inb i 0))))
    (k0_pay28 (k0_pay14 (qs x0 2)) (View.ld x1 (Rect.unit (s := S1x4x4096x128) (k0_off15 i 0#32) S1x1x512x128.size (k0_off15_inb i 0))))
    (View.ld x1 (Rect.unit (s := S1x4x4096x128) (k0_off16 i 0#32) S1x1x512x128.size (k0_off16_inb i 0)))
def dL : FVec Ideal S1x4096 .f32 :=
  k0_pay33 (k0_pay15 (qs x0 3)) (bias0 i) (k0_pay23 S.1) (k0_pay24 S.2.1)
    (k0_pay26 (k0_pay12 (qs x0 0)) (View.ld x1 (Rect.unit (s := S1x4x4096x128) (k0_off13 i 0#32) S1x1x512x128.size (k0_off13_inb i 0))))
    (k0_pay27 (k0_pay13 (qs x0 1)) (View.ld x1 (Rect.unit (s := S1x4x4096x128) (k0_off14 i 0#32) S1x1x512x128.size (k0_off14_inb i 0))))
    (k0_pay28 (k0_pay14 (qs x0 2)) (View.ld x1 (Rect.unit (s := S1x4x4096x128) (k0_off15 i 0#32) S1x1x512x128.size (k0_off15_inb i 0))))
    (View.ld x1 (Rect.unit (s := S1x4x4096x128) (k0_off16 i 0#32) S1x1x512x128.size (k0_off16_inb i 0)))
def dA : FVec Ideal S128x4096 .f32 :=
  k0_pay34 (k0_pay15 (qs x0 3)) (bias0 i) (k0_pay23 S.1) (k0_pay25 S.2.2)
    (k0_pay26 (k0_pay12 (qs x0 0)) (View.ld x1 (Rect.unit (s := S1x4x4096x128) (k0_off13 i 0#32) S1x1x512x128.size (k0_off13_inb i 0))))
    (k0_pay27 (k0_pay13 (qs x0 1)) (View.ld x1 (Rect.unit (s := S1x4x4096x128) (k0_off14 i 0#32) S1x1x512x128.size (k0_off14_inb i 0))))
    (k0_pay28 (k0_pay14 (qs x0 2)) (View.ld x1 (Rect.unit (s := S1x4x4096x128) (k0_off15 i 0#32) S1x1x512x128.size (k0_off15_inb i 0))))
    (View.ld x1 (Rect.unit (s := S1x4x4096x128) (k0_off16 i 0#32) S1x1x512x128.size (k0_off16_inb i 0)))
    (View.ld x2 (Rect.unit (s := S1x4096x256) (k0_off17 i 0#32) S1x512x128.size (k0_off17_inb i 0)))
    (View.ld x2 (Rect.unit (s := S1x4096x256) (k0_off18 i 0#32) S1x512x128.size (k0_off18_inb i 0)))
/-- Sums and accumulators of the upper halves after the second. -/
def dL2 : FVec Ideal S1x2048 .f32 :=
  k0_pay47 (k0_pay15 (qs x0 3)) (bias1 i) (k0_pay36 (dM i x0 x1 S)) (k0_pay37 (dL i x0 x1 S))
    (k0_pay39 (k0_pay12 (qs x0 0)) (View.ld x1 (Rect.unit (s := S1x4x4096x128) (k0_off13 i 1#32) S1x1x512x128.size (k0_off13_inb i 1))))
    (k0_pay40 (k0_pay13 (qs x0 1)) (View.ld x1 (Rect.unit (s := S1x4x4096x128) (k0_off14 i 1#32) S1x1x512x128.size (k0_off14_inb i 1))))
    (k0_pay41 (View.ld x1 (Rect.unit (s := S1x4x4096x128) (k0_off15 i 1#32) S1x1x512x128.size (k0_off15_inb i 1)))) (k0_pay42 (k0_pay14 (qs x0 2)))
    (View.ld x1 (Rect.unit (s := S1x4x4096x128) (k0_off16 i 1#32) S1x1x512x128.size (k0_off16_inb i 1)))
def dA2 : FVec Ideal S128x2048 .f32 :=
  k0_pay48 (k0_pay15 (qs x0 3)) (bias1 i) (k0_pay36 (dM i x0 x1 S)) (k0_pay38 (dA i x0 x1 x2 S))
    (k0_pay39 (k0_pay12 (qs x0 0)) (View.ld x1 (Rect.unit (s := S1x4x4096x128) (k0_off13 i 1#32) S1x1x512x128.size (k0_off13_inb i 1))))
    (k0_pay40 (k0_pay13 (qs x0 1)) (View.ld x1 (Rect.unit (s := S1x4x4096x128) (k0_off14 i 1#32) S1x1x512x128.size (k0_off14_inb i 1))))
    (k0_pay41 (View.ld x1 (Rect.unit (s := S1x4x4096x128) (k0_off15 i 1#32) S1x1x512x128.size (k0_off15_inb i 1)))) (k0_pay42 (k0_pay14 (qs x0 2)))
    (View.ld x1 (Rect.unit (s := S1x4x4096x128) (k0_off16 i 1#32) S1x1x512x128.size (k0_off16_inb i 1)))
    (View.ld x2 (Rect.unit (s := S1x4096x256) (k0_off17 i 1#32) S1x512x128.size (k0_off17_inb i 1)))
    (View.ld x2 (Rect.unit (s := S1x4096x256) (k0_off18 i 1#32) S1x512x128.size (k0_off18_inb i 1)))

variable {S} {e : Fin 4} {ln : Fin 128}

theorem dot_bias0 (x : Fin 1024) (r : Fin 512) :
    dotp (qs x0 0) (qs x0 1) (qs x0 2) (qs x0 3) (View.ld x1 (Rect.unit (s := S1x4x4096x128) (k0_off13 i 0#32) S1x1x512x128.size (k0_off13_inb i 0)))
      (View.ld x1 (Rect.unit (s := S1x4x4096x128) (k0_off14 i 0#32) S1x1x512x128.size (k0_off14_inb i 0)))
      (View.ld x1 (Rect.unit (s := S1x4x4096x128) (k0_off15 i 0#32) S1x1x512x128.size (k0_off15_inb i 0)))
      (View.ld x1 (Rect.unit (s := S1x4x4096x128) (k0_off16 i 0#32) S1x1x512x128.size (k0_off16_inb i 0))) e r x + bias0 i (ix2 r x)
      = cs x0 x1 (i 2).val e x (1024 * (i 2).val + r) := by
  have hb : (i 2).val < 4 := (i 2).2
  refine (congrArg (· + _) (dotp_ld x0 x1 _ _ _ _ _ _ _ _ (1024 * (i 2).val) (by omega) (k0_off13_eq i 0) (k0_off14_eq i 0)
    (k0_off15_eq i 0) (k0_off16_eq i 0) e r x)).trans ?_
  dsimp only
  unfold bias0 cs
  rw [bias0_at]
  by_cases h : r.val ≤ x.val
  · rw [if_pos h, if_pos (by omega), add_zero]
  · rw [if_neg h, if_neg (by omega), EReal.add_bot]

theorem dot_bias1 (x : Fin 512) (r : Fin 512) :
    dotp (qs x0 0) (qs x0 1) (qs x0 2) (qs x0 3) (View.ld x1 (Rect.unit (s := S1x4x4096x128) (k0_off13 i 1#32) S1x1x512x128.size (k0_off13_inb i 1)))
      (View.ld x1 (Rect.unit (s := S1x4x4096x128) (k0_off14 i 1#32) S1x1x512x128.size (k0_off14_inb i 1)))
      (View.ld x1 (Rect.unit (s := S1x4x4096x128) (k0_off15 i 1#32) S1x1x512x128.size (k0_off15_inb i 1)))
      (View.ld x1 (Rect.unit (s := S1x4x4096x128) (k0_off16 i 1#32) S1x1x512x128.size (k0_off16_inb i 1))) e r (up x) + bias1 i (ix2 r x)
      = cs x0 x1 (i 2).val e (up x) (1024 * (i 2).val + 512 + r) := by
  have hb : (i 2).val < 4 := (i 2).2
  refine (congrArg (· + _) (dotp_ld x0 x1 _ _ _ _ _ _ _ _ (1024 * (i 2).val + 512) (by omega) (k0_off13_eq i 1) (k0_off14_eq i 1)
    (k0_off15_eq i 1) (k0_off16_eq i 1) e r (up x))).trans ?_
  dsimp only
  unfold bias1 cs
  rw [bias1_at]
  have hu : (up x).val = 512 + x.val := rfl
  by_cases h : r.val ≤ x.val
  · rw [if_pos h, if_pos (by omega), add_zero]
  · rw [if_neg h, if_neg (by omega), EReal.add_bot]

/-- After the first diagonal tile. -/
theorem diag0 (x : Fin 1024) (hσ : ∀ j, cs x0 x1 (i 2).val e x j ≠ ⊤)
    (h : Attn.Held (cs x0 x1 (i 2).val e x) (vl x2 e ln) (1024 * (i 2).val)
      (S.1 (ix2 0 (col e x))) (S.2.1 (ix2 0 (col e x))) (S.2.2 (ix2 ln (col e x)))) :
    Attn.Held (cs x0 x1 (i 2).val e x) (vl x2 e ln) (1024 * (i 2).val + 512)
      (dM i x0 x1 S (ix2 0 (col e x))) (dL i x0 x1 S (ix2 0 (col e x))) (dA i x0 x1 x2 S (ix2 ln (col e x))) := by
  have hb : (i 2).val < 4 := (i 2).2
  refine low_held _ _ _ _ _ _ _ _ _ _ _ _ _ _ hσ e x ln (fun r => dot_bias0 i x0 x1 x r) (fun r => ?_) ?_
  · exact vl_ld x2 _ _ _ _ (1024 * (i 2).val) (by omega) (k0_off17_eq i 0) (k0_off18_eq i 0) e r ln
  · rw [take_m, take_l, take_a]; exact h

/-- After the second. -/
theorem diag1 (x : Fin 512) (hσ : ∀ j, cs x0 x1 (i 2).val e (up x) j ≠ ⊤)
    (h : Attn.Held (cs x0 x1 (i 2).val e (up x)) (vl x2 e ln) (1024 * (i 2).val + 512)
      (dM i x0 x1 S (ix2 0 (col e (up x)))) (dL i x0 x1 S (ix2 0 (col e (up x)))) (dA i x0 x1 x2 S (ix2 ln (col e (up x))))) :
    ∃ m, Attn.Held (cs x0 x1 (i 2).val e (up x)) (vl x2 e ln) (1024 * (i 2).val + 512 + 512)
      m (dL2 i x0 x1 S (ix2 0 (half e x))) (dA2 i x0 x1 x2 S (ix2 ln (half e x))) := by
  have hb : (i 2).val < 4 := (i 2).2
  refine ⟨_, high_held _ _ _ _ _ _ _ _ _ _ _ _ _ _ hσ e x ln (fun r => dot_bias1 i x0 x1 x r) (fun r => ?_) ?_⟩
  · exact vl_ld x2 _ _ _ _ (1024 * (i 2).val + 512) (by omega) (k0_off17_eq i 1) (k0_off18_eq i 1) e r ln
  · rw [upper_m, upper_l, upper_a]; exact h

/-- ALL KEYS: what the stored quotient is taken of. -/
theorem whole (x : Fin 1024) (hσ : ∀ j, cs x0 x1 (i 2).val e x j ≠ ⊤)
    (h : Attn.Held (cs x0 x1 (i 2).val e x) (vl x2 e ln) (1024 * (i 2).val)
      (S.1 (ix2 0 (col e x))) (S.2.1 (ix2 0 (col e x))) (S.2.2 (ix2 ln (col e x)))) :
    ∃ m, Attn.Held (cs x0 x1 (i 2).val e x) (vl x2 e ln) 4096 m
      (k0_pay50 (dL i x0 x1 S) (dL2 i x0 x1 S) (k0_pay49 (dL i x0 x1 S)) (ix2 0 (col e x)))
      (k0_pay51 (dA i x0 x1 x2 S) (dA2 i x0 x1 x2 S) (ix2 ln (col e x))) := by
  have hb : (i 2).val < 4 := (i 2).2
  have h0 := diag0 i x0 x1 x2 x hσ h
  by_cases hx : x.val < 512
  · rw [whole_l_low _ _ _ _ hx, whole_a_low _ _ _ _ _ hx]
    exact ⟨_, h0.masked (by omega) fun j hj _ => if_neg (by omega)⟩
  · obtain ⟨y, rfl⟩ : ∃ y : Fin 512, up y = x := ⟨⟨x.val - 512, by omega⟩, Fin.ext (by show 512 + (x.val - 512) = x.val; omega)⟩
    obtain ⟨m, h1⟩ := diag1 i x0 x1 x2 y hσ h0
    rw [whole_l_high, whole_a_high]
    have hu : (up y).val = 512 + y.val := rfl
    exact ⟨m, h1.masked (by omega) fun j hj _ => if_neg (by omega)⟩
end

/-- THE BODY at query `x` and lane `z` of its block: the attention's quotient, over all keys. -/
theorem out_at (c : Dev nD) (i : grid0.Coords) (arg3 : Memref sig .tc .vmem S1x4x1024x128 .bf16) (harg3 : arg3.IsWhole) (arg4 : Memref sig .tc .vmem S1x4x4096x128 .bf16) (harg4 : arg4.IsWhole) (arg5 : Memref sig .tc .vmem S1x4096x256 .bf16) (harg5 : arg5.IsWhole) (arg6 : Memref sig .tc .vmem S1x1024x256 .bf16) (harg6 : arg6.IsWhole)
    (x0 : Vec Ideal S1x4x1024x128 .bf16) (x1 : Vec Ideal S1x4x4096x128 .bf16) (x2 : Vec Ideal S1x4096x256 .bf16)
    (hσ : ∀ e x j, cs x0 x1 (i 2).val e x j ≠ ⊤) (y : S1x1024x256.Idx) (x : Fin 1024) (e : Fin 4) (ln : Fin 128)
    (hx : (y 1).val = x) (he : (y 2).val / 64 = e) (hl : (y 2).val % 128 = ln) :
    ∃ m l a, Attn.Held (cs x0 x1 (i 2).val e x) (vl x2 e ln) 4096 m l a
      ∧ out0_A_3 c i arg3 harg3 arg4 harg4 arg5 harg5 arg6 harg6 x0 x1 x2 y = Ideal.div a l := by
  have hloop := loop_held x0 x1 x2 Variants.none c none i arg3 harg3 arg4 harg4 arg5 harg5 arg6 harg6 e x ln (hσ e x)
    (2 * (i 2).val) (trips1 i).ge
  rw [show 512 * (2 * (i 2).val) = 1024 * (i 2).val by ring] at hloop
  obtain ⟨m, hw⟩ := whole i x0 x1 x2 x (hσ e x) hloop
  refine ⟨m, _, _, hw, ?_⟩
  clear hloop hw
  frame_out
  rw [show (View.ld x0 (Rect.unit (s := S1x4x1024x128) ![0, 0, 0, 0] ![1, 1, 1024, 128] inb_S1x4x1024x128_S1x1x1024x128_0_0_0_0)) = qs x0 0 from rfl]
  rw [show (View.ld x0 (Rect.unit (s := S1x4x1024x128) ![0, 1, 0, 0] ![1, 1, 1024, 128] inb_S1x4x1024x128_S1x1x1024x128_0_1_0_0)) = qs x0 1 from rfl]
  rw [show (View.ld x0 (Rect.unit (s := S1x4x1024x128) ![0, 2, 0, 0] ![1, 1, 1024, 128] inb_S1x4x1024x128_S1x1x1024x128_0_2_0_0)) = qs x0 2 from rfl]
  rw [show (View.ld x0 (Rect.unit (s := S1x4x1024x128) ![0, 3, 0, 0] ![1, 1, 1024, 128] inb_S1x4x1024x128_S1x1x1024x128_0_3_0_0)) = qs x0 3 from rfl]
  generalize hS1 : (st_k0_t1 Variants.none c none i arg3 harg3 arg4 harg4 arg5 harg5 arg6 harg6 (qs x0 0) (qs x0 1) (qs x0 2) (qs x0 3) (harg4.unread x1) (harg5.unread x2) (k0_pay16, k0_pay17, k0_pay18)) = S1
  have t1 := trips1 i
  have t2 := trips2 i
  dsimp only [k0_t1_loop, k0_t2_loop, Scf.Loop.trips] at t1 t2
  rw [t2, t1, st_k0_t2_zero]
  dsimp only
  generalize hL : k0_pay33 (F := Ideal) _ _ _ _ _ _ _ _ = L
  generalize hM : k0_pay30 (F := Ideal) _ _ _ _ _ _ _ = M
  generalize hA : k0_pay34 (F := Ideal) _ _ _ _ _ _ _ _ _ _ = A
  generalize hL2 : k0_pay47 (F := Ideal) _ _ _ _ _ _ _ _ _ = L2
  generalize hA2 : k0_pay48 (F := Ideal) _ _ _ _ _ _ _ _ _ _ _ = A2
  obtain rfl : dM i x0 x1 (S1 (2 * (i 2).val)) = M := hM
  obtain rfl : dL i x0 x1 (S1 (2 * (i 2).val)) = L := hL
  obtain rfl : dA i x0 x1 x2 (S1 (2 * (i 2).val)) = A := hA
  obtain rfl : dL2 i x0 x1 (S1 (2 * (i 2).val)) = L2 := hL2
  obtain rfl : dA2 i x0 x1 x2 (S1 (2 * (i 2).val)) = A2 := hA2
  generalize dL i x0 x1 (S1 (2 * (i 2).val)) = L
  generalize dA i x0 x1 x2 (S1 (2 * (i 2).val)) = A
  generalize dL2 i x0 x1 (S1 (2 * (i 2).val)) = L2
  generalize dA2 i x0 x1 x2 (S1 (2 * (i 2).val)) = A2
  clear hσ t1 t2 hS1
  canon_tiles z h
  · have hz : z = ix3 0 x ln := by
      funext a; apply Fin.ext
      fin_cases a
      · show (z 0).val = 0; omega
      · show (z 1).val = x.val; omega
      · show (z 2).val = ln.val; omega
    have he' : e = headOf 1 ln := Fin.ext (by show e.val = 2 * 1 + ln.val / 64; omega)
    rw [hz, he']
    exact store1 L A L2 A2 x ln
  · have hz : z = ix3 0 x ln := by
      funext a; apply Fin.ext
      fin_cases a
      · show (z 0).val = 0; omega
      · show (z 1).val = x.val; omega
      · show (z 2).val = ln.val; omega
    have he' : e = headOf 0 ln := Fin.ext (by show e.val = 2 * 0 + ln.val / 64; omega)
    rw [hz, he']
    exact store0 L A L2 A2 x ln

end Cert.KernelIdeal.Value
-- ==== Proof.Layout.lean ====
module
public import proofs.«01_k».proof.Proof.Body
public import Idealize.ShloMosaic.Lib.Claim
/-!
The three arrays the launch hands to the kernel, read at one entry: the scaled queries and the keys, head by head and
padded from 96 to 128 lanes by zeros, and the values with the heads side by side.
-/
set_option maxRecDepth 16384
@[expose] public noncomputable section
open Idealize.ShloMosaic Idealize.ShloMosaic.TcCoe Idealize.SL.Sem
namespace Cert.KernelIdeal.Value
open Cert.KernelIdeal Cert.KernelIdeal.Gen

/-- The number every query is multiplied by. -/
def unit : EReal := Ideal.div (Ideal.ofBits .f32 0x3F800000#32)
  (Ideal.sqrt (Ideal.ofBits .f32 0x42C00000#32) * Ideal.log (Ideal.ofBits .f32 0x40000000#32))
/-- An array of 96 lanes, heads first, padded to 128 lanes. -/
def padded (x : FVec Ideal S8x4096x8x96 .f32) : FVec Ideal S8x8x4096x128 .bf16 :=
  truncf .bf16 (pad S8x8x4096x128 ![0, 0, 0, 0] ![0, 0, 0, 32] ![0, 0, 0, 0]
    (transpose S8x8x4096x96 [0, 2, 1, 3] x transposes_S8x4096x8x96_S8x8x4096x96_0_2_1_3)
    (sitofp .f32 (constantI S_ 32 0#32) : FVec Ideal S_ .f32)
    pads_S8x8x4096x96_S8x8x4096x128_000_000_000_0320 h_S_) bitsLt_bf16_f32
/-- The queries times the scale. -/
def scaled (q : FVec Ideal S8x4096x8x96 .f32) : FVec Ideal S8x4096x8x96 .f32 :=
  mulf q (broadcastInDim S8x4096x8x96 ![] bcast_S_S8x4096x8x96 (Host.divf (constant S_ .f32 0x3F800000#32)
    (mulf (Host.sqrt (constant S_ .f32 0x42C00000#32)) (Host.log (constant S_ .f32 0x40000000#32)))))

section read
variable (x : FVec Ideal S8x4096x8x96 .f32) (b h : Fin 8) (s : Fin 4096)
theorem padded_at (d : Fin 128) :
    padded x (ix4 b h s d) = if hd : d.val < 96 then x (ix4 b s h ⟨d, hd⟩) else (0 : EReal) := by
  pointwise [padded]
  have h0 : (FloatOps.sitofp FTy.f32 (0#32 : BitVec 32) : Ideal .f32) = (0 : EReal) := by simp [FloatOps.sitofp]
  rw [h0]
theorem scaled_at (d : Fin 96) : scaled x (ix4 b s h d) = x (ix4 b s h d) * unit := by
  pointwise [scaled, unit]
end read

variable (m : (ℓ : Loc nD τ sig) → Buf (Elt Ideal) ℓ) (c : Dev nD)
theorem queries : V m c main_v8 = padded (scaled (m ((c.tc : Thread nD τ).loc main_arg0))) := by
  simp only [V, hostOps0, hostOps0_1, hostOps0_2, hostOps0_3, hostOps0_4, List.flatten_cons, List.flatten_nil,
    List.cons_append, List.nil_append, List.append_nil]
  entry_read
  rfl
theorem keys : V m c main_v11 = padded (m ((c.tc : Thread nD τ).loc main_arg1)) := by
  simp only [V, hostOps0, hostOps0_1, hostOps0_2, hostOps0_3, hostOps0_4, List.flatten_cons, List.flatten_nil,
    List.cons_append, List.nil_append, List.append_nil]
  entry_read
  rfl
theorem values : V m c main_v13 = truncf .bf16 (shapeCast S8x4096x512 (m ((c.tc : Thread nD τ).loc main_arg2))
    shapeCasts_S8x4096x8x64_S8x4096x512 : FVec Ideal S8x4096x512 .f32) bitsLt_bf16_f32 := by
  simp only [V, hostOps0, hostOps0_1, hostOps0_2, hostOps0_3, hostOps0_4, List.flatten_cons, List.flatten_nil,
    List.cons_append, List.nil_append, List.append_nil]
  entry_read
  rfl
theorem values_at (v : FVec Ideal S8x4096x8x64 .f32) (b : Fin 8) (s : Fin 4096) (z : Fin 512) :
    (truncf .bf16 (shapeCast S8x4096x512 v shapeCasts_S8x4096x8x64_S8x4096x512) bitsLt_bf16_f32
      : FVec Ideal S8x4096x512 .bf16) (ix3 b s z) = v (ix4 b s ⟨z / 64, by omega⟩ ⟨z % 64, by omega⟩) := by
  pointwise

/-- The scale is one over the square root of 96 and the natural logarithm of two. -/
theorem unit_eq : unit = (((Real.sqrt 96)⁻¹ * (Real.log 2)⁻¹ : ℝ) : EReal) := by
  have h1 : Ideal.ofBits .f32 0x3F800000#32 = ((1 : ℝ) : EReal) := by
    simp [Ideal.ofBits, Ideal.ieee]; rw [← EReal.coe_mul]; norm_num
  have h2 : Ideal.ofBits .f32 0x40000000#32 = ((2 : ℝ) : EReal) := by
    simp [Ideal.ofBits, Ideal.ieee]; rw [← EReal.coe_mul]; norm_num
  have h96 : Ideal.ofBits .f32 0x42C00000#32 = ((96 : ℝ) : EReal) := by
    simp [Ideal.ofBits, Ideal.ieee]; rw [← EReal.coe_mul]; norm_num
  unfold unit
  rw [h1, h2, h96]
  have hs : Real.sqrt 96 * Real.log 2 ≠ 0 := (mul_pos (by positivity) (Real.log_pos (by norm_num))).ne'
  rw [Ideal.sqrt_coe, Ideal.log_coe, if_neg (by norm_num), if_neg (by norm_num), ← EReal.coe_mul, Ideal.div_coe hs,
    ← EReal.coe_mul, one_mul, one_div, mul_inv]
/-- A sum over 128 lanes of which the last 32 vanish. -/
theorem sum_lanes (f : Fin 128 → EReal) (g : Fin 96 → EReal) (hf : ∀ d, f (Fin.castLE (by omega) d) = g d)
    (h0 : ∀ d : Fin 128, 96 ≤ d.val → f d = 0) : ∑ d, f d = ∑ d, g d := by
  rw [show ∑ d, f d = ∑ d : Fin (96 + 32), f d from rfl, Fin.sum_univ_add,
    Finset.sum_eq_zero (fun (d : Fin 32) _ => h0 (Fin.natAdd 96 d) (by simp)), add_zero]
  exact Finset.sum_congr rfl fun d _ => hf d
end Cert.KernelIdeal.Value
-- ==== Proof.Reference.lean ====
module
public import proofs.«01_k».proof.Proof.Gen.ReferenceIdeal.Run
public import Idealize.ShloMosaic.Lib.Pipeline.ValueKit
public import Idealize.ShloMosaic.Lib.Pointwise
public import Idealize.ShloMosaic.Lib.WordCmp
/-!
The reference read at one entry.  Its output is built in five steps, each read here on its own for arbitrary arrays:
the masked scores, their largest value along a row, the exponentials of the differences, the row sums, and the
weighted sum of the values.  `out_eq` puts them together.
-/
set_option maxRecDepth 16384
@[expose] public noncomputable section
open Idealize.ShloMosaic Idealize.ShloMosaic.TcCoe Idealize.SL.Sem

namespace Cert.ReferenceIdeal.Value
open Cert.ReferenceIdeal Cert.ReferenceIdeal.Gen

/-- The type of the score arrays. -/
local notation "Scores" => FVec Ideal S8x8x4096x4096 FTy.f32

theorem neg_inf : Ideal.ofBits FTy.f32 4286578688#32 = ⊥ := by simp [Ideal.ofBits, Ideal.ieee]

/-- The masked, scaled scores. -/
def scores (q k : FVec Ideal S8x4096x8x96 .f32) : Scores :=
  select (broadcastInDim S8x8x4096x4096 ![2,3] bcast_S4096x4096_S8x8x4096x4096_2_3
      (cmpi .sle (broadcastInDim S4096x4096 ![0,1] bcast_S1x4096_S4096x4096_0_1
          (broadcastInDim S1x4096 ![1] bcast_S4096_S1x4096_1 (iotaInDim S4096 32 0)))
        (broadcastInDim S4096x4096 ![0,1] bcast_S4096x1_S4096x4096_0_1
          (broadcastInDim S4096x1 ![0] bcast_S4096_S4096x1_0 (iotaInDim S4096 32 0)))))
    (Host.divf (Host.dotGeneral dot_S8x4096x8x96_S8x4096x8x96_S8x8x4096x4096_3_3_1_1_02_02 none q k)
      (broadcastInDim S8x8x4096x4096 ![] bcast_S_S8x8x4096x4096 (Host.sqrt (constant S_ .f32 0x42C00000#32))))
    (broadcastInDim S8x8x4096x4096 ![] bcast_S_S8x8x4096x4096 (id (constant S_ .f32 0xFF800000#32)))
/-- The largest entry of every row, by itself. -/
def rowTop (W : Scores) : FVec Ideal S8x8x4096 .f32 :=
  Host.reduce FloatOps.maximumf W (constant S_ .f32 0xFF800000#32) reducesTo_S8x8x4096x4096_S8x8x4096_d3 h_S_
/-- The same, floored at minus infinity, as the softmax takes it. -/
def floored (R : FVec Ideal S8x8x4096 .f32) : FVec Ideal S8x8x4096 .f32 :=
  maximumf (broadcastInDim S8x8x4096 ![] bcast_S_S8x8x4096 (constant S_ .f32 0xFF800000#32)) R
/-- The exponentials of the scores less a row's value. -/
def weights (W : Scores) (M : FVec Ideal S8x8x4096 .f32) : Scores :=
  Host.exp (subf W (broadcastInDim S8x8x4096x4096 ![0,1,2,3] bcast_S8x8x4096x1_S8x8x4096x4096_0_1_2_3
    (broadcastInDim S8x8x4096x1 ![0,1,2] bcast_S8x8x4096_S8x8x4096x1_0_1_2 M)))
/-- The weights divided by their row sums. -/
def probs (E : Scores) : Scores :=
  Host.divf E (broadcastInDim S8x8x4096x4096 ![0,1,2,3] bcast_S8x8x4096x1_S8x8x4096x4096_0_1_2_3
    (broadcastInDim S8x8x4096x1 ![0,1,2] bcast_S8x8x4096_S8x8x4096x1_0_1_2
      (Host.reduceAdd E (constant S_ .f32 0x00000000#32) reducesTo_S8x8x4096x4096_S8x8x4096_d3 h_S_)))
/-- The values weighted by an array of probabilities, the heads side by side. -/
def mixed (v : FVec Ideal S8x4096x8x64 .f32) (P : Scores) : FVec Ideal S8x4096x512 .bf16 :=
  truncf .bf16 (shapeCast _ (transpose S8x4096x8x64 [0,3,1,2]
    (Host.dotGeneral dot_S8x4096x8x64_S8x8x4096x4096_S8x8x64x4096_1_3_3_2_02_01 none v P)
    transposes_S8x8x64x4096_S8x4096x8x64_0_3_1_2) shapeCasts_S8x4096x8x64_S8x4096x512) bitsLt_bf16_f32

variable (b h : Fin 8) (s j : Fin 4096)
theorem scores_at (q k : FVec Ideal S8x4096x8x96 .f32) :
    scores q k (ix4 b h s j) = Scalar.select (IntOp.cmpi .sle (BitVec.ofNat 32 j) (BitVec.ofNat 32 s))
      (Ideal.div (∑ d : Fin 96, q (ix4 b s h d) * k (ix4 b j h d)) (Ideal.sqrt (Ideal.ofBits FTy.f32 1119879168#32))) ⊥ := by
  pointwise [scores]
  exact congrArg (Scalar.select _ _) neg_inf
theorem rowTop_at (W : Scores) :
    rowTop W (ix3 b h s) = Finset.univ.fold max ⊥ fun j : Fin 4096 => W (ix4 b h s j) := by
  pointwise [rowTop]
  rw [neg_inf]
theorem floored_at (R : FVec Ideal S8x8x4096 .f32) : floored R (ix3 b h s) = R (ix3 b h s) := by
  pointwise [floored]
  rw [neg_inf]
  exact bot_sup_eq _
theorem weights_at (W : Scores) (M : FVec Ideal S8x8x4096 .f32) :
    weights W M (ix4 b h s j) = Ideal.exp (W (ix4 b h s j) - M (ix3 b h s)) := by
  pointwise [weights]
theorem probs_at (E : Scores) :
    probs E (ix4 b h s j) = Ideal.div (E (ix4 b h s j)) (∑ j : Fin 4096, E (ix4 b h s j)) := by
  pointwise [probs]
theorem mixed_at (v : FVec Ideal S8x4096x8x64 .f32) (P : Scores) (z : Fin 512) :
    mixed v P (ix3 b s z) = ∑ j : Fin 4096, v (ix4 b j ⟨z / 64, by omega⟩ ⟨z % 64, by omega⟩)
      * P (ix4 b ⟨z / 64, by omega⟩ s j) := by
  pointwise [mixed]

/-- The reference as a function of the queries, keys and values. -/
def attn (q k : FVec Ideal S8x4096x8x96 .f32) (v : FVec Ideal S8x4096x8x64 .f32) : FVec Ideal S8x4096x512 .bf16 :=
  mixed v (probs (weights (scores q k) (floored (rowTop (scores q k)))))
theorem res_eq (m : (ℓ : Loc nD τ sig) → Buf (Elt Ideal) ℓ) (c : Dev nD) :
    res_out0 m c = attn (m ((c.tc : Thread nD τ).loc main_arg0)) (m ((c.tc : Thread nD τ).loc main_arg1))
      (m ((c.tc : Thread nD τ).loc main_arg2)) := rfl
theorem attn_at (q k : FVec Ideal S8x4096x8x96 .f32) (v : FVec Ideal S8x4096x8x64 .f32) (z : Fin 512)
    (w : Fin 4096 → EReal) (hw : ∀ j, scores q k (ix4 b ⟨z / 64, by omega⟩ s j) = w j) :
    attn q k v (ix3 b s z) = ∑ j : Fin 4096, v (ix4 b j ⟨z / 64, by omega⟩ ⟨z % 64, by omega⟩)
      * Ideal.div (Ideal.exp (w j - Finset.univ.fold max ⊥ w))
        (∑ j, Ideal.exp (w j - Finset.univ.fold max ⊥ w)) := by
  have hM : floored (rowTop (scores q k)) (ix3 b ⟨z / 64, by omega⟩ s) = Finset.univ.fold max ⊥ w := by
    rw [floored_at, rowTop_at]
    simp only [hw]
  have hE : ∀ j, weights (scores q k) (floored (rowTop (scores q k))) (ix4 b ⟨z / 64, by omega⟩ s j)
      = Ideal.exp (w j - Finset.univ.fold max ⊥ w) := fun j => by rw [weights_at, hM, hw]
  unfold attn
  rw [mixed_at]
  exact Finset.sum_congr rfl fun j _ => by rw [probs_at]; simp only [hE]
end Cert.ReferenceIdeal.Value
-- ==== Proof.Softmax.lean ====
module
public import proofs.«01_k».proof.Proof.Flash
@[expose] public noncomputable section
open Idealize.ShloMosaic

/-!
# The tiled softmax is the softmax

What a query holds after all its keys, divided out, is the sum of the values weighted by the softmax of its scores. The
tiled form takes powers of two of the scores over `log 2`; the plain form takes powers of `e` of the scores.
-/

namespace Attn

/-- The scores over `log 2`. -/
def perLog2 (x : EReal) : EReal := x * (((Real.log 2)⁻¹ : ℝ) : EReal)

theorem log2_pos : 0 < Real.log 2 := Real.log_pos one_lt_two

theorem perLog2_bot : perLog2 ⊥ = ⊥ := by
  unfold perLog2
  exact EReal.bot_mul_of_pos (by exact_mod_cast inv_pos.mpr log2_pos)

theorem perLog2_coe (r : ℝ) : perLog2 (r : EReal) = ((r * (Real.log 2)⁻¹ : ℝ) : EReal) := by
  unfold perLog2; rw [← EReal.coe_mul]

theorem perLog2_mono : Monotone perLog2 := fun x y h => by
  unfold perLog2
  exact mul_le_mul_of_nonneg_right h (by exact_mod_cast (inv_pos.mpr log2_pos).le)

/-- A power of two of a difference of scores over `log 2` is the power of `e` of the difference. -/
theorem exp2_perLog2 {s m : EReal} (hs : s ≤ m) (hm : m ≠ ⊤) :
    Ideal.exp2 (perLog2 s - perLog2 m) = Ideal.exp (s - m) := by
  induction m using EReal.rec with
  | bot =>
    have : s = ⊥ := le_bot_iff.mp hs
    subst this
    rw [perLog2_bot]; simp [sub_eq_add_neg]
  | top => exact absurd rfl hm
  | coe a =>
    induction s using EReal.rec with
    | bot => rw [perLog2_bot]; simp [sub_eq_add_neg]
    | top => exact absurd (top_le_iff.mp hs) (EReal.coe_ne_top a)
    | coe r =>
      rw [perLog2_coe, perLog2_coe, ← EReal.coe_sub, ← EReal.coe_sub, Ideal.exp2_coe, Ideal.exp_coe]
      congr 1
      show (2 : ℝ) ^ (r * (Real.log 2)⁻¹ - a * (Real.log 2)⁻¹) = Real.exp (r - a)
      rw [Real.rpow_def_of_pos two_pos]
      congr 1
      field_simp [log2_pos.ne']

theorem inv_ne_top' (x : EReal) : x⁻¹ ≠ ⊤ := by
  induction x using EReal.rec with
  | bot => simp
  | top => simp
  | coe r => rw [← EReal.coe_inv]; exact EReal.coe_ne_top _

/-- THE EQUATION of the softmax: the held sum over the held total. -/
theorem Held.softmax {w v : ℕ → EReal} {N : ℕ} {m l a : EReal} (h : Held (fun j => perLog2 (w j)) v N m l a)
    (hw : ∀ j, w j ≠ ⊤) (hne : ∃ j, j < N ∧ w j ≠ ⊥) :
    Ideal.div a l = ∑ j ∈ Finset.range N, v j * Ideal.div (Ideal.exp (w j - (Finset.range N).sup w))
      (∑ j ∈ Finset.range N, Ideal.exp (w j - (Finset.range N).sup w)) := by
  have hM := sup_range_ne_top hw N
  have hm : m = perLog2 ((Finset.range N).sup w) := by
    rw [h.top]
    exact (Finset.comp_sup_eq_sup_comp_of_is_total perLog2 perLog2_mono perLog2_bot).symm
  have hle : ∀ j ∈ Finset.range N, w j ≤ (Finset.range N).sup w := fun j hj => Finset.le_sup (f := w) hj
  have hl : l = ∑ j ∈ Finset.range N, Ideal.exp (w j - (Finset.range N).sup w) := by
    rw [h.tot, hm]; exact Finset.sum_congr rfl fun j hj => exp2_perLog2 (hle j hj) hM
  have ha : a = ∑ j ∈ Finset.range N, v j * Ideal.exp (w j - (Finset.range N).sup w) := by
    rw [h.acc, hm]; exact Finset.sum_congr rfl fun j hj => by rw [exp2_perLog2 (hle j hj) hM]
  have hpos : 0 < l := by
    obtain ⟨j, hj, hb⟩ := hne
    have hj' := Finset.mem_range.mpr hj
    have hnn : ∀ i ∈ Finset.range N, 0 ≤ Ideal.exp2 (perLog2 (w i) - m) := fun i _ => exp2_nonneg _
    rw [h.tot]
    refine lt_of_lt_of_le ?_ (Finset.single_le_sum hnn hj')
    have h1 := hle j hj'
    rw [hm]
    revert hb h1 hM
    have h2 := hw j
    revert h2
    generalize w j = s
    generalize (Finset.range N).sup w = M
    intro h2 hb h3 hM
    induction s using EReal.rec with
    | bot => simp_all
    | top => simp_all
    | coe r =>
      induction M using EReal.rec with
      | bot => simp_all
      | top => simp_all
      | coe b =>
        rw [perLog2_coe, perLog2_coe, ← EReal.coe_sub, Ideal.exp2_coe]
        exact_mod_cast Real.rpow_pos_of_pos two_pos _
  rw [← hl, Ideal.div, if_neg hpos.ne', ha, mul_comm, mul_sum _ _ (EReal.inv_nonneg_of_nonneg hpos.le) (inv_ne_top' l)]
  refine Finset.sum_congr rfl fun j _ => ?_
  rw [Ideal.div, if_neg hpos.ne']
  rw [mul_comm, mul_assoc]

end Attn
-- ==== Proof.Score.lean ====
module
public import proofs.«01_k».proof.Proof.Layout
public import proofs.«01_k».proof.Proof.Reference
public import proofs.«01_k».proof.Proof.Softmax
/-!
For real queries and keys the kernel's score of a query and a key is the reference's, counted per natural logarithm
of two; and a query's running state over all keys, divided out, is the reference's output.
-/
set_option maxRecDepth 16384
@[expose] public noncomputable section
open Idealize.ShloMosaic Idealize.ShloMosaic.TcCoe Idealize.SL.Sem
open Attn (perLog2)
namespace Cert.KernelIdeal.Value
open Cert.KernelIdeal Cert.KernelIdeal.Gen

/-- The arrays of queries and keys. -/
local notation "Rows" => FVec Ideal S8x4096x8x96 FTy.f32

variable (q k : Rows) (qr kr : S8x4096x8x96.Idx → ℝ)
/-- The score of a query and a key, a real number. -/
def score (b h : Fin 8) (s j : Fin 4096) : ℝ :=
  (∑ d : Fin 96, qr (ix4 b s h d) * kr (ix4 b j h d)) * (Real.sqrt 96)⁻¹
/-- The scores of one query, minus infinity after the query's own position. -/
def rowScores (b h : Fin 8) (s : Fin 4096) (j : ℕ) : EReal :=
  if hj : j < 4096 then (if j ≤ s.val then (score qr kr b h s ⟨j, hj⟩ : EReal) else ⊥) else ⊥

theorem coe_sum {n : ℕ} (f : Fin n → ℝ) : ∑ d, (f d : EReal) = ((∑ d, f d : ℝ) : EReal) := by
  induction n with
  | zero => simp
  | succ n ih => rw [Fin.sum_univ_succ, Fin.sum_univ_succ, ih, EReal.coe_add]

section scores
variable {q k qr kr} (hq : ∀ b s h d, q (ix4 b s h d) = (qr (ix4 b s h d) : EReal))
  (hk : ∀ b s h d, k (ix4 b s h d) = (kr (ix4 b s h d) : EReal)) (b h : Fin 8) (s j : Fin 4096)
include hq hk
theorem kernel_score : ∑ d : Fin 128, padded k (ix4 b h j d) * padded (scaled q) (ix4 b h s d)
    = perLog2 (score qr kr b h s j : EReal) := by
  rw [sum_lanes _ (fun d : Fin 96 => ((qr (ix4 b s h d) * kr (ix4 b j h d)
      * ((Real.sqrt 96)⁻¹ * (Real.log 2)⁻¹) : ℝ) : EReal)) (fun d => ?_) (fun d hd => ?_),
    coe_sum, ← Finset.sum_mul, Attn.perLog2_coe, score]
  · congr 1; ring
  · have hd : (Fin.castLE (by omega) d : Fin 128).val < 96 := d.isLt
    rw [padded_at, padded_at, dif_pos hd, dif_pos hd]
    show k (ix4 b j h d) * scaled q (ix4 b s h d) = _
    rw [scaled_at, unit_eq, hq, hk, ← EReal.coe_mul, ← EReal.coe_mul]
    congr 1; ring
  · rw [padded_at, dif_neg (by omega), zero_mul]
theorem ref_score : ReferenceIdeal.Value.scores q k (ix4 b h s j) = rowScores qr kr b h s j := by
  have h96 : Ideal.sqrt (Ideal.ofBits FTy.f32 1119879168#32) = ((Real.sqrt 96 : ℝ) : EReal) := by
    rw [show Ideal.ofBits FTy.f32 1119879168#32 = ((96 : ℝ) : EReal) by
      simp [Ideal.ofBits, Ideal.ieee]; rw [← EReal.coe_mul]; norm_num, Ideal.sqrt_coe, if_neg (by norm_num)]
  have hs : Real.sqrt 96 ≠ 0 := by positivity
  have hd : ∑ d : Fin 96, q (ix4 b s h d) * k (ix4 b j h d)
      = ((∑ d : Fin 96, qr (ix4 b s h d) * kr (ix4 b j h d) : ℝ) : EReal) := by
    rw [← coe_sum]
    exact Finset.sum_congr rfl fun d _ => by rw [hq, hk, ← EReal.coe_mul]
  rw [ReferenceIdeal.Value.scores_at, h96, hd, Ideal.div_coe hs, ← EReal.coe_mul, one_div]
  unfold rowScores
  rw [dif_pos j.isLt]
  by_cases hj : j.val ≤ s.val
  · rw [if_pos hj, show IntOp.cmpi .sle (BitVec.ofNat 32 j) (BitVec.ofNat 32 s) = 1#1 by
      rw [WordCmp.cmpi_sle_ofNat (by omega) (by omega), decide_eq_true hj]; rfl]
    rfl
  · rw [if_neg hj, show IntOp.cmpi .sle (BitVec.ofNat 32 j) (BitVec.ofNat 32 s) = 0#1 by
      rw [WordCmp.cmpi_sle_ofNat (by omega) (by omega), decide_eq_false hj]; rfl]
    rfl
end scores

theorem sup_range_fin {n : ℕ} (w : ℕ → EReal) :
    (Finset.range n).sup w = Finset.univ.fold max ⊥ fun j : Fin n => w j := by
  show _ = Finset.univ.sup fun j : Fin n => w j
  refine le_antisymm (Finset.sup_le fun j hj => ?_) (Finset.sup_le fun j _ => ?_)
  · exact Finset.le_sup (f := fun j : Fin n => w j) (Finset.mem_univ ⟨j, Finset.mem_range.1 hj⟩)
  · exact Finset.le_sup (f := w) (Finset.mem_range.2 j.isLt)

theorem rowScores_ne_top (b h : Fin 8) (s : Fin 4096) (j : ℕ) : rowScores qr kr b h s j ≠ ⊤ := by
  unfold rowScores
  split_ifs <;> simp

section cell
variable {q k qr kr} (hq : ∀ b s h d, q (ix4 b s h d) = (qr (ix4 b s h d) : EReal))
  (hk : ∀ b s h d, k (ix4 b s h d) = (kr (ix4 b s h d) : EReal))
  (x0 : Vec Ideal S1x4x1024x128 .bf16) (x1 : Vec Ideal S1x4x4096x128 .bf16) (x2 : Vec Ideal S1x4096x256 .bf16)
  (n : ℕ) (e : Fin 4) (x : Fin 1024) (b h : Fin 8) (s : Fin 4096) (hs : s.val = 1024 * n + x)
  (h0 : ∀ d : Fin 128, x0 (ix4 0 e x d) = padded (scaled q) (ix4 b h s d))
  (h1 : ∀ (j : Fin 4096) (d : Fin 128), x1 (ix4 0 e j d) = padded k (ix4 b h j d))
include hq hk hs h0 h1
/-- The masked scores of a block's query are the reference's row of scores, per natural logarithm of two. -/
theorem cs_eq : cs x0 x1 n e x = fun j => perLog2 (rowScores qr kr b h s j) := by
  funext j
  unfold cs rowScores sc
  by_cases hj : j < 4096
  · rw [dif_pos hj, dif_pos hj]
    by_cases hle : j ≤ s.val
    · rw [if_pos hle, if_pos (by omega), ← kernel_score hq hk]
      exact Finset.sum_congr rfl fun d _ => by rw [h0, h1]
    · rw [if_neg hle, if_neg (by omega), Attn.perLog2_bot]
  · rw [dif_neg hj, dif_neg hj, Attn.perLog2_bot]
    split_ifs <;> rfl
/-- No masked score is plus infinity. -/
theorem cs_ne_top (j : ℕ) : cs x0 x1 n e x j ≠ ⊤ := by
  rw [cs_eq hq hk x0 x1 n e x b h s hs h0 h1]
  dsimp only
  unfold rowScores
  split_ifs
  · rw [Attn.perLog2_coe]; exact EReal.coe_ne_top _
  · rw [Attn.perLog2_bot]; exact bot_ne_top
  · rw [Attn.perLog2_bot]; exact bot_ne_top
/-- The quotient a query ends with is the reference's entry. -/
theorem cell (v : FVec Ideal S8x4096x8x64 .f32) (z : Fin 512) (hz : h = ⟨z / 64, by omega⟩) (ln : Fin 128)
    (h2 : ∀ j : Fin 4096, x2 (ix3 0 j ⟨128 * (pair e).val + ln.val, by omega⟩)
      = v (ix4 b j ⟨z / 64, by omega⟩ ⟨z % 64, by omega⟩)) {m l a : EReal}
    (H : Attn.Held (cs x0 x1 n e x) (vl x2 e ln) 4096 m l a) :
    Ideal.div a l = ReferenceIdeal.Value.attn q k v (ix3 b s z) := by
  rw [cs_eq hq hk x0 x1 n e x b h s hs h0 h1] at H
  rw [H.softmax (rowScores_ne_top qr kr b h s) ⟨s, s.isLt, ?_⟩]
  · subst hz
    rw [ReferenceIdeal.Value.attn_at b s q k v z _ fun j => ref_score hq hk b _ s j, sup_range_fin,
      Finset.sum_range, Finset.sum_range]
    refine Finset.sum_congr rfl fun j _ => ?_
    rw [← h2 j, vl, dif_pos j.isLt]
  · unfold rowScores
    rw [dif_pos s.isLt, if_pos le_rfl]
    exact EReal.coe_ne_bot _
end cell
end Cert.KernelIdeal.Value
-- ==== Proof.Windows.lean ====
module
public import proofs.«01_k».proof.Proof.Layout
public import proofs.«01_k».proof.Proof.Gen.KernelIdeal.Value
public import Idealize.ShloMosaic.Lib.Claim
/-!
Which part of each array a grid point's blocks are: a batch entry, four heads, and 1024 queries or all the keys.
-/
set_option maxRecDepth 16384
@[expose] public noncomputable section
open Idealize.ShloMosaic Idealize.ShloMosaic.TcCoe Idealize.SL.Sem
namespace Cert.KernelIdeal.Value
open Cert.KernelIdeal Cert.KernelIdeal.Gen
variable (m : (ℓ : Loc nD τ sig) → Buf (Elt Ideal) ℓ) (c : Dev nD)
/-- The block indices of every window, as functions of the grid's coordinates. -/
theorem idx : ∀ t : Fin cfg0.N,
    win0_0.index t = ![(grid0.coords t 0).val, (grid0.coords t 1).val, (grid0.coords t 2).val, 0]
    ∧ win0_1.index t = ![(grid0.coords t 0).val, (grid0.coords t 1).val, 0, 0]
    ∧ win0_2.index t = ![(grid0.coords t 0).val, 0, (grid0.coords t 1).val]
    ∧ win0_3.index t = ![(grid0.coords t 0).val, (grid0.coords t 2).val, (grid0.coords t 1).val] :=
  (by decide +kernel : ∀ t : Fin grid0.N, _)
variable (t : Fin cfg0.N)
theorem i0 : (grid0.coords t 0).val < 8 := (grid0.coords t 0).isLt
theorem i1 : (grid0.coords t 1).val < 2 := (grid0.coords t 1).isLt
theorem i2 : (grid0.coords t 2).val < 4 := (grid0.coords t 2).isLt
theorem block_q (e : Fin 4) (x : Fin 1024) (d : Fin 128) : iblk m c 0 t (ix4 0 e x d)
    = V m c main_v8 (ix4 ⟨grid0.coords t 0, i0 t⟩ ⟨4 * (grid0.coords t 1).val + e, by have := i1 t; omega⟩
        ⟨1024 * (grid0.coords t 2).val + x, by have := i2 t; omega⟩ d) := by
  blk_ext [iblk, idx t]
theorem block_k (e : Fin 4) (x : Fin 4096) (d : Fin 128) : iblk m c 1 t (ix4 0 e x d)
    = V m c main_v11 (ix4 ⟨grid0.coords t 0, i0 t⟩ ⟨4 * (grid0.coords t 1).val + e, by have := i1 t; omega⟩ x d) := by
  blk_ext [iblk, idx t]
theorem block_v (x : Fin 4096) (d : Fin 256) : iblk m c 2 t (ix3 0 x d)
    = V m c main_v13 (ix3 ⟨grid0.coords t 0, i0 t⟩ x ⟨256 * (grid0.coords t 1).val + d, by have := i1 t; omega⟩) := by
  blk_ext [iblk, idx t]
theorem emb_out (y : S1x1024x256.Idx) : (win0_3.blk t).view.emb y
    = ix3 ⟨grid0.coords t 0, i0 t⟩ ⟨1024 * (grid0.coords t 2).val + (y 1).val, by have := i2 t; have : (y 1).val < 1024 := (y 1).isLt; omega⟩
      ⟨256 * (grid0.coords t 1).val + (y 2).val, by have := i1 t; have : (y 2).val < 256 := (y 2).isLt; omega⟩ := by
  idx_vars y
  blk_ext [idx t]
end Cert.KernelIdeal.Value
-- ==== Proof.Finite.lean ====
module
public import proofs.«01_k».proof.Proof.Gen.Pre_finite
public import Idealize.ShloMosaic.Lib.ReduceAll
public import Idealize.ShloMosaic.Lib.Pipeline.ValueKit
public import Idealize.ShloMosaic.Lib.Pointwise
/-!
The precondition read entry by entry: every query and every key is a real number.
-/
set_option maxRecDepth 16384
@[expose] public noncomputable section
open Idealize.ShloMosaic Idealize.ShloMosaic.TcCoe Idealize.SL.Sem
namespace Cert.Pre_finite
open Cert.Pre_finite.Gen

/-- The elementwise test "smaller than infinity in absolute value". -/
def bounded (x : FVec Ideal S8x4096x8x96 .f32) : IVec S8x4096x8x96 1 :=
  cmpf .olt (Host.absf x) (broadcastInDim S8x4096x8x96 ![] bcast_S_S8x4096x8x96 (constant S_ .f32 0x7F800000#32))
theorem real_of_bounded (x : FVec Ideal S8x4096x8x96 .f32) (b : Fin 8) (s : Fin 4096) (h : Fin 8) (d : Fin 96)
    (hb : bounded x (ix4 b s h d) = 1#1) : ∃ r : ℝ, x (ix4 b s h d) = (r : EReal) := by
  revert hb
  pointwise [bounded]
  have ht : Ideal.ofBits FTy.f32 2139095040#32 = ⊤ := by simp [Ideal.ofBits, Ideal.ieee]
  rw [ht]
  generalize x (ix4 b s h d) = y
  intro hb
  have hy : max y (-y) < ⊤ := of_decide_eq_true ((BitVec.ofBool_eq_iff_eq (b' := true)).1 hb)
  induction y using EReal.rec with
  | bot => simp at hy
  | top => simp at hy
  | coe r => exact ⟨r, rfl⟩
theorem fn_split (q k : FVec Ideal S8x4096x8x96 .f32) (v : FVec Ideal S8x4096x8x64 .f32)
    (h : fn q k v = fun _ => 1#1) :
    (∀ i, bounded q i = 1#1) ∧ ∀ i, bounded k i = 1#1 := by
  have h0 : IntOp.andi (Host.reduce IntOp.andi (bounded q) (constantI S_ 1 1#1) reducesTo_S8x4096x8x96_S_d0_1_2_3 h_S_ ix0)
    (Host.reduce IntOp.andi (bounded k) (constantI S_ 1 1#1) reducesTo_S8x4096x8x96_S_d0_1_2_3 h_S_ ix0) = 1#1 :=
    congrFun h ix0
  obtain ⟨hq, hk⟩ := IntOp.andi_eq_one.1 h0
  exact ⟨fun i => Host.reduce_andi_all _ _ _ _ _ hq i, fun i => Host.reduce_andi_all _ _ _ _ _ hk i⟩
end Cert.Pre_finite
-- ==== Proof.Final.lean ====
module
public import proofs.«01_k».proof.Proof.Score
public import proofs.«01_k».proof.Proof.Windows
public import proofs.«01_k».proof.Proof.Finite
public import Idealize.ShloMosaic.Lib.Claim
/-!
The kernel's result array is the reference's: at every grid point every entry of the output block is the quotient its
query ends with (`out_at`), and that quotient is the reference's entry (`cell`).
-/
set_option maxRecDepth 16384
@[expose] public noncomputable section
open Idealize.ShloMosaic Idealize.ShloMosaic.TcCoe Idealize.SL.Sem
namespace Cert.KernelIdeal.Value
open Cert.KernelIdeal Cert.KernelIdeal.Gen
variable (m : (ℓ : Loc nD τ sig) → Buf (Elt Ideal) ℓ) (c : Dev nD)

/-- The reference of the arguments held in the kernel's memory. -/
def result : FVec Ideal S8x4096x512 .bf16 :=
  ReferenceIdeal.Value.attn (m ((c.tc : Thread nD τ).loc main_arg0)) (m ((c.tc : Thread nD τ).loc main_arg1))
    (m ((c.tc : Thread nD τ).loc main_arg2))

theorem point (hq : ∀ b s h d, ∃ r : ℝ, m ((c.tc : Thread nD τ).loc main_arg0) (ix4 b s h d) = (r : EReal))
    (hk : ∀ b s h d, ∃ r : ℝ, m ((c.tc : Thread nD τ).loc main_arg1) (ix4 b s h d) = (r : EReal))
    (t : Fin cfg0.N) (y : S1x1024x256.Idx) (arg3 harg3 arg4 harg4 arg5 harg5 arg6 harg6) :
    out0_A_3 c (grid0.coords t) arg3 harg3 arg4 harg4 arg5 harg5 arg6 harg6 (iblk m c 0 t) (iblk m c 1 t) (iblk m c 2 t) y
      = result m c ((win0_3.blk t).view.emb y) := by
  choose fq hq using hq
  choose fk hk using hk
  have t0 := i0 t
  have t1 := i1 t
  have t2 := i2 t
  have y1 : (y 1).val < 1024 := (y 1).isLt
  have y2 : (y 2).val < 256 := (y 2).isLt
  obtain ⟨qr, hq'⟩ : ∃ qr : S8x4096x8x96.Idx → ℝ, ∀ b s h d,
      m ((c.tc : Thread nD τ).loc main_arg0) (ix4 b s h d) = (qr (ix4 b s h d) : EReal) :=
    ⟨fun i => fq (i 0) (i 1) (i 2) (i 3), hq⟩
  obtain ⟨kr, hk'⟩ : ∃ kr : S8x4096x8x96.Idx → ℝ, ∀ b s h d,
      m ((c.tc : Thread nD τ).loc main_arg1) (ix4 b s h d) = (kr (ix4 b s h d) : EReal) :=
    ⟨fun i => fk (i 0) (i 1) (i 2) (i 3), hk⟩
  have h0 := fun (e : Fin 4) (x : Fin 1024) (d : Fin 128) =>
    (block_q m c t e x d).trans (congrFun (queries m c) _)
  have h1 := fun (e : Fin 4) (j : Fin 4096) (d : Fin 128) =>
    (block_k m c t e j d).trans (congrFun (keys m c) _)
  obtain ⟨mx, l, a, H, ho⟩ := out_at c (grid0.coords t) arg3 harg3 arg4 harg4 arg5 harg5 arg6 harg6
    (iblk m c 0 t) (iblk m c 1 t) (iblk m c 2 t)
    (fun e x j => cs_ne_top (qr := qr) (kr := kr) hq' hk' _ _ _ e x _ _ _ rfl (h0 e x) (h1 e) j)
    y ⟨(y 1).val, y1⟩ ⟨(y 2).val / 64, by omega⟩ ⟨(y 2).val % 128, by omega⟩ rfl rfl rfl
  rw [ho, emb_out]
  refine cell (qr := qr) (kr := kr) hq' hk' _ _ _ _ _ _ _ _ _ rfl (h0 _ _) (h1 _) _ _ ?_ _ (fun j => ?_) H
  · apply Fin.ext
    dsimp only
    omega
  · refine (block_v m c t j _).trans ((congrFun (values m c) _).trans ((values_at _ _ _ _).trans ?_))
    refine congrArg (fun z : Fin 512 => m ((c.tc : Thread nD τ).loc main_arg2)
      (ix4 ⟨grid0.coords t 0, t0⟩ j ⟨z / 64, by omega⟩ ⟨z % 64, by omega⟩)) (Fin.ext ?_)
    dsimp only [pair]
    omega
theorem final (hq : ∀ b s h d, ∃ r : ℝ, m ((c.tc : Thread nD τ).loc main_arg0) (ix4 b s h d) = (r : EReal))
    (hk : ∀ b s h d, ∃ r : ℝ, m ((c.tc : Thread nD τ).loc main_arg1) (ix4 b s h d) = (r : EReal)) :
    (dats m 0 c).arrAt 3 cfg0.N = result m c := by
  refine (dats m 0 c).arrAt_eq_of_covers 3 (result m c) (by decide +kernel) fun t _ y => ?_
  blk_simp
  rw [after0_3]
  unfold outsAt0
  exact point m c hq hk t y _ _ _ _ _ _ _ _
end Cert.KernelIdeal.Value
-- ==== Proof.Columns.lean ====
module
public import Idealize.ShloMosaic.Lib.Pointwise
/-!
The order of the projected columns in an odd layer: which column of the weights each column of the kernel's array is.
-/
@[expose] public noncomputable section
namespace Cert.Columns
/-- The column of the weights that column `k` of the kernel's array comes from; past them all for the padding. -/
def source (k : ℕ) : ℕ :=
  if k < 512 then 0 + (k - 0) else
  if k < 1024 then 936 + (k - 512) else
  if k < 1536 then 2992 + (k - 1024) else
  if k < 2048 then 1960 + (k - 1536) else
  if k < 2560 then 2480 + (k - 2048) else
  if k < 2816 then 1448 + (k - 2560) else
  if k < 3072 then 1704 + (k - 2816) else
  if k < 3328 then 3504 + (k - 3072) else
  if k < 3584 then 3760 + (k - 3328) else
  if k < 3840 then 640 + (k - 3584) else
  if k < 3904 then 512 + (k - 3840) else
  if k < 3968 then 576 + (k - 3904) else
  if k < 4000 then 896 + (k - 3968) else
  if k < 4008 then 928 + (k - 4000) else
  if k < 4012 then 2472 + (k - 4008) else
  if k < 4016 then 2476 + (k - 4012) else
  4016
/-- The same, piece by piece. -/
theorem source_cases (k : ℕ) : (0 ≤ k ∧ k < 512 ∧ source k = 0 + (k - 0)) ∨
    (512 ≤ k ∧ k < 1024 ∧ source k = 936 + (k - 512)) ∨
    (1024 ≤ k ∧ k < 1536 ∧ source k = 2992 + (k - 1024)) ∨
    (1536 ≤ k ∧ k < 2048 ∧ source k = 1960 + (k - 1536)) ∨
    (2048 ≤ k ∧ k < 2560 ∧ source k = 2480 + (k - 2048)) ∨
    (2560 ≤ k ∧ k < 2816 ∧ source k = 1448 + (k - 2560)) ∨
    (2816 ≤ k ∧ k < 3072 ∧ source k = 1704 + (k - 2816)) ∨
    (3072 ≤ k ∧ k < 3328 ∧ source k = 3504 + (k - 3072)) ∨
    (3328 ≤ k ∧ k < 3584 ∧ source k = 3760 + (k - 3328)) ∨
    (3584 ≤ k ∧ k < 3840 ∧ source k = 640 + (k - 3584)) ∨
    (3840 ≤ k ∧ k < 3904 ∧ source k = 512 + (k - 3840)) ∨
    (3904 ≤ k ∧ k < 3968 ∧ source k = 576 + (k - 3904)) ∨
    (3968 ≤ k ∧ k < 4000 ∧ source k = 896 + (k - 3968)) ∨
    (4000 ≤ k ∧ k < 4008 ∧ source k = 928 + (k - 4000)) ∨
    (4008 ≤ k ∧ k < 4012 ∧ source k = 2472 + (k - 4008)) ∨
    (4012 ≤ k ∧ k < 4016 ∧ source k = 2476 + (k - 4012)) ∨
    (4016 ≤ k ∧ source k = 4016) := by
  generalize hv : source k = v
  unfold source at hv
  by_cases h0 : k < 512
  · rw [if_pos h0] at hv
    exact Or.inl ⟨by omega, h0, hv.symm⟩
  rw [if_neg h0] at hv
  refine Or.inr ?_
  by_cases h1 : k < 1024
  · rw [if_pos h1] at hv
    exact Or.inl ⟨by omega, h1, hv.symm⟩
  rw [if_neg h1] at hv
  refine Or.inr ?_
  by_cases h2 : k < 1536
  · rw [if_pos h2] at hv
    exact Or.inl ⟨by omega, h2, hv.symm⟩
  rw [if_neg h2] at hv
  refine Or.inr ?_
  by_cases h3 : k < 2048
  · rw [if_pos h3] at hv
    exact Or.inl ⟨by omega, h3, hv.symm⟩
  rw [if_neg h3] at hv
  refine Or.inr ?_
  by_cases h4 : k < 2560
  · rw [if_pos h4] at hv
    exact Or.inl ⟨by omega, h4, hv.symm⟩
  rw [if_neg h4] at hv
  refine Or.inr ?_
  by_cases h5 : k < 2816
  · rw [if_pos h5] at hv
    exact Or.inl ⟨by omega, h5, hv.symm⟩
  rw [if_neg h5] at hv
  refine Or.inr ?_
  by_cases h6 : k < 3072
  · rw [if_pos h6] at hv
    exact Or.inl ⟨by omega, h6, hv.symm⟩
  rw [if_neg h6] at hv
  refine Or.inr ?_
  by_cases h7 : k < 3328
  · rw [if_pos h7] at hv
    exact Or.inl ⟨by omega, h7, hv.symm⟩
  rw [if_neg h7] at hv
  refine Or.inr ?_
  by_cases h8 : k < 3584
  · rw [if_pos h8] at hv
    exact Or.inl ⟨by omega, h8, hv.symm⟩
  rw [if_neg h8] at hv
  refine Or.inr ?_
  by_cases h9 : k < 3840
  · rw [if_pos h9] at hv
    exact Or.inl ⟨by omega, h9, hv.symm⟩
  rw [if_neg h9] at hv
  refine Or.inr ?_
  by_cases h10 : k < 3904
  · rw [if_pos h10] at hv
    exact Or.inl ⟨by omega, h10, hv.symm⟩
  rw [if_neg h10] at hv
  refine Or.inr ?_
  by_cases h11 : k < 3968
  · rw [if_pos h11] at hv
    exact Or.inl ⟨by omega, h11, hv.symm⟩
  rw [if_neg h11] at hv
  refine Or.inr ?_
  by_cases h12 : k < 4000
  · rw [if_pos h12] at hv
    exact Or.inl ⟨by omega, h12, hv.symm⟩
  rw [if_neg h12] at hv
  refine Or.inr ?_
  by_cases h13 : k < 4008
  · rw [if_pos h13] at hv
    exact Or.inl ⟨by omega, h13, hv.symm⟩
  rw [if_neg h13] at hv
  refine Or.inr ?_
  by_cases h14 : k < 4012
  · rw [if_pos h14] at hv
    exact Or.inl ⟨by omega, h14, hv.symm⟩
  rw [if_neg h14] at hv
  refine Or.inr ?_
  by_cases h15 : k < 4016
  · rw [if_pos h15] at hv
    exact Or.inl ⟨by omega, h15, hv.symm⟩
  rw [if_neg h15] at hv
  refine Or.inr ?_
  exact ⟨by omega, hv.symm⟩
/-- A row of the kernel's array, from the row in the weights' order: its columns rearranged, zero in the padding. -/
def arranged (f : Fin 4016 → EReal) (k : Fin 4096) : EReal := if h : source k < 4016 then f ⟨source k, h⟩ else 0
variable (f : Fin 4016 → EReal) (k : Fin 4096)
theorem arranged_of (z : Fin 4016) (h : source k = z) : arranged f k = f z := by
  have h' : source k < 4016 := h ▸ z.isLt
  unfold arranged
  rw [dif_pos h']
  exact congrArg f (Fin.ext h)
theorem arranged_pad (h : 4016 ≤ source k) : arranged f k = 0 := dif_neg (by omega)
/-- Multiplying and adding rows column by column goes through the rearrangement. -/
theorem arranged_sum {n : ℕ} (a : Fin n → EReal) (w : Fin n → Fin 4016 → EReal) :
    ∑ e, a e * arranged (w e) k = arranged (fun z => ∑ e, a e * w e z) k := by
  unfold arranged
  split_ifs
  · rfl
  · simp
end Cert.Columns
-- ==== Proof.InOddBody.lean ====
module
public import proofs.«01_k».proof.Proof.Gen.InOddIdeal.Value
public import Idealize.ShloMosaic.Lib.Pipeline.ValueKit
public import Idealize.ShloMosaic.Lib.Pointwise
public import Idealize.ShloMosaic.Lib.WholeRead
/-!
What the in-projection's kernel body stores at one entry of its two blocks: a normalised row times a column of weights.
-/
set_option maxRecDepth 16384
@[expose] public noncomputable section
open Idealize.ShloMosaic Idealize.ShloMosaic.TcCoe Idealize.SL.Sem
namespace Cert.InOddIdeal.Value
open Cert.InOddIdeal Cert.InOddIdeal.Gen
section tiles
variable (h : FVec Ideal S1024x1024 .bf16) (r : Fin 1024)
/-- One tile of the product. -/
theorem tile_at (w : Vec Ideal S1024x1024 .bf16) (o : Fin 1024) {W : Fin 1024 → EReal} (hw : ∀ e, w (ix2 e o) = W e) :
    k0_pay2 h w (ix3 0 r o) = ∑ e : Fin 1024, h (ix2 r e) * W e := by
  pointwise [k0_pay2]
  simp only [hw]
/-- The narrow tile. -/
theorem narrow_tile_at (w : Vec Ideal S1024x128 .bf16) (o : Fin 128) {W : Fin 1024 → EReal} (hw : ∀ e, w (ix2 e o) = W e) :
    k0_pay3 h w (ix3 0 r o) = ∑ e : Fin 1024, h (ix2 r e) * W e := by
  pointwise [k0_pay3]
  simp only [hw]
end tiles
variable (x0 : Vec Ideal S1x1024x1024 .f32) (x1 : Vec Ideal S1x1024 .f32) (x2 : Vec Ideal S1024x4096 .bf16)
theorem pay1_eq (h : FVec Ideal S1024x1024 .bf16) (w : Vec Ideal S1024x1024 .bf16) :
    k0_pay1 h (k0_pay7 w) (constant S1024x1024 .f32 0x00000000#32) = k0_pay2 h w := rfl
theorem pay5_eq (w : Vec Ideal S1024x1024 .bf16) : k0_pay5 x0 x1 w = k0_pay2 (k0_pay4 x0 x1) w := rfl
theorem pay6_eq (w : Vec Ideal S1024x1024 .bf16) : k0_pay6 x0 x1 w = k0_pay2 (k0_pay4 x0 x1) w := rfl
/-- The normalised rows. -/
theorem normed_at (r e : Fin 1024) : k0_pay4 x0 x1 (ix2 r e) = x0 (ix3 0 r e) * Ideal.rsqrt (Ideal.div
    (∑ e, x0 (ix3 0 r e) * x0 (ix3 0 r e)) (Ideal.ofBits FTy.f32 1149239296#32) + Ideal.ofBits FTy.f32 897988541#32)
    * x1 (ix2 0 e) := by
  pointwise [k0_pay4]
/-- The columns of the weights that the tiles meet. -/
theorem cols0 (e o : Fin 1024) : View.ld x2 r0_2 (ix2 e o) = x2 (ix2 e ⟨o, by omega⟩) := by
  refine congrArg x2 (funext fun a => Fin.ext ?_)
  fin_cases a
  · show 0 + 1 * e.val = e.val; omega
  · show 0 + 1 * o.val = _; dsimp only [ix2]; simp
theorem cols1 (e o : Fin 1024) : View.ld x2 r0_4 (ix2 e o) = x2 (ix2 e ⟨1024 + o, by omega⟩) := by
  refine congrArg x2 (funext fun a => Fin.ext ?_)
  fin_cases a
  · show 0 + 1 * e.val = e.val; omega
  · show 1024 + 1 * o.val = _; dsimp only [ix2]; simp
theorem cols2 (e o : Fin 1024) : View.ld x2 r0_6 (ix2 e o) = x2 (ix2 e ⟨2048 + o, by omega⟩) := by
  refine congrArg x2 (funext fun a => Fin.ext ?_)
  fin_cases a
  · show 0 + 1 * e.val = e.val; omega
  · show 2048 + 1 * o.val = _; dsimp only [ix2]; simp
theorem cols3 (e o : Fin 1024) : View.ld x2 r0_8 (ix2 e o) = x2 (ix2 e ⟨3072 + o, by omega⟩) := by
  refine congrArg x2 (funext fun a => Fin.ext ?_)
  fin_cases a
  · show 0 + 1 * e.val = e.val; omega
  · show 3072 + 1 * o.val = _; dsimp only [ix2]; simp
theorem colsN (e : Fin 1024) (o : Fin 128) : View.ld x2 r0_10 (ix2 e o) = x2 (ix2 e ⟨3968 + o, by omega⟩) := by
  refine congrArg x2 (funext fun a => Fin.ext ?_)
  fin_cases a
  · show 0 + 1 * e.val = e.val; omega
  · show 3968 + 1 * o.val = _; dsimp only [ix2]; simp
/-- THE NARROW BLOCK at one entry. -/
theorem narrow_body_at (r : Fin 1024) (o : Fin 128) : out0_4 x0 x1 x2 (ix3 0 r o)
    = ∑ e : Fin 1024, k0_pay4 x0 x1 (ix2 r e) * x2 (ix2 e ⟨3968 + o, by omega⟩) := by
  unfold_out out0_4
  rw [View.canon_cons_unit_lit _ _ _ (by decide), View.ld_unit_lit _ x0 (by decide), View.ld_unit_lit _ x1 (by decide)]
  exact narrow_tile_at _ r _ o (fun e => colsN x2 e o)
/-- An index of a tile from its coordinates. -/
theorem index {z : S1x1024x1024.Idx} {r k : Fin 1024} (h1 : r.val = (z 1).val) (h2 : k.val = (z 2).val) : z = ix3 0 r k := by
  refine funext fun a => Fin.ext ?_
  fin_cases a
  · have : (z 0).val < 1 := (z 0).isLt
    show (z 0).val = 0
    omega
  · exact h1.symm
  · exact h2.symm
theorem same (h : FVec Ideal S1024x1024 .bf16) (r : Fin 1024) {o o' : Fin 4096} (ho : o = o') :
    ∑ e : Fin 1024, h (ix2 r e) * x2 (ix2 e o) = ∑ e : Fin 1024, h (ix2 r e) * x2 (ix2 e o') := by rw [ho]
/-- THE WIDE BLOCK at one entry. -/
theorem body_at (r : Fin 1024) (o : Fin 4096) : out0_3 x0 x1 x2 (ix3 0 r o)
    = ∑ e : Fin 1024, k0_pay4 x0 x1 (ix2 r e) * x2 (ix2 e o) := by
  unfold_out out0_3
  rw [View.ld_unit_lit _ x0 (by decide), View.ld_unit_lit _ x1 (by decide), pay1_eq, pay5_eq, pay6_eq]
  generalize k0_pay4 x0 x1 = h
  canon_tiles z hz
  · replace hz2 : o.val = 3072 + (z 2).val := hz2.trans (by omega)
    rw [(index hz1 (by dsimp only; omega) : z = ix3 0 r ⟨o - 3072, by omega⟩)]
    exact (tile_at h r _ _ fun e => cols3 x2 e _).trans (same x2 h r (Fin.ext (by dsimp only; omega)))
  · replace hz2 : o.val = 2048 + (z 2).val := hz2.trans (by omega)
    rw [(index hz1 (by dsimp only; omega) : z = ix3 0 r ⟨o - 2048, by omega⟩)]
    exact (tile_at h r _ _ fun e => cols2 x2 e _).trans (same x2 h r (Fin.ext (by dsimp only; omega)))
  · replace hz2 : o.val = 1024 + (z 2).val := hz2.trans (by omega)
    rw [(index hz1 (by dsimp only; omega) : z = ix3 0 r ⟨o - 1024, by omega⟩)]
    exact (tile_at h r _ _ fun e => cols1 x2 e _).trans (same x2 h r (Fin.ext (by dsimp only; omega)))
  · replace hz2 : o.val = 0 + (z 2).val := hz2.trans (by omega)
    rw [(index hz1 (by dsimp only; omega) : z = ix3 0 r ⟨o - 0, by omega⟩)]
    exact (tile_at h r _ _ fun e => cols0 x2 e _).trans (same x2 h r (Fin.ext (by dsimp only; omega)))
end Cert.InOddIdeal.Value
-- ==== Proof.InOddLayout.lean ====
module
public import proofs.«01_k».proof.Proof.Columns
public import proofs.«01_k».proof.Proof.InOddBody
public import Idealize.ShloMosaic.Lib.StableHlo.RunRead
/-!
The arrays the host code prepares for an odd layer's in-projection: the weights with their columns rearranged, and the gains
as a row.
-/
set_option maxRecDepth 16384
@[expose] public noncomputable section
open Idealize.ShloMosaic Idealize.ShloMosaic.TcCoe Idealize.SL.Sem
namespace Cert.InOddIdeal.Value
open Cert.InOddIdeal Cert.InOddIdeal.Gen Cert.Columns

/-- The first eight pieces of the columns, in the order the kernel lays them out. -/
def leftCols (w : FVec Ideal S1024x4016 .f32) : FVec Ideal S1024x3328 .bf16 :=
  concatenate S1024x3328 1 [
    ⟨S1024x512, truncf .bf16 (extractStridedSlice S1024x512 ![0, 0] w slices_S1024x4016_S1024x512_0_0) bitsLt_bf16_f32⟩,
    ⟨S1024x512, truncf .bf16 (extractStridedSlice S1024x512 ![0, 936] w slices_S1024x4016_S1024x512_0_936) bitsLt_bf16_f32⟩,
    ⟨S1024x512, truncf .bf16 (extractStridedSlice S1024x512 ![0, 2992] w slices_S1024x4016_S1024x512_0_2992) bitsLt_bf16_f32⟩,
    ⟨S1024x512, truncf .bf16 (extractStridedSlice S1024x512 ![0, 1960] w slices_S1024x4016_S1024x512_0_1960) bitsLt_bf16_f32⟩,
    ⟨S1024x512, truncf .bf16 (extractStridedSlice S1024x512 ![0, 2480] w slices_S1024x4016_S1024x512_0_2480) bitsLt_bf16_f32⟩,
    ⟨S1024x256, truncf .bf16 (extractStridedSlice S1024x256 ![0, 1448] w slices_S1024x4016_S1024x256_0_1448) bitsLt_bf16_f32⟩,
    ⟨S1024x256, truncf .bf16 (extractStridedSlice S1024x256 ![0, 1704] w slices_S1024x4016_S1024x256_0_1704) bitsLt_bf16_f32⟩,
    ⟨S1024x256, truncf .bf16 (extractStridedSlice S1024x256 ![0, 3504] w slices_S1024x4016_S1024x256_0_3504) bitsLt_bf16_f32⟩]
    concatenates_S1024x512_S1024x512_S1024x512_S1024x512_S1024x512_S1024x256_S1024x256_S1024x256_S1024x3328_d1
/-- The remaining pieces. -/
def rightCols (w : FVec Ideal S1024x4016 .f32) : FVec Ideal S1024x768 .bf16 :=
  concatenate S1024x768 1 [
    ⟨S1024x256, truncf .bf16 (extractStridedSlice S1024x256 ![0, 3760] w slices_S1024x4016_S1024x256_0_3760) bitsLt_bf16_f32⟩,
    ⟨S1024x256, truncf .bf16 (extractStridedSlice S1024x256 ![0, 640] w slices_S1024x4016_S1024x256_0_640) bitsLt_bf16_f32⟩,
    ⟨S1024x64, truncf .bf16 (extractStridedSlice S1024x64 ![0, 512] w slices_S1024x4016_S1024x64_0_512) bitsLt_bf16_f32⟩,
    ⟨S1024x64, truncf .bf16 (extractStridedSlice S1024x64 ![0, 576] w slices_S1024x4016_S1024x64_0_576) bitsLt_bf16_f32⟩,
    ⟨S1024x32, truncf .bf16 (extractStridedSlice S1024x32 ![0, 896] w slices_S1024x4016_S1024x32_0_896) bitsLt_bf16_f32⟩,
    ⟨S1024x8, truncf .bf16 (extractStridedSlice S1024x8 ![0, 928] w slices_S1024x4016_S1024x8_0_928) bitsLt_bf16_f32⟩,
    ⟨S1024x4, truncf .bf16 (extractStridedSlice S1024x4 ![0, 2472] w slices_S1024x4016_S1024x4_0_2472) bitsLt_bf16_f32⟩,
    ⟨S1024x4, truncf .bf16 (extractStridedSlice S1024x4 ![0, 2476] w slices_S1024x4016_S1024x4_0_2476) bitsLt_bf16_f32⟩,
    ⟨S1024x80, broadcastInDim S1024x80 ![] bcast_S_S1024x80 (constant S_ .bf16 0x0000#16 : FVec Ideal S_ .bf16)⟩]
    concatenates_S1024x256_S1024x256_S1024x64_S1024x64_S1024x32_S1024x8_S1024x4_S1024x4_S1024x80_S1024x768_d1
/-- All columns: the two halves side by side. -/
def cols (w : FVec Ideal S1024x4016 .f32) : FVec Ideal S1024x4096 .bf16 :=
  concatenate S1024x4096 1 [⟨S1024x3328, leftCols w⟩, ⟨S1024x768, rightCols w⟩]
    concatenates_S1024x3328_S1024x768_S1024x4096_d1

section read
variable (w : FVec Ideal S1024x4016 .f32) (e : Fin 1024)
theorem leftCols_at (o : Fin 3328) : leftCols w (ix2 e o) = arranged (fun z => w (ix2 e z)) ⟨o, by omega⟩ := by
  have hs := source_cases o
  pointwise [leftCols]
  split_ifs
  all_goals exact Eq.symm (arranged_of (fun z => w (ix2 e z)) _ _ (by dsimp only; omega))
theorem rightCols_at (o : Fin 768) : rightCols w (ix2 e o) = arranged (fun z => w (ix2 e z)) ⟨3328 + o, by omega⟩ := by
  have hs := source_cases (3328 + o)
  pointwise [rightCols]
  split_ifs
  all_goals first
    | exact Eq.symm (arranged_of (fun z => w (ix2 e z)) _ _ (by dsimp only; omega))
    | exact Eq.symm (arranged_pad _ _ (by dsimp only; omega))
theorem cols_at (o : Fin 4096) : cols w (ix2 e o) = arranged (fun z => w (ix2 e z)) o := by
  have hl := leftCols_at w e
  have hr := rightCols_at w e
  unfold cols
  generalize leftCols w = l at hl
  generalize rightCols w = r at hr
  pointwise
  split_ifs
  · exact hl _
  all_goals exact (hr _).trans (congrArg (arranged _) (Fin.ext (by dsimp only; omega)))
end read
variable (m : (ℓ : Loc nD τ sig) → Buf (Elt Ideal) ℓ) (c : Dev nD)
theorem weights : V m c main_v36 = cols (m ((c.tc : Thread nD τ).loc main_arg2)) := by
  after_reads_simp
  rfl
theorem gains : V m c main_v0 = (shapeCast S1x1024 (m ((c.tc : Thread nD τ).loc main_arg1) : FVec Ideal S1024 .f32)
    shapeCasts_S1024_S1x1024 : FVec Ideal S1x1024 .f32) := by
  after_reads_simp
  rfl
end Cert.InOddIdeal.Value
-- ==== Proof.InOddRef.lean ====
module
public import proofs.«01_k».proof.Proof.Columns
public import proofs.«01_k».proof.Proof.Gen.InOddRefIdeal.Run
public import Idealize.ShloMosaic.Lib.Pointwise
/-!
The in-projection's reference at one entry: normalised rows times weights, the columns in the kernel's order.
-/
set_option maxRecDepth 16384
@[expose] public noncomputable section
open Idealize.ShloMosaic Idealize.ShloMosaic.TcCoe Idealize.SL.Sem
namespace Cert.InOddRefIdeal.Value
open Cert.InOddRefIdeal Cert.InOddRefIdeal.Gen
/-- The rows divided by their root mean square and scaled by the gains. -/
def normed (x : FVec Ideal S8x4096x1024 .f32) (g : FVec Ideal S1024 .f32) : FVec Ideal S8x4096x1024 .f32 :=
  mulf (mulf x (broadcastInDim S8x4096x1024 ![0, 1, 2] bcast_S8x4096x1_S8x4096x1024_0_1_2 (Host.rsqrt (addf (Host.divf
    (broadcastInDim S8x4096x1 ![0, 1] bcast_S8x4096_S8x4096x1_0_1 (Host.reduceAdd (mulf x x) (constant S_ .f32 0x00000000#32)
      reducesTo_S8x4096x1024_S8x4096_d2 h_S_))
    (broadcastInDim S8x4096x1 ![] bcast_S_S8x4096x1 (constant S_ .f32 0x44800000#32)))
    (broadcastInDim S8x4096x1 ![] bcast_S_S8x4096x1 (constant S_ .f32 0x358637BD#32))))))
    (broadcastInDim S8x4096x1024 ![0, 1, 2] bcast_S1x1x1024_S8x4096x1024_0_1_2 (broadcastInDim S1x1x1024 ![2] bcast_S1024_S1x1x1024_2 g))
/-- The projection, in the weights' order. -/
def projected (x : FVec Ideal S8x4096x1024 .f32) (g : FVec Ideal S1024 .f32) (w : FVec Ideal S1024x4016 .f32) :
    FVec Ideal S8x4096x4016 .f32 :=
  Host.dotGeneral dot_S8x4096x1024_S1024x4016_S8x4096x4016_2_0_01_1_n_n none (normed x g) w
variable (p : FVec Ideal S8x4096x4016 .f32)
/-- The narrow columns, padded to 128. -/
def narrow : FVec Ideal S8x4096x128 .f32 :=
  concatenate S8x4096x128 2 [
    ⟨S8x4096x32, extractStridedSlice S8x4096x32 ![0, 0, 896] p slices_S8x4096x4016_S8x4096x32_0_0_896⟩,
    ⟨S8x4096x8, extractStridedSlice S8x4096x8 ![0, 0, 928] p slices_S8x4096x4016_S8x4096x8_0_0_928⟩,
    ⟨S8x4096x4, extractStridedSlice S8x4096x4 ![0, 0, 2472] p slices_S8x4096x4016_S8x4096x4_0_0_2472⟩,
    ⟨S8x4096x4, extractStridedSlice S8x4096x4 ![0, 0, 2476] p slices_S8x4096x4016_S8x4096x4_0_0_2476⟩,
    ⟨S8x4096x80, broadcastInDim S8x4096x80 ![] bcast_S_S8x4096x80 (constant S_ .f32 0x00000000#32 : FVec Ideal S_ .f32)⟩]
    concatenates_S8x4096x32_S8x4096x8_S8x4096x4_S8x4096x4_S8x4096x80_S8x4096x128_d2
/-- The wide columns. -/
def wide : FVec Ideal S8x4096x3072 .f32 :=
  concatenate S8x4096x3072 2 [
    ⟨S8x4096x512, extractStridedSlice S8x4096x512 ![0, 0, 0] p slices_S8x4096x4016_S8x4096x512_0_0_0⟩,
    ⟨S8x4096x512, extractStridedSlice S8x4096x512 ![0, 0, 936] p slices_S8x4096x4016_S8x4096x512_0_0_936⟩,
    ⟨S8x4096x512, extractStridedSlice S8x4096x512 ![0, 0, 2992] p slices_S8x4096x4016_S8x4096x512_0_0_2992⟩,
    ⟨S8x4096x512, extractStridedSlice S8x4096x512 ![0, 0, 1960] p slices_S8x4096x4016_S8x4096x512_0_0_1960⟩,
    ⟨S8x4096x512, extractStridedSlice S8x4096x512 ![0, 0, 2480] p slices_S8x4096x4016_S8x4096x512_0_0_2480⟩,
    ⟨S8x4096x256, extractStridedSlice S8x4096x256 ![0, 0, 1448] p slices_S8x4096x4016_S8x4096x256_0_0_1448⟩,
    ⟨S8x4096x256, extractStridedSlice S8x4096x256 ![0, 0, 1704] p slices_S8x4096x4016_S8x4096x256_0_0_1704⟩]
    concatenates_S8x4096x512_S8x4096x512_S8x4096x512_S8x4096x512_S8x4096x512_S8x4096x256_S8x4096x256_S8x4096x3072_d2
/-- The columns after them, the narrow ones last. -/
def rest : FVec Ideal S8x4096x1024 .f32 :=
  concatenate S8x4096x1024 2 [
    ⟨S8x4096x256, extractStridedSlice S8x4096x256 ![0, 0, 3504] p slices_S8x4096x4016_S8x4096x256_0_0_3504⟩,
    ⟨S8x4096x256, extractStridedSlice S8x4096x256 ![0, 0, 3760] p slices_S8x4096x4016_S8x4096x256_0_0_3760⟩,
    ⟨S8x4096x256, extractStridedSlice S8x4096x256 ![0, 0, 640] p slices_S8x4096x4016_S8x4096x256_0_0_640⟩,
    ⟨S8x4096x64, extractStridedSlice S8x4096x64 ![0, 0, 512] p slices_S8x4096x4016_S8x4096x64_0_0_512⟩,
    ⟨S8x4096x64, extractStridedSlice S8x4096x64 ![0, 0, 576] p slices_S8x4096x4016_S8x4096x64_0_0_576⟩,
    ⟨S8x4096x128, narrow p⟩]
    concatenates_S8x4096x256_S8x4096x256_S8x4096x256_S8x4096x64_S8x4096x64_S8x4096x128_S8x4096x1024_d2
/-- All columns. -/
def whole : FVec Ideal S8x4096x4096 .bf16 :=
  truncf .bf16 (concatenate S8x4096x4096 2 [⟨S8x4096x3072, wide p⟩, ⟨S8x4096x1024, rest p⟩]
    concatenates_S8x4096x3072_S8x4096x1024_S8x4096x4096_d2 : FVec Ideal S8x4096x4096 .f32) bitsLt_bf16_f32
variable (m : (ℓ : Loc nD τ sig) → Buf (Elt Ideal) ℓ) (c : Dev nD)
theorem res0 : res_out0 m c = whole (projected (m ((c.tc : Thread nD τ).loc main_arg0)) (m ((c.tc : Thread nD τ).loc main_arg1))
    (m ((c.tc : Thread nD τ).loc main_arg2))) := rfl
theorem res1 : res_out1 m c = narrow (projected (m ((c.tc : Thread nD τ).loc main_arg0)) (m ((c.tc : Thread nD τ).loc main_arg1))
    (m ((c.tc : Thread nD τ).loc main_arg2))) := rfl
end Cert.InOddRefIdeal.Value
-- ==== Proof.InOddRefAt.lean ====
module
public import proofs.«01_k».proof.Proof.InOddRef
/-!
The in-projection's reference, entry by entry.
-/
set_option maxRecDepth 16384
@[expose] public noncomputable section
open Idealize.ShloMosaic Idealize.ShloMosaic.TcCoe Idealize.SL.Sem
namespace Cert.InOddRefIdeal.Value
open Cert.InOddRefIdeal Cert.InOddRefIdeal.Gen Cert.Columns
variable (p : FVec Ideal S8x4096x4016 .f32) (b : Fin 8) (s : Fin 4096)
theorem narrow_at (o : Fin 128) : narrow p (ix3 b s o) = arranged (fun z => p (ix3 b s z)) ⟨3968 + o, by omega⟩ := by
  have hs := source_cases (3968 + o)
  pointwise [narrow]
  split_ifs
  all_goals first
    | exact Eq.symm (arranged_of (fun z => p (ix3 b s z)) _ _ (by dsimp only; omega))
    | exact Eq.symm (arranged_pad _ _ (by dsimp only; omega))
theorem wide_at (o : Fin 3072) : wide p (ix3 b s o) = arranged (fun z => p (ix3 b s z)) ⟨o, by omega⟩ := by
  have hs := source_cases o
  pointwise [wide]
  split_ifs
  all_goals exact Eq.symm (arranged_of (fun z => p (ix3 b s z)) _ _ (by dsimp only; omega))
theorem rest_at (o : Fin 1024) : rest p (ix3 b s o) = arranged (fun z => p (ix3 b s z)) ⟨3072 + o, by omega⟩ := by
  have hs := source_cases (3072 + o)
  have hn := narrow_at p b s
  unfold rest
  generalize narrow p = n at hn
  pointwise
  split_ifs
  all_goals first
    | exact Eq.symm (arranged_of (fun z => p (ix3 b s z)) _ _ (by dsimp only; omega))
    | exact (hn _).trans (congrArg (arranged _) (Fin.ext (by dsimp only; omega)))
theorem whole_at (o : Fin 4096) : whole p (ix3 b s o) = arranged (fun z => p (ix3 b s z)) o := by
  have hw := wide_at p b s
  have hr := rest_at p b s
  unfold whole
  generalize wide p = w at hw
  generalize rest p = r at hr
  pointwise
  split_ifs
  · exact hw _
  all_goals exact (hr _).trans (congrArg (arranged _) (Fin.ext (by dsimp only; omega)))
theorem projected_at (x : FVec Ideal S8x4096x1024 .f32) (g : FVec Ideal S1024 .f32) (w : FVec Ideal S1024x4016 .f32) (o : Fin 4016) :
    projected x g w (ix3 b s o) = ∑ e : Fin 1024, normed x g (ix3 b s e) * w (ix2 e o) := by
  unfold projected
  generalize normed x g = n
  pointwise
theorem normed_at (x : FVec Ideal S8x4096x1024 .f32) (g : FVec Ideal S1024 .f32) (e : Fin 1024) :
    normed x g (ix3 b s e) = x (ix3 b s e) * Ideal.rsqrt (Ideal.div
    (∑ e, x (ix3 b s e) * x (ix3 b s e)) (Ideal.ofBits FTy.f32 1149239296#32) + Ideal.ofBits FTy.f32 897988541#32)
    * g (ix1 e) := by
  pointwise [normed]
end Cert.InOddRefIdeal.Value
-- ==== Proof.Sums.lean ====
module
public import Idealize.ShloMosaic.Lib.Pointwise
/-!
Facts about sums and gates that the projections of both kinds of layer share.
-/
@[expose] public noncomputable section
open Idealize.ShloMosaic
namespace Cert.Sums
/-- The silu of a gate. -/
def silu (g : EReal) : EReal :=
  g * Ideal.div (Ideal.ofBits .f32 0x3F800000#32) (Ideal.ofBits .f32 0x3F800000#32 + Ideal.exp (-g))
/-- A sum over 1280 entries as the two of 512 and the one of 256 that make it up. -/
theorem sum_parts (f : Fin 1280 → EReal) : ∑ z, f z = ∑ z : Fin 512, f ⟨z, by omega⟩
    + ∑ z : Fin 512, f ⟨512 + z, by omega⟩ + ∑ z : Fin 256, f ⟨1024 + z, by omega⟩ := by
  rw [show ∑ z, f z = ∑ z : Fin (512 + 512 + 256), f z from rfl, Fin.sum_univ_add, Fin.sum_univ_add]
  rfl
/-- The kernel adds the mixers one after the other, the reference adds their sum. -/
theorem agree {X X' : EReal} {f f' g g' : Fin 512 → EReal} {h h' : Fin 256 → EReal} (hX : X = X') (hf : ∀ z, f z = f' z)
    (hg : ∀ z, g z = g' z) (hh : ∀ z, h z = h' z) :
    X + ∑ z, f z + ∑ z, g z + ∑ z, h z = X' + (∑ z, f' z + ∑ z, g' z + ∑ z, h' z) := by
  rw [hX, funext hf, funext hg, funext hh, add_assoc, add_assoc, add_assoc]
/-- Sums of products with equal factors. -/
theorem sums {a A w W : Fin 1024 → EReal} (h : ∀ e, a e = A e) (h' : ∀ e, w e = W e) : ∑ e, a e * w e = ∑ e, A e * W e := by
  rw [funext h, funext h']
end Cert.Sums
-- ==== Proof.InOddFinal.lean ====
module
public import proofs.«01_k».proof.Proof.InOddLayout
public import proofs.«01_k».proof.Proof.InOddRefAt
public import proofs.«01_k».proof.Proof.Sums
/-!
The odd layers' in-projection ends with what its reference computes: point by point, block by block, in both its results.
-/
set_option maxRecDepth 16384
@[expose] public noncomputable section
open Idealize.ShloMosaic Idealize.ShloMosaic.TcCoe Idealize.SL.Sem
namespace Cert.InOddIdeal.Value
open Cert.InOddIdeal Cert.InOddIdeal.Gen Cert.Columns
open Cert.Sums (sums)
open Cert.InOddRefIdeal.Value (projected normed narrow whole)
variable (m : (ℓ : Loc nD τ sig) → Buf (Elt Ideal) ℓ) (c : Dev nD)
/-- The block indices of every window, as functions of the grid's coordinates. -/
theorem idx : ∀ t : Fin cfg0.N,
    win0_0.index t = ![(grid0.coords t 0).val, (grid0.coords t 1).val, 0]
    ∧ win0_1.index t = ![0, 0]
    ∧ win0_2.index t = ![0, 0]
    ∧ win0_3.index t = ![(grid0.coords t 0).val, (grid0.coords t 1).val, 0]
    ∧ win0_4.index t = ![(grid0.coords t 0).val, (grid0.coords t 1).val, 0] :=
  (by decide +kernel : ∀ t : Fin grid0.N, _)
variable (t : Fin cfg0.N)
theorem i1 : (grid0.coords t 1).val < 4 := (grid0.coords t 1).isLt
/-- The batch entry and the rows of a grid point. -/
def batch : Fin 8 := ⟨(grid0.coords t 0).val, (grid0.coords t 0).isLt⟩
def row (r : Fin 1024) : Fin 4096 := ⟨1024 * (grid0.coords t 1).val + r, by have := i1 t; omega⟩
variable (r : Fin 1024)
theorem block_x (o : Fin 1024) : iblk m c 0 t (ix3 0 r o) = m ((c.tc : Thread nD τ).loc main_arg0) (ix3 (batch t) (row t r) o) := by
  rw [← V_main_arg0 m c]
  blk_ext [iblk, idx t, batch, row]
/-- Blocks read off any contents of the arrays. -/
theorem read_g (X : (b : Ref sig .tc) → Buf (Elt Ideal) ((c.tc : Thread nD τ).loc b)) (y : S1x1024.Idx) :
    ((cfg0.win 1).blk t).view.read (Elt Ideal) (X (Pipeline.arrRef spec0 1)) y = X main_v0 ((win0_1.blk t).view.emb y) := rfl
theorem read_w (X : (b : Ref sig .tc) → Buf (Elt Ideal) ((c.tc : Thread nD τ).loc b)) (y : S1024x4096.Idx) :
    ((cfg0.win 2).blk t).view.read (Elt Ideal) (X (Pipeline.arrRef spec0 2)) y = X main_v36 ((win0_2.blk t).view.emb y) := rfl
theorem place_g (o : Fin 1024) : (win0_1.blk t).view.emb (ix2 0 o) = ix2 0 o := by
  blk_ext [idx t]
theorem place_w (e : Fin 1024) (o : Fin 4096) : (win0_2.blk t).view.emb (ix2 e o) = ix2 e o := by
  blk_ext [idx t]
theorem gains_at (g : FVec Ideal S1024 .f32) (e : Fin 1024) :
    (shapeCast S1x1024 g shapeCasts_S1024_S1x1024 : FVec Ideal S1x1024 .f32) (ix2 0 e) = g (ix1 e) := by
  pointwise
theorem block_g (e : Fin 1024) : iblk m c 1 t (ix2 0 e) = m ((c.tc : Thread nD τ).loc main_arg1) (ix1 e) := by
  unfold iblk
  exact (read_g c t (V m c) _).trans ((congrArg (V m c main_v0) (place_g t e)).trans
    ((congrFun (gains m c) _).trans (gains_at _ e)))
theorem block_w (e : Fin 1024) (o : Fin 4096) : iblk m c 2 t (ix2 e o)
    = arranged (fun z => m ((c.tc : Thread nD τ).loc main_arg2) (ix2 e z)) o := by
  unfold iblk
  exact (read_w c t (V m c) _).trans ((congrArg (V m c main_v36) (place_w t e o)).trans
    ((congrFun (weights m c) _).trans (cols_at _ e o)))
/-- The projection of the arguments held in the kernel's memory, in the weights' order. -/
def product : FVec Ideal Cert.InOddRefIdeal.S8x4096x4016 .f32 :=
  projected (m ((c.tc : Thread nD τ).loc main_arg0)) (m ((c.tc : Thread nD τ).loc main_arg1)) (m ((c.tc : Thread nD τ).loc main_arg2))
theorem rows (e : Fin 1024) : k0_pay4 (iblk m c 0 t) (iblk m c 1 t) (ix2 r e)
    = normed (m ((c.tc : Thread nD τ).loc main_arg0)) (m ((c.tc : Thread nD τ).loc main_arg1)) (ix3 (batch t) (row t r) e) := by
  rw [normed_at, InOddRefIdeal.Value.normed_at, block_x, block_g]
  exact congrArg (fun q => _ * Ideal.rsqrt (Ideal.div q _ + _) * _) (sums (fun z => block_x m c t r z) (fun z => block_x m c t r z))
/-- A column of a point's product. -/
theorem column (o : Fin 4096) : ∑ e : Fin 1024, k0_pay4 (iblk m c 0 t) (iblk m c 1 t) (ix2 r e) * iblk m c 2 t (ix2 e o)
    = arranged (fun z => product m c (ix3 (batch t) (row t r) z)) o := by
  refine (sums (fun e => rows m c t r e) (fun e => block_w m c t e o)).trans ((arranged_sum o _ _).trans ?_)
  exact congrArg (fun f => arranged f o) (funext fun z => (InOddRefIdeal.Value.projected_at _ _ _ _ _ _).symm)
theorem point (o : Fin 4096) : out0_3 (iblk m c 0 t) (iblk m c 1 t) (iblk m c 2 t) (ix3 0 r o)
    = whole (product m c) (ix3 (batch t) (row t r) o) :=
  (body_at _ _ _ r o).trans ((column m c t r o).trans (InOddRefIdeal.Value.whole_at _ _ _ o).symm)
theorem point_narrow (o : Fin 128) : out0_4 (iblk m c 0 t) (iblk m c 1 t) (iblk m c 2 t) (ix3 0 r o)
    = narrow (product m c) (ix3 (batch t) (row t r) o) :=
  (narrow_body_at _ _ _ r o).trans ((column m c t r _).trans (InOddRefIdeal.Value.narrow_at _ _ _ o).symm)
theorem emb_out (o : Fin 4096) : (win0_3.blk t).view.emb (ix3 0 r o) = ix3 (batch t) (row t r) o := by
  blk_ext [idx t, batch, row]
theorem emb_narrow (o : Fin 128) : (win0_4.blk t).view.emb (ix3 0 r o) = ix3 (batch t) (row t r) o := by
  blk_ext [idx t, batch, row]
theorem final : (dats m 0 c).arrAt 3 cfg0.N = whole (product m c) := by
  refine (dats m 0 c).arrAt_eq_of_covers 3 (whole (product m c)) (by decide +kernel) fun t _ y => ?_
  blk_simp
  rw [after0_3]
  idx_vars y
  obtain rfl : y0 = 0 := Subsingleton.elim _ _
  exact (point m c t y1 y2).trans (congrArg (whole (product m c)) (emb_out t y1 y2)).symm
theorem final_narrow : (dats m 0 c).arrAt 4 cfg0.N = narrow (product m c) := by
  refine (dats m 0 c).arrAt_eq_of_covers 4 (narrow (product m c)) (by decide +kernel) fun t _ y => ?_
  blk_simp
  rw [after0_4]
  idx_vars y
  obtain rfl : y0 = 0 := Subsingleton.elim _ _
  exact (point_narrow m c t y1 y2).trans (congrArg (narrow (product m c)) (emb_narrow t y1 y2)).symm
end Cert.InOddIdeal.Value
-- ==== Proof.OutOddRef.lean ====
module
public import proofs.«01_k».proof.Proof.Sums
public import proofs.«01_k».proof.Proof.Gen.OutOddRefIdeal.Run
public import Idealize.ShloMosaic.Lib.Pipeline.ValueKit
public import Idealize.ShloMosaic.Lib.Pointwise
/-!
The out-projection's reference at one entry: the residual plus, mixer by mixer, gated outputs times weights.
-/
set_option maxRecDepth 16384
@[expose] public noncomputable section
open Idealize.ShloMosaic Idealize.ShloMosaic.TcCoe Idealize.SL.Sem
namespace Cert.OutOddRefIdeal.Value
open Cert.OutOddRefIdeal Cert.OutOddRefIdeal.Gen Cert.Sums

/-- A mixer's output times the silu of its gate, for the two wide mixers. -/
def gated (y g : FVec Ideal S8x4096x512 .f32) : FVec Ideal S8x4096x512 .f32 :=
  mulf y (mulf g (Host.divf (broadcastInDim S8x4096x512 ![] bcast_S_S8x4096x512 (constant S_ .f32 0x3F800000#32))
    (addf (broadcastInDim S8x4096x512 ![] bcast_S_S8x4096x512 (constant S_ .f32 0x3F800000#32)) (Host.exp (Host.negf g)))))
/-- The same for the narrow one. -/
def gatedM (y g : FVec Ideal S8x4096x256 .f32) : FVec Ideal S8x4096x256 .f32 :=
  mulf y (mulf g (Host.divf (broadcastInDim S8x4096x256 ![] bcast_S_S8x4096x256 (constant S_ .f32 0x3F800000#32))
    (addf (broadcastInDim S8x4096x256 ![] bcast_S_S8x4096x256 (constant S_ .f32 0x3F800000#32)) (Host.exp (Host.negf g)))))
/-- The three mixers' gated outputs side by side. -/
def beside (y1 y2 : FVec Ideal S8x4096x512 .f32) (ym : FVec Ideal S8x4096x256 .f32) : FVec Ideal S8x4096x1280 .f32 :=
  concatenate S8x4096x1280 2 [⟨S8x4096x512, y1⟩, ⟨S8x4096x512, y2⟩, ⟨S8x4096x256, ym⟩]
    concatenates_S8x4096x512_S8x4096x512_S8x4096x256_S8x4096x1280_d2
/-- An array through the output weights, added to the residual. -/
def project (x : FVec Ideal S8x4096x1024 .f32) (y : FVec Ideal S8x4096x1280 .f32) (w : FVec Ideal S1280x1024 .f32) :
    FVec Ideal S8x4096x1024 .f32 :=
  addf x (Host.dotGeneral dot_S8x4096x1280_S1280x1024_S8x4096x1024_2_0_01_1_n_n none y w)

variable (b : Fin 8) (s : Fin 4096) (o : Fin 1024)
theorem gated_at (y g : FVec Ideal S8x4096x512 .f32) (z : Fin 512) :
    gated y g (ix3 b s z) = y (ix3 b s z) * silu (g (ix3 b s z)) := by
  pointwise [gated, silu]
theorem gatedM_at (y g : FVec Ideal S8x4096x256 .f32) (z : Fin 256) :
    gatedM y g (ix3 b s z) = y (ix3 b s z) * silu (g (ix3 b s z)) := by
  pointwise [gatedM, silu]
theorem project_at (x : FVec Ideal S8x4096x1024 .f32) (y : FVec Ideal S8x4096x1280 .f32) (w : FVec Ideal S1280x1024 .f32) :
    project x y w (ix3 b s o) = x (ix3 b s o) + ∑ z : Fin 1280, y (ix3 b s z) * w (ix2 z o) := by
  pointwise [project]
theorem beside_at (y1 y2 : FVec Ideal S8x4096x512 .f32) (ym : FVec Ideal S8x4096x256 .f32) :
    (∀ z : Fin 512, beside y1 y2 ym (ix3 b s ⟨z, by omega⟩) = y1 (ix3 b s z))
    ∧ (∀ z : Fin 512, beside y1 y2 ym (ix3 b s ⟨512 + z, by omega⟩) = y2 (ix3 b s z))
    ∧ (∀ z : Fin 256, beside y1 y2 ym (ix3 b s ⟨1024 + z, by omega⟩) = ym (ix3 b s z)) := by
  refine ⟨fun z => ?_, fun z => ?_, fun z => ?_⟩
  · pointwise [beside]
  · pointwise [beside]
  · pointwise [beside]
    rw [dif_neg (by omega), dif_neg (by omega)]
    exact congrArg (fun z => ym (ix3 b s z)) (Fin.ext (by dsimp only; omega))

/-- The reference as a function of the residual, the mixers' outputs, their gates and the weights. -/
def out (x : FVec Ideal S8x4096x1024 .f32) (y1 g1 y2 g2 : FVec Ideal S8x4096x512 .f32) (ym gm : FVec Ideal S8x4096x256 .f32)
    (w : FVec Ideal S1280x1024 .f32) : FVec Ideal S8x4096x1024 .f32 :=
  project x (beside (gated y1 g1) (gated y2 g2) (gatedM ym gm)) w
/-- One entry of it: the residual and the three mixers' shares. -/
theorem out_at (x : FVec Ideal S8x4096x1024 .f32) (y1 g1 y2 g2 : FVec Ideal S8x4096x512 .f32) (ym gm : FVec Ideal S8x4096x256 .f32)
    (w : FVec Ideal S1280x1024 .f32) : out x y1 g1 y2 g2 ym gm w (ix3 b s o)
      = x (ix3 b s o) + (∑ z : Fin 512, y1 (ix3 b s z) * silu (g1 (ix3 b s z)) * w (ix2 ⟨z, by omega⟩ o)
        + ∑ z : Fin 512, y2 (ix3 b s z) * silu (g2 (ix3 b s z)) * w (ix2 ⟨512 + z, by omega⟩ o)
        + ∑ z : Fin 256, ym (ix3 b s z) * silu (gm (ix3 b s z)) * w (ix2 ⟨1024 + z, by omega⟩ o)) := by
  obtain ⟨h1, h2, h3⟩ := beside_at b s (gated y1 g1) (gated y2 g2) (gatedM ym gm)
  rw [out, project_at, sum_parts]
  simp only [h1, h2, h3, gated_at, gatedM_at]
/-- The columns of the gates in the array the in-projection gives. -/
def gate1 (u : FVec Ideal S8x4096x4016 .f32) : FVec Ideal S8x4096x512 .f32 :=
  extractStridedSlice S8x4096x512 ![0, 0, 936] u slices_S8x4096x4016_S8x4096x512_0_0_936
def gate2 (u : FVec Ideal S8x4096x4016 .f32) : FVec Ideal S8x4096x512 .f32 :=
  extractStridedSlice S8x4096x512 ![0, 0, 2992] u slices_S8x4096x4016_S8x4096x512_0_0_2992
def gateM (u : FVec Ideal S8x4096x4016 .f32) : FVec Ideal S8x4096x256 .f32 :=
  extractStridedSlice S8x4096x256 ![0, 0, 3760] u slices_S8x4096x4016_S8x4096x256_0_0_3760
theorem gate1_at (u : FVec Ideal S8x4096x4016 .f32) (z : Fin 512) : gate1 u (ix3 b s z) = u (ix3 b s ⟨936 + z, by omega⟩) := by
  pointwise [gate1]
theorem gate2_at (u : FVec Ideal S8x4096x4016 .f32) (z : Fin 512) : gate2 u (ix3 b s z) = u (ix3 b s ⟨2992 + z, by omega⟩) := by
  pointwise [gate2]
theorem gateM_at (u : FVec Ideal S8x4096x4016 .f32) (z : Fin 256) : gateM u (ix3 b s z) = u (ix3 b s ⟨3760 + z, by omega⟩) := by
  pointwise [gateM]
end Cert.OutOddRefIdeal.Value
-- ==== Proof.OutOddBody.lean ====
module
public import proofs.«01_k».proof.Proof.Gen.OutOddIdeal.Value
public import proofs.«01_k».proof.Proof.OutOddRef
public import Idealize.ShloMosaic.Lib.Pipeline.ValueKit
public import Idealize.ShloMosaic.Lib.Pointwise
public import Idealize.ShloMosaic.Lib.WholeRead
/-!
What the out-projection's kernel body stores at one entry of its block.
-/
set_option maxRecDepth 16384
@[expose] public noncomputable section
open Idealize.ShloMosaic Idealize.ShloMosaic.TcCoe Idealize.SL.Sem
namespace Cert.OutOddIdeal.Value
open Cert.OutOddIdeal Cert.OutOddIdeal.Gen
open Cert.Sums (silu)
/-- What the body computes of its loads, at one entry: the residual and, mixer by mixer, gated rows times weights. -/
theorem pay_at (v0 : Vec Ideal S1x512x1024 .f32) (y1 y2 g1 g2 : Vec Ideal S1x512x512 .bf16) (ym gm : Vec Ideal S1x512x256 .bf16)
    (w1 w2 : Vec Ideal S512x1024 .bf16) (wm : Vec Ideal S256x1024 .bf16) (r : Fin 512) (o : Fin 1024)
    {W1 W2 : Fin 512 → EReal} {WM : Fin 256 → EReal} (h1 : ∀ z, w1 (ix2 z o) = W1 z) (h2 : ∀ z, w2 (ix2 z o) = W2 z)
    (hm : ∀ z, wm (ix2 z o) = WM z) :
    k0_pay1 (k0_pay2 v0 g1 y1 w1) (k0_pay3 g2) (k0_pay4 y2) (k0_pay5 g2) (k0_pay6 (F := Ideal)) w2 gm ym wm (ix3 0 r o)
      = v0 (ix3 0 r o) + ∑ z : Fin 512, y1 (ix3 0 r z) * silu (g1 (ix3 0 r z)) * W1 z
        + ∑ z : Fin 512, y2 (ix3 0 r z) * silu (g2 (ix3 0 r z)) * W2 z
        + ∑ z : Fin 256, ym (ix3 0 r z) * silu (gm (ix3 0 r z)) * WM z := by
  pointwise [silu, k0_pay1, k0_pay2, k0_pay3, k0_pay4, k0_pay5, k0_pay6]
  simp only [zero_sub, h1, h2, hm]
variable (x7 : Vec Ideal S1280x1024 .bf16) (o : Fin 1024)
/-- The rows of the weights that the three mixers meet. -/
theorem rows1 (z : Fin 512) : View.ld x7 r0_2 (ix2 z o) = x7 (ix2 ⟨z, by omega⟩ o) := by
  refine congrArg x7 (funext fun a => Fin.ext ?_)
  fin_cases a
  · show 0 + 1 * z.val = _; dsimp only [ix2]; simp
  · show 0 + 1 * o.val = o.val; omega
theorem rows2 (z : Fin 512) : View.ld x7 r0_3 (ix2 z o) = x7 (ix2 ⟨512 + z, by omega⟩ o) := by
  refine congrArg x7 (funext fun a => Fin.ext ?_)
  fin_cases a
  · show 512 + 1 * z.val = _; dsimp only [ix2]; simp
  · show 0 + 1 * o.val = o.val; omega
theorem rowsM (z : Fin 256) : View.ld x7 r0_5 (ix2 z o) = x7 (ix2 ⟨1024 + z, by omega⟩ o) := by
  refine congrArg x7 (funext fun a => Fin.ext ?_)
  fin_cases a
  · show 1024 + 1 * z.val = _; dsimp only [ix2]; simp
  · show 0 + 1 * o.val = o.val; omega

/-- THE BODY at one entry of its block. -/
theorem body_at (x0 : Vec Ideal S1x512x1024 .f32) (x1 x2 : Vec Ideal S1x512x512 .bf16) (x3 : Vec Ideal S1x512x256 .bf16)
    (x4 x5 : Vec Ideal S1x512x512 .bf16) (x6 : Vec Ideal S1x512x256 .bf16) (r : Fin 512) :
    out0_8 x0 x1 x2 x3 x4 x5 x6 x7 (ix3 0 r o)
      = x0 (ix3 0 r o) + ∑ z : Fin 512, x1 (ix3 0 r z) * silu (x4 (ix3 0 r z)) * x7 (ix2 ⟨z, by omega⟩ o)
        + ∑ z : Fin 512, x2 (ix3 0 r z) * silu (x5 (ix3 0 r z)) * x7 (ix2 ⟨512 + z, by omega⟩ o)
        + ∑ z : Fin 256, x3 (ix3 0 r z) * silu (x6 (ix3 0 r z)) * x7 (ix2 ⟨1024 + z, by omega⟩ o) := by
  unfold out0_8
  rw [View.canon_cons_unit_lit _ _ _ (by decide), View.ld_unit_lit _ x0 (by decide), View.ld_unit_lit _ x1 (by decide),
    View.ld_unit_lit _ x2 (by decide), View.ld_unit_lit _ x3 (by decide), View.ld_unit_lit _ x4 (by decide),
    View.ld_unit_lit _ x5 (by decide), View.ld_unit_lit _ x6 (by decide)]
  exact pay_at _ _ _ _ _ _ _ _ _ _ r o (rows1 x7 o) (rows2 x7 o) (rowsM x7 o)
end Cert.OutOddIdeal.Value
-- ==== Proof.OutOddLayout.lean ====
module
public import proofs.«01_k».proof.Proof.OutOddBody
public import Idealize.ShloMosaic.Lib.StableHlo.RunRead
/-!
The arrays the odd layers' out-projection hands to its kernel: the in-projection's columns rearranged so that every gate
is a block of its own, and the mixers' outputs and the weights as they are.
-/
set_option maxRecDepth 16384
@[expose] public noncomputable section
open Idealize.ShloMosaic Idealize.ShloMosaic.TcCoe Idealize.SL.Sem
namespace Cert.OutOddIdeal.Value
open Cert.OutOddIdeal Cert.OutOddIdeal.Gen

/-- The first eight pieces of the columns, in the order the kernel lays them out. -/
def leftCols (u : FVec Ideal S32768x4016 .f32) : FVec Ideal S32768x3328 .bf16 :=
  concatenate S32768x3328 1 [
    ⟨S32768x512, truncf .bf16 (extractStridedSlice S32768x512 ![0, 0] u slices_S32768x4016_S32768x512_0_0) bitsLt_bf16_f32⟩,
    ⟨S32768x512, truncf .bf16 (extractStridedSlice S32768x512 ![0, 936] u slices_S32768x4016_S32768x512_0_936) bitsLt_bf16_f32⟩,
    ⟨S32768x512, truncf .bf16 (extractStridedSlice S32768x512 ![0, 2992] u slices_S32768x4016_S32768x512_0_2992) bitsLt_bf16_f32⟩,
    ⟨S32768x512, truncf .bf16 (extractStridedSlice S32768x512 ![0, 1960] u slices_S32768x4016_S32768x512_0_1960) bitsLt_bf16_f32⟩,
    ⟨S32768x512, truncf .bf16 (extractStridedSlice S32768x512 ![0, 2480] u slices_S32768x4016_S32768x512_0_2480) bitsLt_bf16_f32⟩,
    ⟨S32768x256, truncf .bf16 (extractStridedSlice S32768x256 ![0, 1448] u slices_S32768x4016_S32768x256_0_1448) bitsLt_bf16_f32⟩,
    ⟨S32768x256, truncf .bf16 (extractStridedSlice S32768x256 ![0, 1704] u slices_S32768x4016_S32768x256_0_1704) bitsLt_bf16_f32⟩,
    ⟨S32768x256, truncf .bf16 (extractStridedSlice S32768x256 ![0, 3504] u slices_S32768x4016_S32768x256_0_3504) bitsLt_bf16_f32⟩]
    concatenates_S32768x512_S32768x512_S32768x512_S32768x512_S32768x512_S32768x256_S32768x256_S32768x256_S32768x3328_d1
/-- The remaining pieces. -/
def rightCols (u : FVec Ideal S32768x4016 .f32) : FVec Ideal S32768x768 .bf16 :=
  concatenate S32768x768 1 [
    ⟨S32768x256, truncf .bf16 (extractStridedSlice S32768x256 ![0, 3760] u slices_S32768x4016_S32768x256_0_3760) bitsLt_bf16_f32⟩,
    ⟨S32768x256, truncf .bf16 (extractStridedSlice S32768x256 ![0, 640] u slices_S32768x4016_S32768x256_0_640) bitsLt_bf16_f32⟩,
    ⟨S32768x64, truncf .bf16 (extractStridedSlice S32768x64 ![0, 512] u slices_S32768x4016_S32768x64_0_512) bitsLt_bf16_f32⟩,
    ⟨S32768x64, truncf .bf16 (extractStridedSlice S32768x64 ![0, 576] u slices_S32768x4016_S32768x64_0_576) bitsLt_bf16_f32⟩,
    ⟨S32768x32, truncf .bf16 (extractStridedSlice S32768x32 ![0, 896] u slices_S32768x4016_S32768x32_0_896) bitsLt_bf16_f32⟩,
    ⟨S32768x8, truncf .bf16 (extractStridedSlice S32768x8 ![0, 928] u slices_S32768x4016_S32768x8_0_928) bitsLt_bf16_f32⟩,
    ⟨S32768x4, truncf .bf16 (extractStridedSlice S32768x4 ![0, 2472] u slices_S32768x4016_S32768x4_0_2472) bitsLt_bf16_f32⟩,
    ⟨S32768x4, truncf .bf16 (extractStridedSlice S32768x4 ![0, 2476] u slices_S32768x4016_S32768x4_0_2476) bitsLt_bf16_f32⟩,
    ⟨S32768x80, broadcastInDim S32768x80 ![] bcast_S_S32768x80 (constant S_ .bf16 0x0000#16 : FVec Ideal S_ .bf16)⟩]
    concatenates_S32768x256_S32768x256_S32768x64_S32768x64_S32768x32_S32768x8_S32768x4_S32768x4_S32768x80_S32768x768_d1
/-- All columns: the two halves side by side. -/
def cols (u : FVec Ideal S32768x4016 .f32) : FVec Ideal S32768x4096 .bf16 :=
  concatenate S32768x4096 1 [⟨S32768x3328, leftCols u⟩, ⟨S32768x768, rightCols u⟩]
    concatenates_S32768x3328_S32768x768_S32768x4096_d1
/-- The array whose column blocks are the gates. -/
def rearranged (u : FVec Ideal S8x4096x4016 .f32) : FVec Ideal S8x4096x4096 .bf16 :=
  shapeCast S8x4096x4096 (cols (shapeCast S32768x4016 u shapeCasts_S8x4096x4016_S32768x4016)) shapeCasts_S32768x4096_S8x4096x4096

section read
variable (u : FVec Ideal S32768x4016 .f32) (i : Fin 32768)
theorem cols_gate1 (z : Fin 512) : cols u (ix2 i ⟨512 + z, by omega⟩) = u (ix2 i ⟨936 + z, by omega⟩) := by
  pointwise [cols, leftCols]
  exact dif_pos (by omega)
theorem cols_gate2 (z : Fin 512) : cols u (ix2 i ⟨1024 + z, by omega⟩) = u (ix2 i ⟨2992 + z, by omega⟩) := by
  pointwise [cols, leftCols]
  split_ifs <;> first | omega | exact congrArg (fun z => u (ix2 i z)) (Fin.ext (by dsimp only; omega))
theorem cols_gateM (z : Fin 256) : cols u (ix2 i ⟨3328 + z, by omega⟩) = u (ix2 i ⟨3760 + z, by omega⟩) := by
  pointwise [cols, rightCols]
end read
variable (m : (ℓ : Loc nD τ sig) → Buf (Elt Ideal) ℓ) (c : Dev nD)
theorem gates : V m c main_v37 = rearranged (m ((c.tc : Thread nD τ).loc main_arg4)) := by
  after_reads_simp
  rfl
theorem mixer1 : V m c main_v38 = (truncf .bf16 (m ((c.tc : Thread nD τ).loc main_arg1) : FVec Ideal S8x4096x512 .f32)
    bitsLt_bf16_f32 : FVec Ideal S8x4096x512 .bf16) := by
  after_reads_simp
theorem mixer2 : V m c main_v39 = (truncf .bf16 (m ((c.tc : Thread nD τ).loc main_arg2) : FVec Ideal S8x4096x512 .f32)
    bitsLt_bf16_f32 : FVec Ideal S8x4096x512 .bf16) := by
  after_reads_simp
theorem mixerM : V m c main_v40 = (truncf .bf16 (m ((c.tc : Thread nD τ).loc main_arg3) : FVec Ideal S8x4096x256 .f32)
    bitsLt_bf16_f32 : FVec Ideal S8x4096x256 .bf16) := by
  after_reads_simp
theorem weights : V m c main_v41 = (truncf .bf16 (m ((c.tc : Thread nD τ).loc main_arg5) : FVec Ideal S1280x1024 .f32)
    bitsLt_bf16_f32 : FVec Ideal S1280x1024 .bf16) := by
  after_reads_simp
end Cert.OutOddIdeal.Value
-- ==== Proof.OutOddFinal.lean ====
module
public import proofs.«01_k».proof.Proof.OutOddLayout
/-!
The odd layers' out-projection ends with what its reference computes: point by point, block by block.
-/
set_option maxRecDepth 16384
@[expose] public noncomputable section
open Idealize.ShloMosaic Idealize.ShloMosaic.TcCoe Idealize.SL.Sem
namespace Cert.OutOddIdeal.Value
open Cert.OutOddIdeal Cert.OutOddIdeal.Gen Cert.Sums
variable (m : (ℓ : Loc nD τ sig) → Buf (Elt Ideal) ℓ) (c : Dev nD)
/-- The block indices of every window, as functions of the grid's coordinates. -/
theorem idx : ∀ t : Fin cfg0.N,
    win0_0.index t = ![(grid0.coords t 0).val, (grid0.coords t 1).val, 0]
    ∧ win0_1.index t = ![(grid0.coords t 0).val, (grid0.coords t 1).val, 0]
    ∧ win0_2.index t = ![(grid0.coords t 0).val, (grid0.coords t 1).val, 0]
    ∧ win0_3.index t = ![(grid0.coords t 0).val, (grid0.coords t 1).val, 0]
    ∧ win0_4.index t = ![(grid0.coords t 0).val, (grid0.coords t 1).val, 1]
    ∧ win0_5.index t = ![(grid0.coords t 0).val, (grid0.coords t 1).val, 2]
    ∧ win0_6.index t = ![(grid0.coords t 0).val, (grid0.coords t 1).val, 13]
    ∧ win0_7.index t = ![0, 0]
    ∧ win0_8.index t = ![(grid0.coords t 0).val, (grid0.coords t 1).val, 0] :=
  (by decide +kernel : ∀ t : Fin grid0.N, _)
variable (t : Fin cfg0.N)
/-- The batch entry and the rows of a grid point. -/
theorem i1 : (grid0.coords t 1).val < 8 := (grid0.coords t 1).isLt
def batch : Fin 8 := ⟨(grid0.coords t 0).val, (grid0.coords t 0).isLt⟩
def row (r : Fin 512) : Fin 4096 := ⟨512 * (grid0.coords t 1).val + r, by have := i1 t; omega⟩
variable (r : Fin 512)
theorem block_x (o : Fin 1024) : iblk m c 0 t (ix3 0 r o) = m ((c.tc : Thread nD τ).loc main_arg0) (ix3 (batch t) (row t r) o) := by
  rw [← V_main_arg0 m c]
  blk_ext [iblk, idx t, batch, row]
theorem block_y1 (z : Fin 512) : iblk m c 1 t (ix3 0 r z) = V m c main_v38 (ix3 (batch t) (row t r) z) := by
  blk_ext [iblk, idx t, batch, row]
theorem block_y2 (z : Fin 512) : iblk m c 2 t (ix3 0 r z) = V m c main_v39 (ix3 (batch t) (row t r) z) := by
  blk_ext [iblk, idx t, batch, row]
theorem block_ym (z : Fin 256) : iblk m c 3 t (ix3 0 r z) = V m c main_v40 (ix3 (batch t) (row t r) z) := by
  blk_ext [iblk, idx t, batch, row]
/-- Blocks of the gates, read off any contents of the arrays. -/
theorem read_g1 (X : (b : Ref sig .tc) → Buf (Elt Ideal) ((c.tc : Thread nD τ).loc b)) (y : S1x512x512.Idx) :
    ((cfg0.win 4).blk t).view.read (Elt Ideal) (X (Pipeline.arrRef spec0 4)) y = X main_v37 ((win0_4.blk t).view.emb y) := rfl
theorem read_g2 (X : (b : Ref sig .tc) → Buf (Elt Ideal) ((c.tc : Thread nD τ).loc b)) (y : S1x512x512.Idx) :
    ((cfg0.win 5).blk t).view.read (Elt Ideal) (X (Pipeline.arrRef spec0 5)) y = X main_v37 ((win0_5.blk t).view.emb y) := rfl
theorem read_gm (X : (b : Ref sig .tc) → Buf (Elt Ideal) ((c.tc : Thread nD τ).loc b)) (y : S1x512x256.Idx) :
    ((cfg0.win 6).blk t).view.read (Elt Ideal) (X (Pipeline.arrRef spec0 6)) y = X main_v37 ((win0_6.blk t).view.emb y) := rfl
/-- An index of the rearranged array from its three coordinates. -/
theorem place_of (v : S8x4096x4096.Idx) (j : Fin 4096) (h0 : (v 0).val = (grid0.coords t 0).val * 1 + 0)
    (h1 : (v 1).val = (grid0.coords t 1).val * 512 + r) (h2 : (v 2).val = j) : v = ix3 (batch t) (row t r) j := by
  refine funext fun a => Fin.ext ?_
  fin_cases a
  · exact h0.trans (by simp [ix3, batch])
  · exact h1.trans (by simp [ix3, row, Nat.mul_comm])
  · exact h2
theorem place_g1 (z : Fin 512) (j : Fin 4096) (hj : j.val = 512 + z.val) :
    (win0_4.blk t).view.emb (ix3 0 r z) = ix3 (batch t) (row t r) j := by
  have e0 : (((win0_4.blk t).view.emb (ix3 0 r z) : S8x4096x4096.Idx) 0).val = win0_4.index t 0 * 1 + 0 :=
    win0_4.rect_emb_val t (ix3 0 r z) 0 rfl
  have e1 : (((win0_4.blk t).view.emb (ix3 0 r z) : S8x4096x4096.Idx) 1).val = win0_4.index t 1 * 512 + r.val :=
    win0_4.rect_emb_val t (ix3 0 r z) 1 rfl
  have e2 : (((win0_4.blk t).view.emb (ix3 0 r z) : S8x4096x4096.Idx) 2).val = win0_4.index t 2 * 512 + z.val :=
    win0_4.rect_emb_val t (ix3 0 r z) 2 rfl
  have h := (idx t).2.2.2.2.1
  have h0 : win0_4.index t 0 = (grid0.coords t 0).val := congrFun h 0
  have h1 : win0_4.index t 1 = (grid0.coords t 1).val := congrFun h 1
  have h2 : win0_4.index t 2 = 1 := congrFun h 2
  rw [h0] at e0
  rw [h1] at e1
  rw [h2] at e2
  exact place_of t r _ j e0 e1 (e2.trans (by omega))
theorem block_g1 (z : Fin 512) (j : Fin 4096) (hj : j.val = 512 + z.val) :
    iblk m c 4 t (ix3 0 r z) = V m c main_v37 (ix3 (batch t) (row t r) j) := by
  unfold iblk
  exact (read_g1 c t (V m c) _).trans (congrArg (V m c main_v37) (place_g1 t r z j hj))
theorem place_g2 (z : Fin 512) (j : Fin 4096) (hj : j.val = 1024 + z.val) :
    (win0_5.blk t).view.emb (ix3 0 r z) = ix3 (batch t) (row t r) j := by
  have e0 : (((win0_5.blk t).view.emb (ix3 0 r z) : S8x4096x4096.Idx) 0).val = win0_5.index t 0 * 1 + 0 :=
    win0_5.rect_emb_val t (ix3 0 r z) 0 rfl
  have e1 : (((win0_5.blk t).view.emb (ix3 0 r z) : S8x4096x4096.Idx) 1).val = win0_5.index t 1 * 512 + r.val :=
    win0_5.rect_emb_val t (ix3 0 r z) 1 rfl
  have e2 : (((win0_5.blk t).view.emb (ix3 0 r z) : S8x4096x4096.Idx) 2).val = win0_5.index t 2 * 512 + z.val :=
    win0_5.rect_emb_val t (ix3 0 r z) 2 rfl
  have h := (idx t).2.2.2.2.2.1
  have h0 : win0_5.index t 0 = (grid0.coords t 0).val := congrFun h 0
  have h1 : win0_5.index t 1 = (grid0.coords t 1).val := congrFun h 1
  have h2 : win0_5.index t 2 = 2 := congrFun h 2
  rw [h0] at e0
  rw [h1] at e1
  rw [h2] at e2
  exact place_of t r _ j e0 e1 (e2.trans (by omega))
theorem block_g2 (z : Fin 512) (j : Fin 4096) (hj : j.val = 1024 + z.val) :
    iblk m c 5 t (ix3 0 r z) = V m c main_v37 (ix3 (batch t) (row t r) j) := by
  unfold iblk
  exact (read_g2 c t (V m c) _).trans (congrArg (V m c main_v37) (place_g2 t r z j hj))
theorem place_gm (z : Fin 256) (j : Fin 4096) (hj : j.val = 3328 + z.val) :
    (win0_6.blk t).view.emb (ix3 0 r z) = ix3 (batch t) (row t r) j := by
  have e0 : (((win0_6.blk t).view.emb (ix3 0 r z) : S8x4096x4096.Idx) 0).val = win0_6.index t 0 * 1 + 0 :=
    win0_6.rect_emb_val t (ix3 0 r z) 0 rfl
  have e1 : (((win0_6.blk t).view.emb (ix3 0 r z) : S8x4096x4096.Idx) 1).val = win0_6.index t 1 * 512 + r.val :=
    win0_6.rect_emb_val t (ix3 0 r z) 1 rfl
  have e2 : (((win0_6.blk t).view.emb (ix3 0 r z) : S8x4096x4096.Idx) 2).val = win0_6.index t 2 * 256 + z.val :=
    win0_6.rect_emb_val t (ix3 0 r z) 2 rfl
  have h := (idx t).2.2.2.2.2.2.1
  have h0 : win0_6.index t 0 = (grid0.coords t 0).val := congrFun h 0
  have h1 : win0_6.index t 1 = (grid0.coords t 1).val := congrFun h 1
  have h2 : win0_6.index t 2 = 13 := congrFun h 2
  rw [h0] at e0
  rw [h1] at e1
  rw [h2] at e2
  exact place_of t r _ j e0 e1 (e2.trans (by omega))
theorem block_gm (z : Fin 256) (j : Fin 4096) (hj : j.val = 3328 + z.val) :
    iblk m c 6 t (ix3 0 r z) = V m c main_v37 (ix3 (batch t) (row t r) j) := by
  unfold iblk
  exact (read_gm c t (V m c) _).trans (congrArg (V m c main_v37) (place_gm t r z j hj))
theorem block_w (z : Fin 1280) (o : Fin 1024) : iblk m c 7 t (ix2 z o) = V m c main_v41 (ix2 z o) := by
  blk_ext [iblk, idx t]

/-- The gates' columns of the rearranged array. -/
theorem rearranged_at (u : FVec Ideal S8x4096x4016 .f32) (b : Fin 8) (s : Fin 4096) :
    (∀ z : Fin 512, rearranged u (ix3 b s ⟨512 + z, by omega⟩) = u (ix3 b s ⟨936 + z, by omega⟩))
    ∧ (∀ z : Fin 512, rearranged u (ix3 b s ⟨1024 + z, by omega⟩) = u (ix3 b s ⟨2992 + z, by omega⟩))
    ∧ (∀ z : Fin 256, rearranged u (ix3 b s ⟨3328 + z, by omega⟩) = u (ix3 b s ⟨3760 + z, by omega⟩)) := by
  have h (z : Fin 4096) : rearranged u (ix3 b s z) = cols (shapeCast S32768x4016 u shapeCasts_S8x4096x4016_S32768x4016)
      (ix2 ⟨4096 * b + s, by omega⟩ z) := by
    pointwise [rearranged]
    refine congrArg (fun k => cols _ (ix2 k z)) (Fin.ext ?_)
    dsimp only
    omega
  have h' (z : Fin 4016) : (shapeCast S32768x4016 u shapeCasts_S8x4096x4016_S32768x4016 : FVec Ideal S32768x4016 .f32)
      (ix2 ⟨4096 * b + s, by omega⟩ z) = u (ix3 b s z) := by
    pointwise
  exact ⟨fun z => (h _).trans ((cols_gate1 _ _ z).trans (h' _)), fun z => (h _).trans ((cols_gate2 _ _ z).trans (h' _)),
    fun z => (h _).trans ((cols_gateM _ _ z).trans (h' _))⟩

/-- The reference of the arguments held in the kernel's memory. -/
def result : FVec Ideal S8x4096x1024 .f32 :=
  OutOddRefIdeal.Value.out (m ((c.tc : Thread nD τ).loc main_arg0))
    (m ((c.tc : Thread nD τ).loc main_arg1)) (OutOddRefIdeal.Value.gate1 (m ((c.tc : Thread nD τ).loc main_arg4)))
    (m ((c.tc : Thread nD τ).loc main_arg2)) (OutOddRefIdeal.Value.gate2 (m ((c.tc : Thread nD τ).loc main_arg4)))
    (m ((c.tc : Thread nD τ).loc main_arg3)) (OutOddRefIdeal.Value.gateM (m ((c.tc : Thread nD τ).loc main_arg4)))
    (m ((c.tc : Thread nD τ).loc main_arg5))
theorem emb_out (o : Fin 1024) : (win0_8.blk t).view.emb (ix3 0 r o) = ix3 (batch t) (row t r) o := by
  blk_ext [idx t, batch, row]
theorem point (o : Fin 1024) : out0_8 (iblk m c 0 t) (iblk m c 1 t) (iblk m c 2 t) (iblk m c 3 t) (iblk m c 4 t) (iblk m c 5 t)
    (iblk m c 6 t) (iblk m c 7 t) (ix3 0 r o) = result m c (ix3 (batch t) (row t r) o) := by
  obtain ⟨g1, g2, gm⟩ := rearranged_at (m ((c.tc : Thread nD τ).loc main_arg4)) (batch t) (row t r)
  rw [body_at, result, OutOddRefIdeal.Value.out_at]
  refine agree (block_x m c t r o) (fun z => ?_) (fun z => ?_) (fun z => ?_)
  · rw [block_y1, block_g1 m c t r z ⟨512 + z, by omega⟩ rfl, block_w, gates, mixer1, weights, OutOddRefIdeal.Value.gate1_at]
    exact congrArg₂ (· * ·) (congrArg₂ (· * ·) rfl (congrArg silu (g1 z))) rfl
  · rw [block_y2, block_g2 m c t r z ⟨1024 + z, by omega⟩ rfl, block_w, gates, mixer2, weights, OutOddRefIdeal.Value.gate2_at]
    exact congrArg₂ (· * ·) (congrArg₂ (· * ·) rfl (congrArg silu (g2 z))) rfl
  · rw [block_ym, block_gm m c t r z ⟨3328 + z, by omega⟩ rfl, block_w, gates, mixerM, weights, OutOddRefIdeal.Value.gateM_at]
    exact congrArg₂ (· * ·) (congrArg₂ (· * ·) rfl (congrArg silu (gm z))) rfl
theorem final : (dats m 0 c).arrAt 8 cfg0.N = result m c := by
  refine (dats m 0 c).arrAt_eq_of_covers 8 (result m c) (by decide +kernel) fun t _ y => ?_
  blk_simp
  rw [after0_8]
  idx_vars y
  obtain rfl : y0 = 0 := Subsingleton.elim _ _
  exact (point m c t y1 y2).trans (congrArg (result m c) (emb_out t y1 y2)).symm
end Cert.OutOddIdeal.Value
-- ==== Proof.EvenColumns.lean ====
module
public import Idealize.ShloMosaic.Lib.Pointwise
/-!
The order of the projected columns in an even layer: which column of the weights each column of the kernel's array is.
-/
@[expose] public noncomputable section
namespace Cert.EvenColumns
/-- The column of the weights that column `k` of the kernel's array comes from; past them all for the padding. -/
def source (k : ℕ) : ℕ :=
  if k < 256 then 0 + (k - 0) else
  if k < 384 then 256 + (k - 256) else
  if k < 416 then 384 + (k - 384) else
  if k < 512 then 3256 else
  if k < 1024 then 928 + (k - 512) else
  if k < 1536 then 416 + (k - 1024) else
  if k < 2048 then 2232 + (k - 1536) else
  if k < 2304 then 2744 + (k - 2048) else
  if k < 2560 then 3000 + (k - 2304) else
  if k < 2584 then 2208 + (k - 2560) else
  if k < 2688 then 3256 else
  if k < 2816 then 1440 + (k - 2688) else
  if k < 2944 then 1568 + (k - 2816) else
  if k < 3072 then 1696 + (k - 2944) else
  if k < 3200 then 1824 + (k - 3072) else
  if k < 3328 then 1952 + (k - 3200) else
  if k < 3456 then 2080 + (k - 3328) else
  3256
/-- The same, piece by piece. -/
theorem source_cases (k : ℕ) : (0 ≤ k ∧ k < 256 ∧ source k = 0 + (k - 0)) ∨
    (256 ≤ k ∧ k < 384 ∧ source k = 256 + (k - 256)) ∨
    (384 ≤ k ∧ k < 416 ∧ source k = 384 + (k - 384)) ∨
    (416 ≤ k ∧ k < 512 ∧ source k = 3256) ∨
    (512 ≤ k ∧ k < 1024 ∧ source k = 928 + (k - 512)) ∨
    (1024 ≤ k ∧ k < 1536 ∧ source k = 416 + (k - 1024)) ∨
    (1536 ≤ k ∧ k < 2048 ∧ source k = 2232 + (k - 1536)) ∨
    (2048 ≤ k ∧ k < 2304 ∧ source k = 2744 + (k - 2048)) ∨
    (2304 ≤ k ∧ k < 2560 ∧ source k = 3000 + (k - 2304)) ∨
    (2560 ≤ k ∧ k < 2584 ∧ source k = 2208 + (k - 2560)) ∨
    (2584 ≤ k ∧ k < 2688 ∧ source k = 3256) ∨
    (2688 ≤ k ∧ k < 2816 ∧ source k = 1440 + (k - 2688)) ∨
    (2816 ≤ k ∧ k < 2944 ∧ source k = 1568 + (k - 2816)) ∨
    (2944 ≤ k ∧ k < 3072 ∧ source k = 1696 + (k - 2944)) ∨
    (3072 ≤ k ∧ k < 3200 ∧ source k = 1824 + (k - 3072)) ∨
    (3200 ≤ k ∧ k < 3328 ∧ source k = 1952 + (k - 3200)) ∨
    (3328 ≤ k ∧ k < 3456 ∧ source k = 2080 + (k - 3328)) ∨
    (3456 ≤ k ∧ source k = 3256) := by
  generalize hv : source k = v
  unfold source at hv
  by_cases h0 : k < 256
  · rw [if_pos h0] at hv
    exact Or.inl ⟨by omega, h0, hv.symm⟩
  rw [if_neg h0] at hv
  refine Or.inr ?_
  by_cases h1 : k < 384
  · rw [if_pos h1] at hv
    exact Or.inl ⟨by omega, h1, hv.symm⟩
  rw [if_neg h1] at hv
  refine Or.inr ?_
  by_cases h2 : k < 416
  · rw [if_pos h2] at hv
    exact Or.inl ⟨by omega, h2, hv.symm⟩
  rw [if_neg h2] at hv
  refine Or.inr ?_
  by_cases h3 : k < 512
  · rw [if_pos h3] at hv
    exact Or.inl ⟨by omega, h3, hv.symm⟩
  rw [if_neg h3] at hv
  refine Or.inr ?_
  by_cases h4 : k < 1024
  · rw [if_pos h4] at hv
    exact Or.inl ⟨by omega, h4, hv.symm⟩
  rw [if_neg h4] at hv
  refine Or.inr ?_
  by_cases h5 : k < 1536
  · rw [if_pos h5] at hv
    exact Or.inl ⟨by omega, h5, hv.symm⟩
  rw [if_neg h5] at hv
  refine Or.inr ?_
  by_cases h6 : k < 2048
  · rw [if_pos h6] at hv
    exact Or.inl ⟨by omega, h6, hv.symm⟩
  rw [if_neg h6] at hv
  refine Or.inr ?_
  by_cases h7 : k < 2304
  · rw [if_pos h7] at hv
    exact Or.inl ⟨by omega, h7, hv.symm⟩
  rw [if_neg h7] at hv
  refine Or.inr ?_
  by_cases h8 : k < 2560
  · rw [if_pos h8] at hv
    exact Or.inl ⟨by omega, h8, hv.symm⟩
  rw [if_neg h8] at hv
  refine Or.inr ?_
  by_cases h9 : k < 2584
  · rw [if_pos h9] at hv
    exact Or.inl ⟨by omega, h9, hv.symm⟩
  rw [if_neg h9] at hv
  refine Or.inr ?_
  by_cases h10 : k < 2688
  · rw [if_pos h10] at hv
    exact Or.inl ⟨by omega, h10, hv.symm⟩
  rw [if_neg h10] at hv
  refine Or.inr ?_
  by_cases h11 : k < 2816
  · rw [if_pos h11] at hv
    exact Or.inl ⟨by omega, h11, hv.symm⟩
  rw [if_neg h11] at hv
  refine Or.inr ?_
  by_cases h12 : k < 2944
  · rw [if_pos h12] at hv
    exact Or.inl ⟨by omega, h12, hv.symm⟩
  rw [if_neg h12] at hv
  refine Or.inr ?_
  by_cases h13 : k < 3072
  · rw [if_pos h13] at hv
    exact Or.inl ⟨by omega, h13, hv.symm⟩
  rw [if_neg h13] at hv
  refine Or.inr ?_
  by_cases h14 : k < 3200
  · rw [if_pos h14] at hv
    exact Or.inl ⟨by omega, h14, hv.symm⟩
  rw [if_neg h14] at hv
  refine Or.inr ?_
  by_cases h15 : k < 3328
  · rw [if_pos h15] at hv
    exact Or.inl ⟨by omega, h15, hv.symm⟩
  rw [if_neg h15] at hv
  refine Or.inr ?_
  by_cases h16 : k < 3456
  · rw [if_pos h16] at hv
    exact Or.inl ⟨by omega, h16, hv.symm⟩
  rw [if_neg h16] at hv
  refine Or.inr ?_
  exact ⟨by omega, hv.symm⟩
/-- A row of the kernel's array, from the row in the weights' order: its columns rearranged, zero in the padding. -/
def arranged (f : Fin 3256 → EReal) (k : Fin 3456) : EReal := if h : source k < 3256 then f ⟨source k, h⟩ else 0
variable (f : Fin 3256 → EReal) (k : Fin 3456)
theorem arranged_of (z : Fin 3256) (h : source k = z) : arranged f k = f z := by
  have h' : source k < 3256 := h ▸ z.isLt
  unfold arranged
  rw [dif_pos h']
  exact congrArg f (Fin.ext h)
theorem arranged_pad (h : 3256 ≤ source k) : arranged f k = 0 := dif_neg (by omega)
/-- Multiplying and adding rows column by column goes through the rearrangement. -/
theorem arranged_sum {n : ℕ} (a : Fin n → EReal) (w : Fin n → Fin 3256 → EReal) :
    ∑ e, a e * arranged (w e) k = arranged (fun z => ∑ e, a e * w e z) k := by
  unfold arranged
  split_ifs
  · rfl
  · simp
end Cert.EvenColumns
-- ==== Proof.InEvenBody.lean ====
module
public import proofs.«01_k».proof.Proof.Gen.InEvenIdeal.Value
public import Idealize.ShloMosaic.Lib.Pipeline.ValueKit
public import Idealize.ShloMosaic.Lib.Pointwise
public import Idealize.ShloMosaic.Lib.WholeRead
/-!
What the in-projection's kernel body stores at one entry of its two blocks: a normalised row times a column of weights.
-/
set_option maxRecDepth 16384
@[expose] public noncomputable section
open Idealize.ShloMosaic Idealize.ShloMosaic.TcCoe Idealize.SL.Sem
namespace Cert.InEvenIdeal.Value
open Cert.InEvenIdeal Cert.InEvenIdeal.Gen
section tiles
variable (h : FVec Ideal S1024x1024 .bf16) (r : Fin 1024)
/-- One tile of the product, of full width. -/
theorem tile_at (w : Vec Ideal S1024x1024 .bf16) (o : Fin 1024) {W : Fin 1024 → EReal} (hw : ∀ e, w (ix2 e o) = W e) :
    k0_pay1 h (k0_pay7 w) (constant S1024x1024 .f32 0x00000000#32) (ix3 0 r o) = ∑ e : Fin 1024, h (ix2 r e) * W e := by
  pointwise [k0_pay1, k0_pay7]
  simp only [hw]
/-- The last tile. -/
theorem last_tile_at (w : Vec Ideal S1024x384 .bf16) (o : Fin 384) {W : Fin 1024 → EReal} (hw : ∀ e, w (ix2 e o) = W e) :
    k0_pay2 h w (ix3 0 r o) = ∑ e : Fin 1024, h (ix2 r e) * W e := by
  pointwise [k0_pay2]
  simp only [hw]
/-- The narrow tile. -/
theorem narrow_tile_at (w : Vec Ideal S1024x128 .bf16) (o : Fin 128) {W : Fin 1024 → EReal} (hw : ∀ e, w (ix2 e o) = W e) :
    k0_pay3 h w (ix3 0 r o) = ∑ e : Fin 1024, h (ix2 r e) * W e := by
  pointwise [k0_pay3]
  simp only [hw]
end tiles
variable (x0 : Vec Ideal S1x1024x1024 .f32) (x1 : Vec Ideal S1x1024 .f32) (x2 : Vec Ideal S1024x3456 .bf16)
theorem pay5_eq (w : Vec Ideal S1024x1024 .bf16) : k0_pay5 x0 x1 w
    = k0_pay1 (k0_pay4 x0 x1) (k0_pay7 w) (constant S1024x1024 .f32 0x00000000#32) := rfl
theorem pay6_eq (w : Vec Ideal S1024x1024 .bf16) : k0_pay6 x0 x1 w
    = k0_pay1 (k0_pay4 x0 x1) (k0_pay7 w) (constant S1024x1024 .f32 0x00000000#32) := rfl
/-- The normalised rows. -/
theorem normed_at (r e : Fin 1024) : k0_pay4 x0 x1 (ix2 r e) = x0 (ix3 0 r e) * Ideal.rsqrt (Ideal.div
    (∑ e, x0 (ix3 0 r e) * x0 (ix3 0 r e)) (Ideal.ofBits FTy.f32 1149239296#32) + Ideal.ofBits FTy.f32 897988541#32)
    * x1 (ix2 0 e) := by
  pointwise [k0_pay4]
/-- The columns of the weights that the tiles meet. -/
theorem cols0 (e o : Fin 1024) : View.ld x2 (Rect.unit ![0, 0] ![1024, 1024] inb_S1024x3456_S1024x1024_0_0) (ix2 e o) = x2 (ix2 e ⟨o, by omega⟩) := by
  refine congrArg x2 (funext fun a => Fin.ext ?_)
  fin_cases a
  · show 0 + 1 * e.val = e.val; omega
  · show 0 + 1 * o.val = _; dsimp only [ix2]; simp
theorem cols1 (e o : Fin 1024) : View.ld x2 (Rect.unit ![0, 1024] ![1024, 1024] inb_S1024x3456_S1024x1024_0_1024) (ix2 e o) = x2 (ix2 e ⟨1024 + o, by omega⟩) := by
  refine congrArg x2 (funext fun a => Fin.ext ?_)
  fin_cases a
  · show 0 + 1 * e.val = e.val; omega
  · show 1024 + 1 * o.val = _; dsimp only [ix2]; simp
theorem cols2 (e o : Fin 1024) : View.ld x2 (Rect.unit ![0, 2048] ![1024, 1024] inb_S1024x3456_S1024x1024_0_2048) (ix2 e o) = x2 (ix2 e ⟨2048 + o, by omega⟩) := by
  refine congrArg x2 (funext fun a => Fin.ext ?_)
  fin_cases a
  · show 0 + 1 * e.val = e.val; omega
  · show 2048 + 1 * o.val = _; dsimp only [ix2]; simp
theorem cols3 (e : Fin 1024) (o : Fin 384) : View.ld x2 (Rect.unit ![0, 3072] ![1024, 384] inb_S1024x3456_S1024x384_0_3072) (ix2 e o) = x2 (ix2 e ⟨3072 + o, by omega⟩) := by
  refine congrArg x2 (funext fun a => Fin.ext ?_)
  fin_cases a
  · show 0 + 1 * e.val = e.val; omega
  · show 3072 + 1 * o.val = _; dsimp only [ix2]; simp
theorem colsN (e : Fin 1024) (o : Fin 128) : View.ld x2 (Rect.unit ![0, 2560] ![1024, 128] inb_S1024x3456_S1024x128_0_2560) (ix2 e o) = x2 (ix2 e ⟨2560 + o, by omega⟩) := by
  refine congrArg x2 (funext fun a => Fin.ext ?_)
  fin_cases a
  · show 0 + 1 * e.val = e.val; omega
  · show 2560 + 1 * o.val = _; dsimp only [ix2]; simp
/-- An index of a tile from its coordinates. -/
theorem index {z : S1x1024x1024.Idx} {r k : Fin 1024} (h1 : r.val = (z 1).val) (h2 : k.val = (z 2).val) : z = ix3 0 r k := by
  refine funext fun a => Fin.ext ?_
  fin_cases a
  · have : (z 0).val < 1 := (z 0).isLt
    show (z 0).val = 0
    omega
  · exact h1.symm
  · exact h2.symm
theorem index_last {z : S1x1024x384.Idx} {r : Fin 1024} {k : Fin 384} (h1 : r.val = (z 1).val) (h2 : k.val = (z 2).val) : z = ix3 0 r k := by
  refine funext fun a => Fin.ext ?_
  fin_cases a
  · have : (z 0).val < 1 := (z 0).isLt
    show (z 0).val = 0
    omega
  · exact h1.symm
  · exact h2.symm
theorem same (h : FVec Ideal S1024x1024 .bf16) (r : Fin 1024) {o o' : Fin 3456} (ho : o = o') :
    ∑ e : Fin 1024, h (ix2 r e) * x2 (ix2 e o) = ∑ e : Fin 1024, h (ix2 r e) * x2 (ix2 e o') := by rw [ho]
variable (c : Dev nD) (i : grid0.Coords)
  (arg2 : Memref sig .tc .vmem S1x1024x1024 .f32) (harg2 : arg2.IsWhole)
  (arg3 : Memref sig .tc .vmem S1x1024 .f32) (harg3 : arg3.IsWhole)
  (arg4 : Memref sig .tc .vmem S1024x3456 .bf16) (harg4 : arg4.IsWhole)
  (arg5 : Memref sig .tc .vmem S1x1024x3456 .bf16) (harg5 : arg5.IsWhole)
  (arg6 : Memref sig .tc .vmem S1x1024x128 .f32) (harg6 : arg6.IsWhole)
/-- THE NARROW BLOCK at one entry. -/
theorem narrow_body_at (r : Fin 1024) (o : Fin 128) : out0_A_4 c i arg2 harg2 arg3 harg3 arg4 harg4 arg5 harg5 arg6 harg6 x0 x1 x2 (ix3 0 r o)
    = ∑ e : Fin 1024, k0_pay4 x0 x1 (ix2 r e) * x2 (ix2 e ⟨2560 + o, by omega⟩) := by
  frame_out
  exact narrow_tile_at _ r _ o (fun e => colsN x2 e o)
/-- THE WIDE BLOCK at one entry. -/
theorem body_at (r : Fin 1024) (o : Fin 3456) : out0_A_3 c i arg2 harg2 arg3 harg3 arg4 harg4 arg5 harg5 arg6 harg6 x0 x1 x2 (ix3 0 r o)
    = ∑ e : Fin 1024, k0_pay4 x0 x1 (ix2 r e) * x2 (ix2 e o) := by
  frame_out
  rw [pay5_eq, pay6_eq]
  generalize k0_pay4 x0 x1 = h
  canon_tiles z hz using View.cover_of_tiledBy _ ![1, 1024, 128] (by sl_kernel_rfl) _
  · replace hz2 : o.val = 3072 + (z 2).val := hz2.trans (by omega)
    rw [(index_last hz1 (by dsimp only; omega) : z = ix3 0 r ⟨o - 3072, by omega⟩)]
    exact (last_tile_at h r _ _ fun e => cols3 x2 e _).trans (same x2 h r (Fin.ext (by dsimp only; omega)))
  · replace hz2 : o.val = 2048 + (z 2).val := hz2.trans (by omega)
    rw [(index hz1 (by dsimp only; omega) : z = ix3 0 r ⟨o - 2048, by omega⟩)]
    exact (tile_at h r _ _ fun e => cols2 x2 e _).trans (same x2 h r (Fin.ext (by dsimp only; omega)))
  · replace hz2 : o.val = 1024 + (z 2).val := hz2.trans (by omega)
    rw [(index hz1 (by dsimp only; omega) : z = ix3 0 r ⟨o - 1024, by omega⟩)]
    exact (tile_at h r _ _ fun e => cols1 x2 e _).trans (same x2 h r (Fin.ext (by dsimp only; omega)))
  · replace hz2 : o.val = 0 + (z 2).val := hz2.trans (by omega)
    rw [(index hz1 (by dsimp only; omega) : z = ix3 0 r ⟨o - 0, by omega⟩)]
    exact (tile_at h r _ _ fun e => cols0 x2 e _).trans (same x2 h r (Fin.ext (by dsimp only; omega)))
end Cert.InEvenIdeal.Value
-- ==== Proof.InEvenLayout.lean ====
module
public import proofs.«01_k».proof.Proof.EvenColumns
public import proofs.«01_k».proof.Proof.InEvenBody
public import Idealize.ShloMosaic.Lib.StableHlo.RunRead
/-!
The arrays the host code prepares for an even layer's in-projection: the weights with their columns rearranged, and the gains
as a row.
-/
set_option maxRecDepth 16384
@[expose] public noncomputable section
open Idealize.ShloMosaic Idealize.ShloMosaic.TcCoe Idealize.SL.Sem
namespace Cert.InEvenIdeal.Value
open Cert.InEvenIdeal Cert.InEvenIdeal.Gen Cert.EvenColumns

/-- The first eight pieces of the columns, in the order the kernel lays them out. -/
def leftCols (w : FVec Ideal S1024x3256 .f32) : FVec Ideal S1024x2304 .bf16 :=
  concatenate S1024x2304 1 [
    ⟨S1024x256, truncf .bf16 (extractStridedSlice S1024x256 ![0, 0] w slices_S1024x3256_S1024x256_0_0) bitsLt_bf16_f32⟩,
    ⟨S1024x128, truncf .bf16 (extractStridedSlice S1024x128 ![0, 256] w slices_S1024x3256_S1024x128_0_256) bitsLt_bf16_f32⟩,
    ⟨S1024x32, truncf .bf16 (extractStridedSlice S1024x32 ![0, 384] w slices_S1024x3256_S1024x32_0_384) bitsLt_bf16_f32⟩,
    ⟨S1024x96, broadcastInDim S1024x96 ![] bcast_S_S1024x96 (constant S_ .bf16 0x0000#16 : FVec Ideal S_ .bf16)⟩,
    ⟨S1024x512, truncf .bf16 (extractStridedSlice S1024x512 ![0, 928] w slices_S1024x3256_S1024x512_0_928) bitsLt_bf16_f32⟩,
    ⟨S1024x512, truncf .bf16 (extractStridedSlice S1024x512 ![0, 416] w slices_S1024x3256_S1024x512_0_416) bitsLt_bf16_f32⟩,
    ⟨S1024x512, truncf .bf16 (extractStridedSlice S1024x512 ![0, 2232] w slices_S1024x3256_S1024x512_0_2232) bitsLt_bf16_f32⟩,
    ⟨S1024x256, truncf .bf16 (extractStridedSlice S1024x256 ![0, 2744] w slices_S1024x3256_S1024x256_0_2744) bitsLt_bf16_f32⟩]
    concatenates_S1024x256_S1024x128_S1024x32_S1024x96_S1024x512_S1024x512_S1024x512_S1024x256_S1024x2304_d1
/-- The remaining pieces. -/
def rightCols (w : FVec Ideal S1024x3256 .f32) : FVec Ideal S1024x1152 .bf16 :=
  concatenate S1024x1152 1 [
    ⟨S1024x256, truncf .bf16 (extractStridedSlice S1024x256 ![0, 3000] w slices_S1024x3256_S1024x256_0_3000) bitsLt_bf16_f32⟩,
    ⟨S1024x24, truncf .bf16 (extractStridedSlice S1024x24 ![0, 2208] w slices_S1024x3256_S1024x24_0_2208) bitsLt_bf16_f32⟩,
    ⟨S1024x104, broadcastInDim S1024x104 ![] bcast_S_S1024x104 (constant S_ .bf16 0x0000#16 : FVec Ideal S_ .bf16)⟩,
    ⟨S1024x128, truncf .bf16 (extractStridedSlice S1024x128 ![0, 1440] w slices_S1024x3256_S1024x128_0_1440) bitsLt_bf16_f32⟩,
    ⟨S1024x128, truncf .bf16 (extractStridedSlice S1024x128 ![0, 1568] w slices_S1024x3256_S1024x128_0_1568) bitsLt_bf16_f32⟩,
    ⟨S1024x128, truncf .bf16 (extractStridedSlice S1024x128 ![0, 1696] w slices_S1024x3256_S1024x128_0_1696) bitsLt_bf16_f32⟩,
    ⟨S1024x128, truncf .bf16 (extractStridedSlice S1024x128 ![0, 1824] w slices_S1024x3256_S1024x128_0_1824) bitsLt_bf16_f32⟩,
    ⟨S1024x128, truncf .bf16 (extractStridedSlice S1024x128 ![0, 1952] w slices_S1024x3256_S1024x128_0_1952) bitsLt_bf16_f32⟩,
    ⟨S1024x128, truncf .bf16 (extractStridedSlice S1024x128 ![0, 2080] w slices_S1024x3256_S1024x128_0_2080) bitsLt_bf16_f32⟩]
    concatenates_S1024x256_S1024x24_S1024x104_S1024x128_S1024x128_S1024x128_S1024x128_S1024x128_S1024x128_S1024x1152_d1
/-- All columns: the two halves side by side. -/
def cols (w : FVec Ideal S1024x3256 .f32) : FVec Ideal S1024x3456 .bf16 :=
  concatenate S1024x3456 1 [⟨S1024x2304, leftCols w⟩, ⟨S1024x1152, rightCols w⟩]
    concatenates_S1024x2304_S1024x1152_S1024x3456_d1
section read
variable (w : FVec Ideal S1024x3256 .f32) (e : Fin 1024)
theorem leftCols_at (o : Fin 2304) : leftCols w (ix2 e o) = arranged (fun z => w (ix2 e z)) ⟨o, by omega⟩ := by
  have hs := source_cases o
  pointwise [leftCols]
  split_ifs
  all_goals first
    | exact Eq.symm (arranged_of (fun z => w (ix2 e z)) _ _ (by dsimp only; omega))
    | exact Eq.symm (arranged_pad _ _ (by dsimp only; omega))
theorem rightCols_at (o : Fin 1152) : rightCols w (ix2 e o) = arranged (fun z => w (ix2 e z)) ⟨2304 + o, by omega⟩ := by
  have hs := source_cases (2304 + o)
  pointwise [rightCols]
  split_ifs
  all_goals first
    | exact Eq.symm (arranged_of (fun z => w (ix2 e z)) _ _ (by dsimp only; omega))
    | exact Eq.symm (arranged_pad _ _ (by dsimp only; omega))
theorem cols_at (o : Fin 3456) : cols w (ix2 e o) = arranged (fun z => w (ix2 e z)) o := by
  have hl := leftCols_at w e
  have hr := rightCols_at w e
  unfold cols
  generalize leftCols w = l at hl
  generalize rightCols w = r at hr
  pointwise
  split_ifs
  · exact hl _
  all_goals exact (hr _).trans (congrArg (arranged _) (Fin.ext (by dsimp only; omega)))
end read
variable (m : (ℓ : Loc nD τ sig) → Buf (Elt Ideal) ℓ) (c : Dev nD)
theorem weights : V m c main_v35 = cols (m ((c.tc : Thread nD τ).loc main_arg2)) := by
  after_reads_simp
  rfl
theorem gains : V m c main_v0 = (shapeCast S1x1024 (m ((c.tc : Thread nD τ).loc main_arg1) : FVec Ideal S1024 .f32)
    shapeCasts_S1024_S1x1024 : FVec Ideal S1x1024 .f32) := by
  after_reads_simp
  rfl
end Cert.InEvenIdeal.Value
-- ==== Proof.InEvenRef.lean ====
module
public import proofs.«01_k».proof.Proof.EvenColumns
public import proofs.«01_k».proof.Proof.Gen.InEvenRefIdeal.Run
public import Idealize.ShloMosaic.Lib.Pointwise
/-!
The in-projection's reference at one entry: normalised rows times weights, the columns in the kernel's order.
-/
set_option maxRecDepth 16384
@[expose] public noncomputable section
open Idealize.ShloMosaic Idealize.ShloMosaic.TcCoe Idealize.SL.Sem
namespace Cert.InEvenRefIdeal.Value
open Cert.InEvenRefIdeal Cert.InEvenRefIdeal.Gen
/-- The rows divided by their root mean square and scaled by the gains. -/
def normed (x : FVec Ideal S8x4096x1024 .f32) (g : FVec Ideal S1024 .f32) : FVec Ideal S8x4096x1024 .f32 :=
  mulf (mulf x (broadcastInDim S8x4096x1024 ![0, 1, 2] bcast_S8x4096x1_S8x4096x1024_0_1_2 (Host.rsqrt (addf (Host.divf
    (broadcastInDim S8x4096x1 ![0, 1] bcast_S8x4096_S8x4096x1_0_1 (Host.reduceAdd (mulf x x) (constant S_ .f32 0x00000000#32)
      reducesTo_S8x4096x1024_S8x4096_d2 h_S_))
    (broadcastInDim S8x4096x1 ![] bcast_S_S8x4096x1 (constant S_ .f32 0x44800000#32)))
    (broadcastInDim S8x4096x1 ![] bcast_S_S8x4096x1 (constant S_ .f32 0x358637BD#32))))))
    (broadcastInDim S8x4096x1024 ![0, 1, 2] bcast_S1x1x1024_S8x4096x1024_0_1_2 (broadcastInDim S1x1x1024 ![2] bcast_S1024_S1x1x1024_2 g))
/-- The projection, in the weights' order. -/
def projected (x : FVec Ideal S8x4096x1024 .f32) (g : FVec Ideal S1024 .f32) (w : FVec Ideal S1024x3256 .f32) :
    FVec Ideal S8x4096x3256 .f32 :=
  Host.dotGeneral dot_S8x4096x1024_S1024x3256_S8x4096x3256_2_0_01_1_n_n none (normed x g) w
variable (p : FVec Ideal S8x4096x3256 .f32)
/-- The narrow columns, padded to 128. -/
def narrow : FVec Ideal S8x4096x128 .f32 :=
  concatenate S8x4096x128 2 [
    ⟨S8x4096x24, extractStridedSlice S8x4096x24 ![0, 0, 2208] p slices_S8x4096x3256_S8x4096x24_0_0_2208⟩,
    ⟨S8x4096x104, broadcastInDim S8x4096x104 ![] bcast_S_S8x4096x104 (constant S_ .f32 0x00000000#32 : FVec Ideal S_ .f32)⟩]
    concatenates_S8x4096x24_S8x4096x104_S8x4096x128_d2
/-- The wide columns. -/
def wide : FVec Ideal S8x4096x2048 .f32 :=
  concatenate S8x4096x2048 2 [
    ⟨S8x4096x256, extractStridedSlice S8x4096x256 ![0, 0, 0] p slices_S8x4096x3256_S8x4096x256_0_0_0⟩,
    ⟨S8x4096x128, extractStridedSlice S8x4096x128 ![0, 0, 256] p slices_S8x4096x3256_S8x4096x128_0_0_256⟩,
    ⟨S8x4096x32, extractStridedSlice S8x4096x32 ![0, 0, 384] p slices_S8x4096x3256_S8x4096x32_0_0_384⟩,
    ⟨S8x4096x96, broadcastInDim S8x4096x96 ![] bcast_S_S8x4096x96 (constant S_ .f32 0x00000000#32 : FVec Ideal S_ .f32)⟩,
    ⟨S8x4096x512, extractStridedSlice S8x4096x512 ![0, 0, 928] p slices_S8x4096x3256_S8x4096x512_0_0_928⟩,
    ⟨S8x4096x512, extractStridedSlice S8x4096x512 ![0, 0, 416] p slices_S8x4096x3256_S8x4096x512_0_0_416⟩,
    ⟨S8x4096x512, extractStridedSlice S8x4096x512 ![0, 0, 2232] p slices_S8x4096x3256_S8x4096x512_0_0_2232⟩]
    concatenates_S8x4096x256_S8x4096x128_S8x4096x32_S8x4096x96_S8x4096x512_S8x4096x512_S8x4096x512_S8x4096x2048_d2
/-- The columns after them, the narrow ones among them. -/
def rest : FVec Ideal S8x4096x1408 .f32 :=
  concatenate S8x4096x1408 2 [
    ⟨S8x4096x256, extractStridedSlice S8x4096x256 ![0, 0, 2744] p slices_S8x4096x3256_S8x4096x256_0_0_2744⟩,
    ⟨S8x4096x256, extractStridedSlice S8x4096x256 ![0, 0, 3000] p slices_S8x4096x3256_S8x4096x256_0_0_3000⟩,
    ⟨S8x4096x128, narrow p⟩,
    ⟨S8x4096x128, extractStridedSlice S8x4096x128 ![0, 0, 1440] p slices_S8x4096x3256_S8x4096x128_0_0_1440⟩,
    ⟨S8x4096x128, extractStridedSlice S8x4096x128 ![0, 0, 1568] p slices_S8x4096x3256_S8x4096x128_0_0_1568⟩,
    ⟨S8x4096x128, extractStridedSlice S8x4096x128 ![0, 0, 1696] p slices_S8x4096x3256_S8x4096x128_0_0_1696⟩,
    ⟨S8x4096x128, extractStridedSlice S8x4096x128 ![0, 0, 1824] p slices_S8x4096x3256_S8x4096x128_0_0_1824⟩,
    ⟨S8x4096x128, extractStridedSlice S8x4096x128 ![0, 0, 1952] p slices_S8x4096x3256_S8x4096x128_0_0_1952⟩,
    ⟨S8x4096x128, extractStridedSlice S8x4096x128 ![0, 0, 2080] p slices_S8x4096x3256_S8x4096x128_0_0_2080⟩]
    concatenates_S8x4096x256_S8x4096x256_S8x4096x128_S8x4096x128_S8x4096x128_S8x4096x128_S8x4096x128_S8x4096x128_S8x4096x128_S8x4096x1408_d2
/-- All columns. -/
def whole : FVec Ideal S8x4096x3456 .bf16 :=
  truncf .bf16 (concatenate S8x4096x3456 2 [⟨S8x4096x2048, wide p⟩, ⟨S8x4096x1408, rest p⟩]
    concatenates_S8x4096x2048_S8x4096x1408_S8x4096x3456_d2 : FVec Ideal S8x4096x3456 .f32) bitsLt_bf16_f32
variable (m : (ℓ : Loc nD τ sig) → Buf (Elt Ideal) ℓ) (c : Dev nD)
theorem res0 : res_out0 m c = whole (projected (m ((c.tc : Thread nD τ).loc main_arg0)) (m ((c.tc : Thread nD τ).loc main_arg1))
    (m ((c.tc : Thread nD τ).loc main_arg2))) := rfl
end Cert.InEvenRefIdeal.Value
-- ==== Proof.InEvenRefAt.lean ====
module
public import proofs.«01_k».proof.Proof.InEvenRef
/-!
The in-projection's reference, entry by entry.
-/
set_option maxRecDepth 16384
@[expose] public noncomputable section
open Idealize.ShloMosaic Idealize.ShloMosaic.TcCoe Idealize.SL.Sem
namespace Cert.InEvenRefIdeal.Value
open Cert.InEvenRefIdeal Cert.InEvenRefIdeal.Gen Cert.EvenColumns
variable (p : FVec Ideal S8x4096x3256 .f32) (b : Fin 8) (s : Fin 4096)
theorem narrow_at (o : Fin 128) : narrow p (ix3 b s o) = arranged (fun z => p (ix3 b s z)) ⟨2560 + o, by omega⟩ := by
  have hs := source_cases (2560 + o)
  pointwise [narrow]
  split_ifs
  all_goals first
    | exact Eq.symm (arranged_of (fun z => p (ix3 b s z)) _ _ (by dsimp only; omega))
    | exact Eq.symm (arranged_pad _ _ (by dsimp only; omega))
theorem wide_at (o : Fin 2048) : wide p (ix3 b s o) = arranged (fun z => p (ix3 b s z)) ⟨o, by omega⟩ := by
  have hs := source_cases o
  pointwise [wide]
  split_ifs
  all_goals first
    | exact Eq.symm (arranged_of (fun z => p (ix3 b s z)) _ _ (by dsimp only; omega))
    | exact Eq.symm (arranged_pad _ _ (by dsimp only; omega))
theorem rest_at (o : Fin 1408) : rest p (ix3 b s o) = arranged (fun z => p (ix3 b s z)) ⟨2048 + o, by omega⟩ := by
  have hs := source_cases (2048 + o)
  have hn := narrow_at p b s
  unfold rest
  generalize narrow p = n at hn
  pointwise
  split_ifs
  all_goals first
    | exact Eq.symm (arranged_of (fun z => p (ix3 b s z)) _ _ (by dsimp only; omega))
    | exact (hn _).trans (congrArg (arranged _) (Fin.ext (by dsimp only; omega)))
theorem whole_at (o : Fin 3456) : whole p (ix3 b s o) = arranged (fun z => p (ix3 b s z)) o := by
  have hw := wide_at p b s
  have hr := rest_at p b s
  unfold whole
  generalize wide p = w at hw
  generalize rest p = r at hr
  pointwise
  split_ifs
  · exact hw _
  all_goals exact (hr _).trans (congrArg (arranged _) (Fin.ext (by dsimp only; omega)))
theorem projected_at (x : FVec Ideal S8x4096x1024 .f32) (g : FVec Ideal S1024 .f32) (w : FVec Ideal S1024x3256 .f32) (o : Fin 3256) :
    projected x g w (ix3 b s o) = ∑ e : Fin 1024, normed x g (ix3 b s e) * w (ix2 e o) := by
  unfold projected
  generalize normed x g = n
  pointwise
theorem normed_at (x : FVec Ideal S8x4096x1024 .f32) (g : FVec Ideal S1024 .f32) (e : Fin 1024) :
    normed x g (ix3 b s e) = x (ix3 b s e) * Ideal.rsqrt (Ideal.div
    (∑ e, x (ix3 b s e) * x (ix3 b s e)) (Ideal.ofBits FTy.f32 1149239296#32) + Ideal.ofBits FTy.f32 897988541#32)
    * g (ix1 e) := by
  pointwise [normed]
end Cert.InEvenRefIdeal.Value
-- ==== Proof.InEvenFinal.lean ====
module
public import proofs.«01_k».proof.Proof.InEvenLayout
public import proofs.«01_k».proof.Proof.InEvenRefAt
public import proofs.«01_k».proof.Proof.Sums
/-!
The even layers' in-projection ends with what its reference computes: point by point, block by block, in both its results.
-/
set_option maxRecDepth 16384
@[expose] public noncomputable section
open Idealize.ShloMosaic Idealize.ShloMosaic.TcCoe Idealize.SL.Sem
namespace Cert.InEvenIdeal.Value
open Cert.InEvenIdeal Cert.InEvenIdeal.Gen Cert.EvenColumns
open Cert.Sums (sums)
open Cert.InEvenRefIdeal.Value (projected normed narrow whole)
variable (m : (ℓ : Loc nD τ sig) → Buf (Elt Ideal) ℓ) (c : Dev nD)
/-- The block indices of every window, as functions of the grid's coordinates. -/
theorem idx : ∀ t : Fin cfg0.N,
    win0_0.index t = ![(grid0.coords t 0).val, (grid0.coords t 1).val, 0]
    ∧ win0_1.index t = ![0, 0]
    ∧ win0_2.index t = ![0, 0]
    ∧ win0_3.index t = ![(grid0.coords t 0).val, (grid0.coords t 1).val, 0]
    ∧ win0_4.index t = ![(grid0.coords t 0).val, (grid0.coords t 1).val, 0] :=
  (by decide +kernel : ∀ t : Fin grid0.N, _)
variable (t : Fin cfg0.N)
theorem i1 : (grid0.coords t 1).val < 4 := (grid0.coords t 1).isLt
/-- The batch entry and the rows of a grid point. -/
def batch : Fin 8 := ⟨(grid0.coords t 0).val, (grid0.coords t 0).isLt⟩
def row (r : Fin 1024) : Fin 4096 := ⟨1024 * (grid0.coords t 1).val + r, by have := i1 t; omega⟩
variable (r : Fin 1024)
theorem block_x (o : Fin 1024) : iblk m c 0 t (ix3 0 r o) = m ((c.tc : Thread nD τ).loc main_arg0) (ix3 (batch t) (row t r) o) := by
  rw [← V_main_arg0 m c]
  blk_ext [iblk, idx t, batch, row]
/-- Blocks read off any contents of the arrays. -/
theorem read_g (X : (b : Ref sig .tc) → Buf (Elt Ideal) ((c.tc : Thread nD τ).loc b)) (y : S1x1024.Idx) :
    ((cfg0.win 1).blk t).view.read (Elt Ideal) (X (Pipeline.arrRef spec0 1)) y = X main_v0 ((win0_1.blk t).view.emb y) := rfl
theorem read_w (X : (b : Ref sig .tc) → Buf (Elt Ideal) ((c.tc : Thread nD τ).loc b)) (y : S1024x3456.Idx) :
    ((cfg0.win 2).blk t).view.read (Elt Ideal) (X (Pipeline.arrRef spec0 2)) y = X main_v35 ((win0_2.blk t).view.emb y) := rfl
theorem place_g (o : Fin 1024) : (win0_1.blk t).view.emb (ix2 0 o) = ix2 0 o := by
  blk_ext [idx t]
theorem place_w (e : Fin 1024) (o : Fin 3456) : (win0_2.blk t).view.emb (ix2 e o) = ix2 e o := by
  blk_ext [idx t]
theorem gains_at (g : FVec Ideal S1024 .f32) (e : Fin 1024) :
    (shapeCast S1x1024 g shapeCasts_S1024_S1x1024 : FVec Ideal S1x1024 .f32) (ix2 0 e) = g (ix1 e) := by
  pointwise
theorem block_g (e : Fin 1024) : iblk m c 1 t (ix2 0 e) = m ((c.tc : Thread nD τ).loc main_arg1) (ix1 e) := by
  unfold iblk
  exact (read_g c t (V m c) _).trans ((congrArg (V m c main_v0) (place_g t e)).trans
    ((congrFun (gains m c) _).trans (gains_at _ e)))
theorem block_w (e : Fin 1024) (o : Fin 3456) : iblk m c 2 t (ix2 e o)
    = arranged (fun z => m ((c.tc : Thread nD τ).loc main_arg2) (ix2 e z)) o := by
  unfold iblk
  exact (read_w c t (V m c) _).trans ((congrArg (V m c main_v35) (place_w t e o)).trans
    ((congrFun (weights m c) _).trans (cols_at _ e o)))
/-- The projection of the arguments held in the kernel's memory, in the weights' order. -/
def product : FVec Ideal Cert.InEvenRefIdeal.S8x4096x3256 .f32 :=
  projected (m ((c.tc : Thread nD τ).loc main_arg0)) (m ((c.tc : Thread nD τ).loc main_arg1)) (m ((c.tc : Thread nD τ).loc main_arg2))
theorem rows (e : Fin 1024) : k0_pay4 (iblk m c 0 t) (iblk m c 1 t) (ix2 r e)
    = normed (m ((c.tc : Thread nD τ).loc main_arg0)) (m ((c.tc : Thread nD τ).loc main_arg1)) (ix3 (batch t) (row t r) e) := by
  rw [normed_at, InEvenRefIdeal.Value.normed_at, block_x, block_g]
  exact congrArg (fun q => _ * Ideal.rsqrt (Ideal.div q _ + _) * _) (sums (fun z => block_x m c t r z) (fun z => block_x m c t r z))
/-- A column of a point's product. -/
theorem column (o : Fin 3456) : ∑ e : Fin 1024, k0_pay4 (iblk m c 0 t) (iblk m c 1 t) (ix2 r e) * iblk m c 2 t (ix2 e o)
    = arranged (fun z => product m c (ix3 (batch t) (row t r) z)) o := by
  refine (sums (fun e => rows m c t r e) (fun e => block_w m c t e o)).trans ((arranged_sum o _ _).trans ?_)
  exact congrArg (fun f => arranged f o) (funext fun z => (InEvenRefIdeal.Value.projected_at _ _ _ _ _ _).symm)
theorem point (o : Fin 3456) : out0_A_3 c (grid0.coords t) (ms0_0 t) (hs0_0 t) (ms0_1 t) (hs0_1 t) (ms0_2 t) (hs0_2 t) (ms0_3 t) (hs0_3 t) (ms0_4 t) (hs0_4 t)
    (iblk m c 0 t) (iblk m c 1 t) (iblk m c 2 t) (ix3 0 r o)
    = whole (product m c) (ix3 (batch t) (row t r) o) :=
  (body_at _ _ _ c _ _ _ _ _ _ _ _ _ _ _ r o).trans ((column m c t r o).trans (InEvenRefIdeal.Value.whole_at _ _ _ o).symm)
theorem point_narrow (o : Fin 128) : out0_A_4 c (grid0.coords t) (ms0_0 t) (hs0_0 t) (ms0_1 t) (hs0_1 t) (ms0_2 t) (hs0_2 t) (ms0_3 t) (hs0_3 t) (ms0_4 t) (hs0_4 t)
    (iblk m c 0 t) (iblk m c 1 t) (iblk m c 2 t) (ix3 0 r o)
    = narrow (product m c) (ix3 (batch t) (row t r) o) :=
  (narrow_body_at _ _ _ c _ _ _ _ _ _ _ _ _ _ _ r o).trans ((column m c t r _).trans (InEvenRefIdeal.Value.narrow_at _ _ _ o).symm)
theorem emb_out (o : Fin 3456) : (win0_3.blk t).view.emb (ix3 0 r o) = ix3 (batch t) (row t r) o := by
  blk_ext [idx t, batch, row]
theorem emb_narrow (o : Fin 128) : (win0_4.blk t).view.emb (ix3 0 r o) = ix3 (batch t) (row t r) o := by
  blk_ext [idx t, batch, row]
theorem final : (dats m 0 c).arrAt 3 cfg0.N = whole (product m c) := by
  refine (dats m 0 c).arrAt_eq_of_covers 3 (whole (product m c)) (by decide +kernel) fun t _ y => ?_
  blk_simp
  rw [after0_3, outsAt0]
  idx_vars y
  obtain rfl : y0 = 0 := Subsingleton.elim _ _
  exact (point m c t y1 y2).trans (congrArg (whole (product m c)) (emb_out t y1 y2)).symm
theorem final_narrow : (dats m 0 c).arrAt 4 cfg0.N = narrow (product m c) := by
  refine (dats m 0 c).arrAt_eq_of_covers 4 (narrow (product m c)) (by decide +kernel) fun t _ y => ?_
  blk_simp
  rw [after0_4, outsAt0]
  idx_vars y
  obtain rfl : y0 = 0 := Subsingleton.elim _ _
  exact (point_narrow m c t y1 y2).trans (congrArg (narrow (product m c)) (emb_narrow t y1 y2)).symm
end Cert.InEvenIdeal.Value
-- ==== Proof.OutEvenRef.lean ====
module
public import proofs.«01_k».proof.Proof.Sums
public import proofs.«01_k».proof.Proof.Gen.OutEvenRefIdeal.Run
public import Idealize.ShloMosaic.Lib.Pipeline.ValueKit
public import Idealize.ShloMosaic.Lib.Pointwise
/-!
The out-projection's reference at one entry: the residual plus, mixer by mixer, gated outputs times weights.
-/
set_option maxRecDepth 16384
@[expose] public noncomputable section
open Idealize.ShloMosaic Idealize.ShloMosaic.TcCoe Idealize.SL.Sem
namespace Cert.OutEvenRefIdeal.Value
open Cert.OutEvenRefIdeal Cert.OutEvenRefIdeal.Gen Cert.Sums

/-- A mixer's output times the silu of its gate, for the two wide mixers. -/
def gated (y g : FVec Ideal S8x4096x512 .f32) : FVec Ideal S8x4096x512 .f32 :=
  mulf y (mulf g (Host.divf (broadcastInDim S8x4096x512 ![] bcast_S_S8x4096x512 (constant S_ .f32 0x3F800000#32))
    (addf (broadcastInDim S8x4096x512 ![] bcast_S_S8x4096x512 (constant S_ .f32 0x3F800000#32)) (Host.exp (Host.negf g)))))
/-- The same for the narrow one. -/
def gatedM (y g : FVec Ideal S8x4096x256 .f32) : FVec Ideal S8x4096x256 .f32 :=
  mulf y (mulf g (Host.divf (broadcastInDim S8x4096x256 ![] bcast_S_S8x4096x256 (constant S_ .f32 0x3F800000#32))
    (addf (broadcastInDim S8x4096x256 ![] bcast_S_S8x4096x256 (constant S_ .f32 0x3F800000#32)) (Host.exp (Host.negf g)))))
/-- The three mixers' gated outputs side by side. -/
def beside (y1 y2 : FVec Ideal S8x4096x512 .f32) (ym : FVec Ideal S8x4096x256 .f32) : FVec Ideal S8x4096x1280 .f32 :=
  concatenate S8x4096x1280 2 [⟨S8x4096x512, y1⟩, ⟨S8x4096x512, y2⟩, ⟨S8x4096x256, ym⟩]
    concatenates_S8x4096x512_S8x4096x512_S8x4096x256_S8x4096x1280_d2
/-- An array through the output weights, added to the residual. -/
def project (x : FVec Ideal S8x4096x1024 .f32) (y : FVec Ideal S8x4096x1280 .f32) (w : FVec Ideal S1280x1024 .f32) :
    FVec Ideal S8x4096x1024 .f32 :=
  addf x (Host.dotGeneral dot_S8x4096x1280_S1280x1024_S8x4096x1024_2_0_01_1_n_n none y w)

variable (b : Fin 8) (s : Fin 4096) (o : Fin 1024)
theorem gated_at (y g : FVec Ideal S8x4096x512 .f32) (z : Fin 512) :
    gated y g (ix3 b s z) = y (ix3 b s z) * silu (g (ix3 b s z)) := by
  pointwise [gated, silu]
theorem gatedM_at (y g : FVec Ideal S8x4096x256 .f32) (z : Fin 256) :
    gatedM y g (ix3 b s z) = y (ix3 b s z) * silu (g (ix3 b s z)) := by
  pointwise [gatedM, silu]
theorem project_at (x : FVec Ideal S8x4096x1024 .f32) (y : FVec Ideal S8x4096x1280 .f32) (w : FVec Ideal S1280x1024 .f32) :
    project x y w (ix3 b s o) = x (ix3 b s o) + ∑ z : Fin 1280, y (ix3 b s z) * w (ix2 z o) := by
  pointwise [project]
theorem beside_at (y1 y2 : FVec Ideal S8x4096x512 .f32) (ym : FVec Ideal S8x4096x256 .f32) :
    (∀ z : Fin 512, beside y1 y2 ym (ix3 b s ⟨z, by omega⟩) = y1 (ix3 b s z))
    ∧ (∀ z : Fin 512, beside y1 y2 ym (ix3 b s ⟨512 + z, by omega⟩) = y2 (ix3 b s z))
    ∧ (∀ z : Fin 256, beside y1 y2 ym (ix3 b s ⟨1024 + z, by omega⟩) = ym (ix3 b s z)) := by
  refine ⟨fun z => ?_, fun z => ?_, fun z => ?_⟩
  · pointwise [beside]
  · pointwise [beside]
  · pointwise [beside]
    rw [dif_neg (by omega), dif_neg (by omega)]
    exact congrArg (fun z => ym (ix3 b s z)) (Fin.ext (by dsimp only; omega))

/-- The reference as a function of the residual, the mixers' outputs, their gates and the weights. -/
def out (x : FVec Ideal S8x4096x1024 .f32) (y1 g1 y2 g2 : FVec Ideal S8x4096x512 .f32) (ym gm : FVec Ideal S8x4096x256 .f32)
    (w : FVec Ideal S1280x1024 .f32) : FVec Ideal S8x4096x1024 .f32 :=
  project x (beside (gated y1 g1) (gated y2 g2) (gatedM ym gm)) w
/-- One entry of it: the residual and the three mixers' shares. -/
theorem out_at (x : FVec Ideal S8x4096x1024 .f32) (y1 g1 y2 g2 : FVec Ideal S8x4096x512 .f32) (ym gm : FVec Ideal S8x4096x256 .f32)
    (w : FVec Ideal S1280x1024 .f32) : out x y1 g1 y2 g2 ym gm w (ix3 b s o)
      = x (ix3 b s o) + (∑ z : Fin 512, y1 (ix3 b s z) * silu (g1 (ix3 b s z)) * w (ix2 ⟨z, by omega⟩ o)
        + ∑ z : Fin 512, y2 (ix3 b s z) * silu (g2 (ix3 b s z)) * w (ix2 ⟨512 + z, by omega⟩ o)
        + ∑ z : Fin 256, ym (ix3 b s z) * silu (gm (ix3 b s z)) * w (ix2 ⟨1024 + z, by omega⟩ o)) := by
  obtain ⟨h1, h2, h3⟩ := beside_at b s (gated y1 g1) (gated y2 g2) (gatedM ym gm)
  rw [out, project_at, sum_parts]
  simp only [h1, h2, h3, gated_at, gatedM_at]
/-- The columns of the gates in the array the in-projection gives. -/
def gate1 (u : FVec Ideal S8x4096x3256 .f32) : FVec Ideal S8x4096x512 .f32 :=
  extractStridedSlice S8x4096x512 ![0, 0, 416] u slices_S8x4096x3256_S8x4096x512_0_0_416
def gate2 (u : FVec Ideal S8x4096x3256 .f32) : FVec Ideal S8x4096x512 .f32 :=
  extractStridedSlice S8x4096x512 ![0, 0, 2232] u slices_S8x4096x3256_S8x4096x512_0_0_2232
def gateM (u : FVec Ideal S8x4096x3256 .f32) : FVec Ideal S8x4096x256 .f32 :=
  extractStridedSlice S8x4096x256 ![0, 0, 3000] u slices_S8x4096x3256_S8x4096x256_0_0_3000
theorem gate1_at (u : FVec Ideal S8x4096x3256 .f32) (z : Fin 512) : gate1 u (ix3 b s z) = u (ix3 b s ⟨416 + z, by omega⟩) := by
  pointwise [gate1]
theorem gate2_at (u : FVec Ideal S8x4096x3256 .f32) (z : Fin 512) : gate2 u (ix3 b s z) = u (ix3 b s ⟨2232 + z, by omega⟩) := by
  pointwise [gate2]
theorem gateM_at (u : FVec Ideal S8x4096x3256 .f32) (z : Fin 256) : gateM u (ix3 b s z) = u (ix3 b s ⟨3000 + z, by omega⟩) := by
  pointwise [gateM]
end Cert.OutEvenRefIdeal.Value
-- ==== Proof.OutEvenBody.lean ====
module
public import proofs.«01_k».proof.Proof.Gen.OutEvenIdeal.Value
public import proofs.«01_k».proof.Proof.OutEvenRef
public import Idealize.ShloMosaic.Lib.Pipeline.ValueKit
public import Idealize.ShloMosaic.Lib.Pointwise
public import Idealize.ShloMosaic.Lib.WholeRead
/-!
What the out-projection's kernel body stores at one entry of its block.
-/
set_option maxRecDepth 16384
@[expose] public noncomputable section
open Idealize.ShloMosaic Idealize.ShloMosaic.TcCoe Idealize.SL.Sem
namespace Cert.OutEvenIdeal.Value
open Cert.OutEvenIdeal Cert.OutEvenIdeal.Gen
open Cert.Sums (silu)
/-- What the body computes of its loads, at one entry: the residual and, mixer by mixer, gated rows times weights. -/
theorem pay_at (v0 : Vec Ideal S1x512x1024 .f32) (y1 y2 g1 g2 : Vec Ideal S1x512x512 .bf16) (ym gm : Vec Ideal S1x512x256 .bf16)
    (w1 w2 : Vec Ideal S512x1024 .bf16) (wm : Vec Ideal S256x1024 .bf16) (r : Fin 512) (o : Fin 1024)
    {W1 W2 : Fin 512 → EReal} {WM : Fin 256 → EReal} (h1 : ∀ z, w1 (ix2 z o) = W1 z) (h2 : ∀ z, w2 (ix2 z o) = W2 z)
    (hm : ∀ z, wm (ix2 z o) = WM z) :
    k0_pay1 (k0_pay2 v0 g1 y1 w1) (k0_pay3 g2) (k0_pay4 y2) (k0_pay5 g2) (k0_pay6 (F := Ideal)) w2 gm ym wm (ix3 0 r o)
      = v0 (ix3 0 r o) + ∑ z : Fin 512, y1 (ix3 0 r z) * silu (g1 (ix3 0 r z)) * W1 z
        + ∑ z : Fin 512, y2 (ix3 0 r z) * silu (g2 (ix3 0 r z)) * W2 z
        + ∑ z : Fin 256, ym (ix3 0 r z) * silu (gm (ix3 0 r z)) * WM z := by
  pointwise [silu, k0_pay1, k0_pay2, k0_pay3, k0_pay4, k0_pay5, k0_pay6]
  simp only [zero_sub, h1, h2, hm]
variable (x7 : Vec Ideal S1280x1024 .bf16) (o : Fin 1024)
/-- The rows of the weights that the three mixers meet. -/
theorem rows1 (z : Fin 512) : View.ld x7 (Rect.unit ![0, 0] ![512, 1024] inb_S1280x1024_S512x1024_0_0) (ix2 z o) = x7 (ix2 ⟨z, by omega⟩ o) := by
  refine congrArg x7 (funext fun a => Fin.ext ?_)
  fin_cases a
  · show 0 + 1 * z.val = _; dsimp only [ix2]; simp
  · show 0 + 1 * o.val = o.val; omega
theorem rows2 (z : Fin 512) : View.ld x7 (Rect.unit ![512, 0] ![512, 1024] inb_S1280x1024_S512x1024_512_0) (ix2 z o) = x7 (ix2 ⟨512 + z, by omega⟩ o) := by
  refine congrArg x7 (funext fun a => Fin.ext ?_)
  fin_cases a
  · show 512 + 1 * z.val = _; dsimp only [ix2]; simp
  · show 0 + 1 * o.val = o.val; omega
theorem rowsM (z : Fin 256) : View.ld x7 (Rect.unit ![1024, 0] ![256, 1024] inb_S1280x1024_S256x1024_1024_0) (ix2 z o) = x7 (ix2 ⟨1024 + z, by omega⟩ o) := by
  refine congrArg x7 (funext fun a => Fin.ext ?_)
  fin_cases a
  · show 1024 + 1 * z.val = _; dsimp only [ix2]; simp
  · show 0 + 1 * o.val = o.val; omega

/-- THE BODY at one entry of its block. -/
theorem body_at (c : Dev nD) (i : grid0.Coords)
    (arg2 : Memref sig .tc .vmem S1x512x1024 .f32) (harg2 : arg2.IsWhole)
    (arg3 : Memref sig .tc .vmem S1x512x512 .bf16) (harg3 : arg3.IsWhole)
    (arg4 : Memref sig .tc .vmem S1x512x512 .bf16) (harg4 : arg4.IsWhole)
    (arg5 : Memref sig .tc .vmem S1x512x256 .bf16) (harg5 : arg5.IsWhole)
    (arg6 : Memref sig .tc .vmem S1x512x512 .bf16) (harg6 : arg6.IsWhole)
    (arg7 : Memref sig .tc .vmem S1x512x512 .bf16) (harg7 : arg7.IsWhole)
    (arg8 : Memref sig .tc .vmem S1x512x256 .bf16) (harg8 : arg8.IsWhole)
    (arg9 : Memref sig .tc .vmem S1280x1024 .bf16) (harg9 : arg9.IsWhole)
    (arg10 : Memref sig .tc .vmem S1x512x1024 .f32) (harg10 : arg10.IsWhole)
    (x0 : Vec Ideal S1x512x1024 .f32) (x1 x2 : Vec Ideal S1x512x512 .bf16) (x3 : Vec Ideal S1x512x256 .bf16)
    (x4 x5 : Vec Ideal S1x512x512 .bf16) (x6 : Vec Ideal S1x512x256 .bf16) (r : Fin 512) :
    out0_A_8 c i arg2 harg2 arg3 harg3 arg4 harg4 arg5 harg5 arg6 harg6 arg7 harg7 arg8 harg8 arg9 harg9 arg10 harg10
      x0 x1 x2 x3 x4 x5 x6 x7 (ix3 0 r o)
      = x0 (ix3 0 r o) + ∑ z : Fin 512, x1 (ix3 0 r z) * silu (x4 (ix3 0 r z)) * x7 (ix2 ⟨z, by omega⟩ o)
        + ∑ z : Fin 512, x2 (ix3 0 r z) * silu (x5 (ix3 0 r z)) * x7 (ix2 ⟨512 + z, by omega⟩ o)
        + ∑ z : Fin 256, x3 (ix3 0 r z) * silu (x6 (ix3 0 r z)) * x7 (ix2 ⟨1024 + z, by omega⟩ o) := by
  frame_out
  exact pay_at _ _ _ _ _ _ _ _ _ _ r o (rows1 x7 o) (rows2 x7 o) (rowsM x7 o)
end Cert.OutEvenIdeal.Value
-- ==== Proof.OutEvenLayout.lean ====
module
public import proofs.«01_k».proof.Proof.OutEvenBody
public import Idealize.ShloMosaic.Lib.StableHlo.RunRead
/-!
The arrays the even layers' out-projection hands to its kernel: the in-projection's columns rearranged so that every gate
is a block of its own, and the mixers' outputs and the weights as they are.
-/
set_option maxRecDepth 16384
@[expose] public noncomputable section
open Idealize.ShloMosaic Idealize.ShloMosaic.TcCoe Idealize.SL.Sem
namespace Cert.OutEvenIdeal.Value
open Cert.OutEvenIdeal Cert.OutEvenIdeal.Gen

/-- The first eight pieces of the columns, in the order the kernel lays them out. -/
def leftCols (u : FVec Ideal S32768x3256 .f32) : FVec Ideal S32768x2304 .bf16 :=
  concatenate S32768x2304 1 [
    ⟨S32768x256, truncf .bf16 (extractStridedSlice S32768x256 ![0, 0] u slices_S32768x3256_S32768x256_0_0) bitsLt_bf16_f32⟩,
    ⟨S32768x128, truncf .bf16 (extractStridedSlice S32768x128 ![0, 256] u slices_S32768x3256_S32768x128_0_256) bitsLt_bf16_f32⟩,
    ⟨S32768x32, truncf .bf16 (extractStridedSlice S32768x32 ![0, 384] u slices_S32768x3256_S32768x32_0_384) bitsLt_bf16_f32⟩,
    ⟨S32768x96, broadcastInDim S32768x96 ![] bcast_S_S32768x96 (constant S_ .bf16 0x0000#16 : FVec Ideal S_ .bf16)⟩,
    ⟨S32768x512, truncf .bf16 (extractStridedSlice S32768x512 ![0, 928] u slices_S32768x3256_S32768x512_0_928) bitsLt_bf16_f32⟩,
    ⟨S32768x512, truncf .bf16 (extractStridedSlice S32768x512 ![0, 416] u slices_S32768x3256_S32768x512_0_416) bitsLt_bf16_f32⟩,
    ⟨S32768x512, truncf .bf16 (extractStridedSlice S32768x512 ![0, 2232] u slices_S32768x3256_S32768x512_0_2232) bitsLt_bf16_f32⟩,
    ⟨S32768x256, truncf .bf16 (extractStridedSlice S32768x256 ![0, 2744] u slices_S32768x3256_S32768x256_0_2744) bitsLt_bf16_f32⟩]
    concatenates_S32768x256_S32768x128_S32768x32_S32768x96_S32768x512_S32768x512_S32768x512_S32768x256_S32768x2304_d1
/-- The remaining pieces. -/
def rightCols (u : FVec Ideal S32768x3256 .f32) : FVec Ideal S32768x1152 .bf16 :=
  concatenate S32768x1152 1 [
    ⟨S32768x256, truncf .bf16 (extractStridedSlice S32768x256 ![0, 3000] u slices_S32768x3256_S32768x256_0_3000) bitsLt_bf16_f32⟩,
    ⟨S32768x24, truncf .bf16 (extractStridedSlice S32768x24 ![0, 2208] u slices_S32768x3256_S32768x24_0_2208) bitsLt_bf16_f32⟩,
    ⟨S32768x104, broadcastInDim S32768x104 ![] bcast_S_S32768x104 (constant S_ .bf16 0x0000#16 : FVec Ideal S_ .bf16)⟩,
    ⟨S32768x128, truncf .bf16 (extractStridedSlice S32768x128 ![0, 1440] u slices_S32768x3256_S32768x128_0_1440) bitsLt_bf16_f32⟩,
    ⟨S32768x128, truncf .bf16 (extractStridedSlice S32768x128 ![0, 1568] u slices_S32768x3256_S32768x128_0_1568) bitsLt_bf16_f32⟩,
    ⟨S32768x128, truncf .bf16 (extractStridedSlice S32768x128 ![0, 1696] u slices_S32768x3256_S32768x128_0_1696) bitsLt_bf16_f32⟩,
    ⟨S32768x128, truncf .bf16 (extractStridedSlice S32768x128 ![0, 1824] u slices_S32768x3256_S32768x128_0_1824) bitsLt_bf16_f32⟩,
    ⟨S32768x128, truncf .bf16 (extractStridedSlice S32768x128 ![0, 1952] u slices_S32768x3256_S32768x128_0_1952) bitsLt_bf16_f32⟩,
    ⟨S32768x128, truncf .bf16 (extractStridedSlice S32768x128 ![0, 2080] u slices_S32768x3256_S32768x128_0_2080) bitsLt_bf16_f32⟩]
    concatenates_S32768x256_S32768x24_S32768x104_S32768x128_S32768x128_S32768x128_S32768x128_S32768x128_S32768x128_S32768x1152_d1
/-- All columns: the two halves side by side. -/
def cols (u : FVec Ideal S32768x3256 .f32) : FVec Ideal S32768x3456 .bf16 :=
  concatenate S32768x3456 1 [⟨S32768x2304, leftCols u⟩, ⟨S32768x1152, rightCols u⟩]
    concatenates_S32768x2304_S32768x1152_S32768x3456_d1
/-- The array whose column blocks are the gates. -/
def rearranged (u : FVec Ideal S8x4096x3256 .f32) : FVec Ideal S8x4096x3456 .bf16 :=
  shapeCast S8x4096x3456 (cols (shapeCast S32768x3256 u shapeCasts_S8x4096x3256_S32768x3256)) shapeCasts_S32768x3456_S8x4096x3456

section read
variable (u : FVec Ideal S32768x3256 .f32) (i : Fin 32768)
theorem cols_gate1 (z : Fin 512) : cols u (ix2 i ⟨1024 + z, by omega⟩) = u (ix2 i ⟨416 + z, by omega⟩) := by
  pointwise [cols, leftCols]
  split_ifs <;> first | omega | exact congrArg (fun z => u (ix2 i z)) (Fin.ext (by dsimp only; omega))
theorem cols_gate2 (z : Fin 512) : cols u (ix2 i ⟨1536 + z, by omega⟩) = u (ix2 i ⟨2232 + z, by omega⟩) := by
  pointwise [cols, leftCols]
  split_ifs <;> first | omega | exact congrArg (fun z => u (ix2 i z)) (Fin.ext (by dsimp only; omega))
theorem cols_gateM (z : Fin 256) : cols u (ix2 i ⟨2304 + z, by omega⟩) = u (ix2 i ⟨3000 + z, by omega⟩) := by
  pointwise [cols, rightCols]
end read
variable (m : (ℓ : Loc nD τ sig) → Buf (Elt Ideal) ℓ) (c : Dev nD)
theorem gates : V m c main_v36 = rearranged (m ((c.tc : Thread nD τ).loc main_arg4)) := by
  after_reads_simp
  rfl
theorem mixer1 : V m c main_v37 = (truncf .bf16 (m ((c.tc : Thread nD τ).loc main_arg1) : FVec Ideal S8x4096x512 .f32)
    bitsLt_bf16_f32 : FVec Ideal S8x4096x512 .bf16) := by
  after_reads_simp
theorem mixer2 : V m c main_v38 = (truncf .bf16 (m ((c.tc : Thread nD τ).loc main_arg2) : FVec Ideal S8x4096x512 .f32)
    bitsLt_bf16_f32 : FVec Ideal S8x4096x512 .bf16) := by
  after_reads_simp
theorem mixerM : V m c main_v39 = (truncf .bf16 (m ((c.tc : Thread nD τ).loc main_arg3) : FVec Ideal S8x4096x256 .f32)
    bitsLt_bf16_f32 : FVec Ideal S8x4096x256 .bf16) := by
  after_reads_simp
theorem weights : V m c main_v40 = (truncf .bf16 (m ((c.tc : Thread nD τ).loc main_arg5) : FVec Ideal S1280x1024 .f32)
    bitsLt_bf16_f32 : FVec Ideal S1280x1024 .bf16) := by
  after_reads_simp
end Cert.OutEvenIdeal.Value
-- ==== Proof.OutEvenFinal.lean ====
module
public import proofs.«01_k».proof.Proof.OutEvenLayout
/-!
The even layers' out-projection ends with what its reference computes: point by point, block by block.
-/
set_option maxRecDepth 16384
@[expose] public noncomputable section
open Idealize.ShloMosaic Idealize.ShloMosaic.TcCoe Idealize.SL.Sem
namespace Cert.OutEvenIdeal.Value
open Cert.OutEvenIdeal Cert.OutEvenIdeal.Gen Cert.Sums
variable (m : (ℓ : Loc nD τ sig) → Buf (Elt Ideal) ℓ) (c : Dev nD)
/-- The block indices of every window, as functions of the grid's coordinates. -/
theorem idx : ∀ t : Fin cfg0.N,
    win0_0.index t = ![(grid0.coords t 0).val, (grid0.coords t 1).val, 0]
    ∧ win0_1.index t = ![(grid0.coords t 0).val, (grid0.coords t 1).val, 0]
    ∧ win0_2.index t = ![(grid0.coords t 0).val, (grid0.coords t 1).val, 0]
    ∧ win0_3.index t = ![(grid0.coords t 0).val, (grid0.coords t 1).val, 0]
    ∧ win0_4.index t = ![(grid0.coords t 0).val, (grid0.coords t 1).val, 2]
    ∧ win0_5.index t = ![(grid0.coords t 0).val, (grid0.coords t 1).val, 3]
    ∧ win0_6.index t = ![(grid0.coords t 0).val, (grid0.coords t 1).val, 9]
    ∧ win0_7.index t = ![0, 0]
    ∧ win0_8.index t = ![(grid0.coords t 0).val, (grid0.coords t 1).val, 0] :=
  (by decide +kernel : ∀ t : Fin grid0.N, _)
variable (t : Fin cfg0.N)
/-- The batch entry and the rows of a grid point. -/
theorem i1 : (grid0.coords t 1).val < 8 := (grid0.coords t 1).isLt
def batch : Fin 8 := ⟨(grid0.coords t 0).val, (grid0.coords t 0).isLt⟩
def row (r : Fin 512) : Fin 4096 := ⟨512 * (grid0.coords t 1).val + r, by have := i1 t; omega⟩
variable (r : Fin 512)
theorem block_x (o : Fin 1024) : iblk m c 0 t (ix3 0 r o) = m ((c.tc : Thread nD τ).loc main_arg0) (ix3 (batch t) (row t r) o) := by
  rw [← V_main_arg0 m c]
  blk_ext [iblk, idx t, batch, row]
theorem block_y1 (z : Fin 512) : iblk m c 1 t (ix3 0 r z) = V m c main_v37 (ix3 (batch t) (row t r) z) := by
  blk_ext [iblk, idx t, batch, row]
theorem block_y2 (z : Fin 512) : iblk m c 2 t (ix3 0 r z) = V m c main_v38 (ix3 (batch t) (row t r) z) := by
  blk_ext [iblk, idx t, batch, row]
theorem block_ym (z : Fin 256) : iblk m c 3 t (ix3 0 r z) = V m c main_v39 (ix3 (batch t) (row t r) z) := by
  blk_ext [iblk, idx t, batch, row]
/-- Blocks of the gates, read off any contents of the arrays. -/
theorem read_g1 (X : (b : Ref sig .tc) → Buf (Elt Ideal) ((c.tc : Thread nD τ).loc b)) (y : (win0_4.xblock (grid0.coords t)).Idx) :
    ((cfg0.win 4).blk t).view.read (Elt Ideal) (X (Pipeline.arrRef spec0 4)) y = X main_v36 ((win0_4.blk t).view.emb y) := rfl
theorem read_g2 (X : (b : Ref sig .tc) → Buf (Elt Ideal) ((c.tc : Thread nD τ).loc b)) (y : (win0_5.xblock (grid0.coords t)).Idx) :
    ((cfg0.win 5).blk t).view.read (Elt Ideal) (X (Pipeline.arrRef spec0 5)) y = X main_v36 ((win0_5.blk t).view.emb y) := rfl
theorem read_gm (X : (b : Ref sig .tc) → Buf (Elt Ideal) ((c.tc : Thread nD τ).loc b)) (y : (win0_6.xblock (grid0.coords t)).Idx) :
    ((cfg0.win 6).blk t).view.read (Elt Ideal) (X (Pipeline.arrRef spec0 6)) y = X main_v36 ((win0_6.blk t).view.emb y) := rfl
/-- An index of the rearranged array from its three coordinates. -/
theorem place_of (v : S8x4096x3456.Idx) (j : Fin 3456) (h0 : (v 0).val = (grid0.coords t 0).val * 1 + 0)
    (h1 : (v 1).val = (grid0.coords t 1).val * 512 + r) (h2 : (v 2).val = j) : v = ix3 (batch t) (row t r) j := by
  refine funext fun a => Fin.ext ?_
  fin_cases a
  · exact h0.trans (by simp [ix3, batch])
  · exact h1.trans (by simp [ix3, row, Nat.mul_comm])
  · exact h2
theorem place_g1 (y : (win0_4.xblock (grid0.coords t)).Idx) (j : Fin 3456) (hy0 : (y (0 : Fin 3)).val = 0)
    (hy1 : (y (1 : Fin 3)).val = r.val) (hj : j.val = 1024 + (y (2 : Fin 3)).val) :
    (win0_4.blk t).view.emb y = ix3 (batch t) (row t r) j := by
  have e0 : (((win0_4.blk t).view.emb y : S8x4096x3456.Idx) 0).val = win0_4.index t 0 * 1 + (y (0 : Fin 3)).val :=
    win0_4.rect_emb_val t y 0 rfl
  have e1 : (((win0_4.blk t).view.emb y : S8x4096x3456.Idx) 1).val = win0_4.index t 1 * 512 + (y (1 : Fin 3)).val :=
    win0_4.rect_emb_val t y 1 rfl
  have e2 : (((win0_4.blk t).view.emb y : S8x4096x3456.Idx) 2).val = win0_4.index t 2 * 512 + (y (2 : Fin 3)).val :=
    win0_4.rect_emb_val t y 2 rfl
  have h := (idx t).2.2.2.2.1
  have h0 : win0_4.index t 0 = (grid0.coords t 0).val := congrFun h 0
  have h1 : win0_4.index t 1 = (grid0.coords t 1).val := congrFun h 1
  have h2 : win0_4.index t 2 = 2 := congrFun h 2
  rw [h0, hy0] at e0
  rw [h1, hy1] at e1
  rw [h2] at e2
  exact place_of t r _ j e0 e1 (e2.trans (by omega))
/-- No block that the grid reaches is cut at the array's edge. -/
theorem block_g1 (z : Fin 512) (j : Fin 3456) (hj : j.val = 1024 + z.val) :
    X0_4 m c t (ix3 0 r z) = V m c main_v36 (ix3 (batch t) (row t r) j) := by
  unfold X0_4 Pipeline.Window.fill
  rw [dif_pos (moved0_4 t _)]
  unfold iblk
  exact (read_g1 c t (V m c) _).trans (congrArg (V m c main_v36) (place_g1 t r _ j rfl rfl hj))
theorem place_g2 (y : (win0_5.xblock (grid0.coords t)).Idx) (j : Fin 3456) (hy0 : (y (0 : Fin 3)).val = 0)
    (hy1 : (y (1 : Fin 3)).val = r.val) (hj : j.val = 1536 + (y (2 : Fin 3)).val) :
    (win0_5.blk t).view.emb y = ix3 (batch t) (row t r) j := by
  have e0 : (((win0_5.blk t).view.emb y : S8x4096x3456.Idx) 0).val = win0_5.index t 0 * 1 + (y (0 : Fin 3)).val :=
    win0_5.rect_emb_val t y 0 rfl
  have e1 : (((win0_5.blk t).view.emb y : S8x4096x3456.Idx) 1).val = win0_5.index t 1 * 512 + (y (1 : Fin 3)).val :=
    win0_5.rect_emb_val t y 1 rfl
  have e2 : (((win0_5.blk t).view.emb y : S8x4096x3456.Idx) 2).val = win0_5.index t 2 * 512 + (y (2 : Fin 3)).val :=
    win0_5.rect_emb_val t y 2 rfl
  have h := (idx t).2.2.2.2.2.1
  have h0 : win0_5.index t 0 = (grid0.coords t 0).val := congrFun h 0
  have h1 : win0_5.index t 1 = (grid0.coords t 1).val := congrFun h 1
  have h2 : win0_5.index t 2 = 3 := congrFun h 2
  rw [h0, hy0] at e0
  rw [h1, hy1] at e1
  rw [h2] at e2
  exact place_of t r _ j e0 e1 (e2.trans (by omega))
/-- No block that the grid reaches is cut at the array's edge. -/
theorem block_g2 (z : Fin 512) (j : Fin 3456) (hj : j.val = 1536 + z.val) :
    X0_5 m c t (ix3 0 r z) = V m c main_v36 (ix3 (batch t) (row t r) j) := by
  unfold X0_5 Pipeline.Window.fill
  rw [dif_pos (moved0_5 t _)]
  unfold iblk
  exact (read_g2 c t (V m c) _).trans (congrArg (V m c main_v36) (place_g2 t r _ j rfl rfl hj))
theorem place_gm (y : (win0_6.xblock (grid0.coords t)).Idx) (j : Fin 3456) (hy0 : (y (0 : Fin 3)).val = 0)
    (hy1 : (y (1 : Fin 3)).val = r.val) (hj : j.val = 2304 + (y (2 : Fin 3)).val) :
    (win0_6.blk t).view.emb y = ix3 (batch t) (row t r) j := by
  have e0 : (((win0_6.blk t).view.emb y : S8x4096x3456.Idx) 0).val = win0_6.index t 0 * 1 + (y (0 : Fin 3)).val :=
    win0_6.rect_emb_val t y 0 rfl
  have e1 : (((win0_6.blk t).view.emb y : S8x4096x3456.Idx) 1).val = win0_6.index t 1 * 512 + (y (1 : Fin 3)).val :=
    win0_6.rect_emb_val t y 1 rfl
  have e2 : (((win0_6.blk t).view.emb y : S8x4096x3456.Idx) 2).val = win0_6.index t 2 * 256 + (y (2 : Fin 3)).val :=
    win0_6.rect_emb_val t y 2 rfl
  have h := (idx t).2.2.2.2.2.2.1
  have h0 : win0_6.index t 0 = (grid0.coords t 0).val := congrFun h 0
  have h1 : win0_6.index t 1 = (grid0.coords t 1).val := congrFun h 1
  have h2 : win0_6.index t 2 = 9 := congrFun h 2
  rw [h0, hy0] at e0
  rw [h1, hy1] at e1
  rw [h2] at e2
  exact place_of t r _ j e0 e1 (e2.trans (by omega))
/-- No block that the grid reaches is cut at the array's edge. -/
theorem block_gm (z : Fin 256) (j : Fin 3456) (hj : j.val = 2304 + z.val) :
    X0_6 m c t (ix3 0 r z) = V m c main_v36 (ix3 (batch t) (row t r) j) := by
  unfold X0_6 Pipeline.Window.fill
  rw [dif_pos (moved0_6 t _)]
  unfold iblk
  exact (read_gm c t (V m c) _).trans (congrArg (V m c main_v36) (place_gm t r _ j rfl rfl hj))
theorem block_w (z : Fin 1280) (o : Fin 1024) : iblk m c 7 t (ix2 z o) = V m c main_v40 (ix2 z o) := by
  blk_ext [iblk, idx t]

/-- The gates' columns of the rearranged array. -/
theorem rearranged_at (u : FVec Ideal S8x4096x3256 .f32) (b : Fin 8) (s : Fin 4096) :
    (∀ z : Fin 512, rearranged u (ix3 b s ⟨1024 + z, by omega⟩) = u (ix3 b s ⟨416 + z, by omega⟩))
    ∧ (∀ z : Fin 512, rearranged u (ix3 b s ⟨1536 + z, by omega⟩) = u (ix3 b s ⟨2232 + z, by omega⟩))
    ∧ (∀ z : Fin 256, rearranged u (ix3 b s ⟨2304 + z, by omega⟩) = u (ix3 b s ⟨3000 + z, by omega⟩)) := by
  have h (z : Fin 3456) : rearranged u (ix3 b s z) = cols (shapeCast S32768x3256 u shapeCasts_S8x4096x3256_S32768x3256)
      (ix2 ⟨4096 * b + s, by omega⟩ z) := by
    pointwise [rearranged]
    refine congrArg (fun k => cols _ (ix2 k z)) (Fin.ext ?_)
    dsimp only
    omega
  have h' (z : Fin 3256) : (shapeCast S32768x3256 u shapeCasts_S8x4096x3256_S32768x3256 : FVec Ideal S32768x3256 .f32)
      (ix2 ⟨4096 * b + s, by omega⟩ z) = u (ix3 b s z) := by
    pointwise
  exact ⟨fun z => (h _).trans ((cols_gate1 _ _ z).trans (h' _)), fun z => (h _).trans ((cols_gate2 _ _ z).trans (h' _)),
    fun z => (h _).trans ((cols_gateM _ _ z).trans (h' _))⟩

/-- The reference of the arguments held in the kernel's memory. -/
def result : FVec Ideal S8x4096x1024 .f32 :=
  OutEvenRefIdeal.Value.out (m ((c.tc : Thread nD τ).loc main_arg0))
    (m ((c.tc : Thread nD τ).loc main_arg1)) (OutEvenRefIdeal.Value.gate1 (m ((c.tc : Thread nD τ).loc main_arg4)))
    (m ((c.tc : Thread nD τ).loc main_arg2)) (OutEvenRefIdeal.Value.gate2 (m ((c.tc : Thread nD τ).loc main_arg4)))
    (m ((c.tc : Thread nD τ).loc main_arg3)) (OutEvenRefIdeal.Value.gateM (m ((c.tc : Thread nD τ).loc main_arg4)))
    (m ((c.tc : Thread nD τ).loc main_arg5))
theorem emb_out (o : Fin 1024) : (win0_8.blk t).view.emb (ix3 0 r o) = ix3 (batch t) (row t r) o := by
  blk_ext [idx t, batch, row]
theorem point (o : Fin 1024) : out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t)
    (iblk m c 0 t) (iblk m c 1 t) (iblk m c 2 t) (iblk m c 3 t) (X0_4 m c t) (X0_5 m c t)
    (X0_6 m c t) (iblk m c 7 t) (ix3 0 r o) = result m c (ix3 (batch t) (row t r) o) := by
  obtain ⟨g1, g2, gm⟩ := rearranged_at (m ((c.tc : Thread nD τ).loc main_arg4)) (batch t) (row t r)
  rw [body_at, result, OutEvenRefIdeal.Value.out_at]
  refine agree (block_x m c t r o) (fun z => ?_) (fun z => ?_) (fun z => ?_)
  · rw [block_y1, block_g1 m c t r z ⟨1024 + z, by omega⟩ rfl, block_w, gates, mixer1, weights, OutEvenRefIdeal.Value.gate1_at]
    exact congrArg₂ (· * ·) (congrArg₂ (· * ·) rfl (congrArg silu (g1 z))) rfl
  · rw [block_y2, block_g2 m c t r z ⟨1536 + z, by omega⟩ rfl, block_w, gates, mixer2, weights, OutEvenRefIdeal.Value.gate2_at]
    exact congrArg₂ (· * ·) (congrArg₂ (· * ·) rfl (congrArg silu (g2 z))) rfl
  · rw [block_ym, block_gm m c t r z ⟨2304 + z, by omega⟩ rfl, block_w, gates, mixerM, weights, OutEvenRefIdeal.Value.gateM_at]
    exact congrArg₂ (· * ·) (congrArg₂ (· * ·) rfl (congrArg silu (gm z))) rfl
theorem final : (dats m 0 c).arrAt 8 cfg0.N = result m c := by
  refine (dats m 0 c).arrAt_eq_of_covers 8 (result m c) (by decide +kernel) fun t _ y => ?_
  blk_simp
  rw [after0_8, outsAt0]
  idx_vars y
  obtain rfl : y0 = 0 := Subsingleton.elim _ _
  exact (point m c t y1 y2).trans (congrArg (result m c) (emb_out t y1 y2)).symm
end Cert.OutEvenIdeal.Value
-- ==== Proof.CrossFinite.lean ====
module
public import proofs.«01_k».proof.Proof.Gen.Pre_finite_mem
public import Idealize.ShloMosaic.Lib.ReduceAll
public import Idealize.ShloMosaic.Lib.Pipeline.ValueKit
public import Idealize.ShloMosaic.Lib.Pointwise
/-!
The precondition of the memory cross-attention read entry by entry: every query, key and gain is a real number.
-/
set_option maxRecDepth 16384
@[expose] public noncomputable section
open Idealize.ShloMosaic Idealize.ShloMosaic.TcCoe Idealize.SL.Sem
namespace Cert.Pre_finite_mem
open Cert.Pre_finite_mem.Gen

/-- The elementwise tests "smaller than infinity in absolute value". -/
def boundedQ (x : FVec Ideal S8x4096x256 .f32) : IVec S8x4096x256 1 :=
  cmpf .olt (Host.absf x) (broadcastInDim S8x4096x256 ![] bcast_S_S8x4096x256 (constant S_ .f32 0x7F800000#32))
def boundedK (x : FVec Ideal S8x256x4x64 .f32) : IVec S8x256x4x64 1 :=
  cmpf .olt (Host.absf x) (broadcastInDim S8x256x4x64 ![] bcast_S_S8x256x4x64 (constant S_ .f32 0x7F800000#32))
def boundedG (x : FVec Ideal S64 .f32) : IVec S64 1 :=
  cmpf .olt (Host.absf x) (broadcastInDim S64 ![] bcast_S_S64 (constant S_ .f32 0x7F800000#32))
theorem infinite : Ideal.ofBits FTy.f32 2139095040#32 = ⊤ := by simp [Ideal.ofBits, Ideal.ieee]
theorem real_of_lt {y : EReal} (hy : max y (-y) < ⊤) : ∃ r : ℝ, y = (r : EReal) := by
  induction y using EReal.rec with
  | bot => simp at hy
  | top => simp at hy
  | coe r => exact ⟨r, rfl⟩
theorem real_q (x : FVec Ideal S8x4096x256 .f32) (b : Fin 8) (s : Fin 4096) (z : Fin 256)
    (hb : boundedQ x (ix3 b s z) = 1#1) : ∃ r : ℝ, x (ix3 b s z) = (r : EReal) := by
  revert hb
  pointwise [boundedQ]
  rw [infinite]
  exact fun hb => real_of_lt (of_decide_eq_true ((BitVec.ofBool_eq_iff_eq (b' := true)).1 hb))
theorem real_k (x : FVec Ideal S8x256x4x64 .f32) (b : Fin 8) (j : Fin 256) (h : Fin 4) (d : Fin 64)
    (hb : boundedK x (ix4 b j h d) = 1#1) : ∃ r : ℝ, x (ix4 b j h d) = (r : EReal) := by
  revert hb
  pointwise [boundedK]
  rw [infinite]
  exact fun hb => real_of_lt (of_decide_eq_true ((BitVec.ofBool_eq_iff_eq (b' := true)).1 hb))
theorem real_g (x : FVec Ideal S64 .f32) (d : Fin 64)
    (hb : boundedG x (ix1 d) = 1#1) : ∃ r : ℝ, x (ix1 d) = (r : EReal) := by
  revert hb
  pointwise [boundedG]
  rw [infinite]
  exact fun hb => real_of_lt (of_decide_eq_true ((BitVec.ofBool_eq_iff_eq (b' := true)).1 hb))
theorem fn_split (q : FVec Ideal S8x4096x256 .f32) (k v : FVec Ideal S8x256x4x64 .f32) (g : FVec Ideal S64 .f32)
    (h : fn q k v g = fun _ => 1#1) :
    (∀ i, boundedQ q i = 1#1) ∧ (∀ i, boundedK k i = 1#1) ∧ ∀ i, boundedG g i = 1#1 := by
  have h0 : IntOp.andi (IntOp.andi
      (Host.reduce IntOp.andi (boundedQ q) (constantI S_ 1 1#1) reducesTo_S8x4096x256_S_d0_1_2 h_S_ ix0)
      (Host.reduce IntOp.andi (boundedK k) (constantI S_ 1 1#1) reducesTo_S8x256x4x64_S_d0_1_2_3 h_S_ ix0))
      (Host.reduce IntOp.andi (boundedG g) (constantI S_ 1 1#1) reducesTo_S64_S_d0 h_S_ ix0) = 1#1 :=
    congrFun h ix0
  obtain ⟨h1, hg⟩ := IntOp.andi_eq_one.1 h0
  obtain ⟨hq, hk⟩ := IntOp.andi_eq_one.1 h1
  exact ⟨fun i => Host.reduce_andi_all _ _ _ _ _ hq i, fun i => Host.reduce_andi_all _ _ _ _ _ hk i,
    fun i => Host.reduce_andi_all _ _ _ _ _ hg i⟩
end Cert.Pre_finite_mem
-- ==== Proof.CrossBody.lean ====
module
public import proofs.«01_k».proof.Proof.Gen.CrossIdeal.Value
public import proofs.«01_k».proof.Proof.Blocks
/-!
The memory cross-attention's kernel body at one entry of its block: the queries' norm taken within groups of 64 lanes, the
scores of the four heads side by side, and the values under the weights.
-/
set_option maxRecDepth 16384
@[expose] public noncomputable section
open Idealize.ShloMosaic Idealize.ShloMosaic.TcCoe Idealize.SL.Sem
namespace Cert.CrossIdeal.Value
open Cert.CrossIdeal Cert.CrossIdeal.Gen
open Cert.KernelIdeal.Value (col four neg_inf fexp2)

/-- The scores of the four heads side by side. -/
def joined (a0 a1 a2 a3 : FVec Ideal S256x1024 .f32) : FVec Ideal S256x4096 .f32 :=
  concatenate S256x4096 1 [⟨S256x1024, a0⟩, ⟨S256x1024, a1⟩, ⟨S256x1024, a2⟩, ⟨S256x1024, a3⟩]
    concatenates_S256x1024_S256x1024_S256x1024_S256x1024_S256x4096_d1
/-- The largest entry of each column. -/
def tops (S : FVec Ideal S256x4096 .f32) : FVec Ideal S4096 .f32 :=
  multiReduction .maximumf [0] S4096 S 0xFF800000#32 reduces_S256x4096_S4096 (.inl rfl) rfl
/-- The scores less a row of values. -/
def less (S : FVec Ideal S256x4096 .f32) (T : FVec Ideal S4096 .f32) : FVec Ideal S256x4096 .f32 :=
  subf S (broadcastTo S256x4096 (shapeCast S1x4096 T shapeCasts_S4096_S1x4096) broadcasts_S1x4096_S256x4096)
/-- The lane numbers. -/
def lanes : IVec S1024x128 32 := iota .tc S1024x128 32 [1] iota_S1024x128_d1_w32
/-- The row numbers of the transposed block. -/
def rows : IVec S128x1024 32 := iota .tc S128x1024 32 [0] iota_S128x1024_d0_w32

theorem pay8_eq (a0 a1 : FVec Ideal S256x1024 .f32) (w : Vec Ideal S1x1024x128 .bf16) (g : Vec Ideal S1x128 .f32)
    (k : Vec Ideal S1x1x256x128 .bf16) : k0_pay8 (F := Ideal) lanes a0 a1 (k0_pay6 w) (k0_pay7 w) g k k
      = less (joined a0 a1 (k0_pay4 (k0_pay2 w g) k0_pay3 k) (k0_pay5 lanes (k0_pay2 w g) k))
        (tops (joined a0 a1 (k0_pay4 (k0_pay2 w g) k0_pay3 k) (k0_pay5 lanes (k0_pay2 w g) k))) := rfl

section pieces
variable (j : Fin 256) (x : Fin 1024) (c : Fin 4096)
theorem joined_at (a0 a1 a2 a3 : FVec Ideal S256x1024 .f32) (e : Fin 4) :
    joined a0 a1 a2 a3 (ix2 j (col e x)) = (![a0, a1, a2, a3] e) (ix2 j x) := by
  pointwise [joined, col]
  exact four (fun e x => (![a0, a1, a2, a3] e) (ix2 j x)) e x
theorem tops_at (S : FVec Ideal S256x4096 .f32) : tops S (ix1 c) = Finset.univ.fold max ⊥ fun j => (S (ix2 j c) : EReal) := by
  pointwise [tops]; rw [neg_inf]
theorem less_at (S : FVec Ideal S256x4096 .f32) (T : FVec Ideal S4096 .f32) :
    less S T (ix2 j c) = S (ix2 j c) - T (ix1 c) := by
  pointwise [less]
/-- The reciprocals of the weight sums. -/
theorem inv_at (D : FVec Ideal S256x4096 .f32) : k0_pay10 (F := Ideal) D (ix2 0 c)
    = Ideal.div (Ideal.ofBits .f32 0x3F800000#32) (∑ j, Ideal.exp2 (D (ix2 j c))) := by
  pointwise [k0_pay10, k0_pay9]; simp only [fexp2]
/-- A weight. -/
theorem weight_at (D : FVec Ideal S256x4096 .f32) : k0_pay9 (F := Ideal) D (ix2 j c) = Ideal.exp2 (D (ix2 j c)) := by
  pointwise [k0_pay9]; simp only [fexp2]
/-- Which half of the lanes a row of the transposed block belongs to. -/
theorem low_row : ∀ ln : Fin 128, IntOp.cmpi CmpIPredicate.slt (BitVec.ofNat 32 ln) 64#32 = if ln.val / 64 = 0 then 1#1 else 0#1 := by
  decide +kernel
/-- The values of one pair of heads under their weights, times the weight sums' reciprocals. -/
def under (D : FVec Ideal S256x4096 .f32) (v : Vec Ideal S1x1x256x128 .bf16) (ln : Fin 128) (c : Fin 4096) : EReal :=
  (∑ j : Fin 256, v (ix4 0 0 j ln) * k0_pay9 (F := Ideal) D (ix2 j c)) * k0_pay10 (F := Ideal) D (ix2 0 c)
theorem out_left (D : FVec Ideal S256x4096 .f32) (v : Vec Ideal S1x1x256x128 .bf16) (ln : Fin 128) (e : Fin 4)
    (he : ln.val / 64 = e.val) : k0_pay11 (F := Ideal) rows D v (ix3 0 x ln) = under D v ln (col e x) := by
  pointwise [k0_pay11, rows]
  rw [low_row]
  split_ifs with h
  · obtain rfl : e = 0 := Fin.ext (by simp; omega)
    have : (⟨x.val, by omega⟩ : Fin 4096) = col 0 x := Fin.ext (by simp [col])
    exact congrArg (under D v ln) this
  · obtain rfl : e = 1 := Fin.ext (by simp; omega)
    have : (⟨1024 + x.val, by omega⟩ : Fin 4096) = col 1 x := Fin.ext (by simp [col])
    exact congrArg (under D v ln) this
theorem out_right (D : FVec Ideal S256x4096 .f32) (v : Vec Ideal S1x1x256x128 .bf16) (ln : Fin 128) (e : Fin 4)
    (he : ln.val / 64 + 2 = e.val) : k0_pay1 (k0_pay12 (F := Ideal) rows D v) (ix3 0 x ln) = under D v ln (col e x) := by
  pointwise [k0_pay12, k0_pay1, rows]
  rw [low_row]
  split_ifs with h
  · obtain rfl : e = 2 := Fin.ext (by simp; omega)
    have : (⟨2048 + x.val, by omega⟩ : Fin 4096) = col 2 x := Fin.ext (by simp [col])
    exact congrArg (under D v ln) this
  · obtain rfl : e = 3 := Fin.ext (by simp; omega)
    have : (⟨2048 + (1024 + x.val), by omega⟩ : Fin 4096) = col 3 x := Fin.ext (by simp [col]; omega)
    exact congrArg (under D v ln) this
end pieces

/-- A sum over 128 lanes that keeps one group of 64. -/
theorem sum_group (e : Fin 2) (p : Fin 128 → BitVec 1) (hp : ∀ z, p z = if z.val / 64 = e.val then 1#1 else 0#1)
    (f : Fin 128 → EReal) : ∑ z, Scalar.select (p z) (f z) 0 = ∑ d : Fin 64, f ⟨64 * e + d, by omega⟩ := by
  rw [show ∑ z, Scalar.select (p z) (f z) 0 = ∑ z : Fin (64 + 64), Scalar.select (p z) (f z) 0 from rfl, Fin.sum_univ_add]
  obtain rfl | rfl : e = 0 ∨ e = 1 := by omega
  · refine (congrArg₂ (· + ·) (Finset.sum_congr rfl fun d _ => ?_) (Finset.sum_eq_zero fun d _ => ?_)).trans (add_zero _)
    · rw [hp, if_pos (c := (Fin.castAdd 64 d : Fin 128).val / 64 = (0 : Fin 2).val) (show d.val / 64 = 0 by omega)]
      exact congrArg f (Fin.ext (by simp))
    · rw [hp, if_neg (c := (Fin.natAdd 64 d : Fin 128).val / 64 = (0 : Fin 2).val) (show ¬ (64 + d.val) / 64 = 0 by omega)]; rfl
  · refine (congrArg₂ (· + ·) (Finset.sum_eq_zero fun d _ => ?_) (Finset.sum_congr rfl fun d _ => ?_)).trans (zero_add _)
    · rw [hp, if_neg (c := (Fin.castAdd 64 d : Fin 128).val / 64 = (1 : Fin 2).val) (show ¬ d.val / 64 = 1 by omega)]; rfl
    · rw [hp, if_pos (c := (Fin.natAdd 64 d : Fin 128).val / 64 = (1 : Fin 2).val) (show (64 + d.val) / 64 = 1 by omega)]
      exact congrArg f (Fin.ext (by simp; omega))
theorem low_lane : ∀ z : Fin 128, IntOp.andi (IntOp.cmpi CmpIPredicate.sge (BitVec.ofNat 32 z) 0#32)
    (IntOp.cmpi CmpIPredicate.slt (BitVec.ofNat 32 z) 64#32) = if z.val / 64 = (0 : Fin 2).val then 1#1 else 0#1 := by
  decide +kernel
theorem high_lane : ∀ z : Fin 128, IntOp.andi (IntOp.cmpi CmpIPredicate.sge (BitVec.ofNat 32 z) 64#32)
    (IntOp.cmpi CmpIPredicate.slt (BitVec.ofNat 32 z) 128#32) = if z.val / 64 = (1 : Fin 2).val then 1#1 else 0#1 := by
  decide +kernel
theorem group_lane : ∀ d z : Fin 128, IntOp.cmpi CmpIPredicate.eq (IntOp.shrsi ArithUnit.vector (BitVec.ofNat 32 z) 6#32)
    (IntOp.shrsi ArithUnit.vector (BitVec.ofNat 32 d) 6#32) = if z.val / 64 = d.val / 64 then 1#1 else 0#1 := by
  decide +kernel
section heads
variable (j : Fin 256) (x : Fin 1024) (q : FVec Ideal S1024x128 .bf16) (k : Vec Ideal S1x1x256x128 .bf16)
theorem low_scores : k0_pay4 (F := Ideal) q k0_pay3 k (ix2 j x)
    = ∑ d : Fin 64, k (ix4 0 0 j ⟨64 * (0 : Fin 2) + d, by simp; omega⟩) * q (ix2 x ⟨64 * (0 : Fin 2) + d, by simp; omega⟩) := by
  pointwise [k0_pay4, k0_pay3]
  exact sum_group 0 _ low_lane fun z => k (ix4 0 0 j z) * q (ix2 x z)
theorem high_scores : k0_pay5 (F := Ideal) lanes q k (ix2 j x)
    = ∑ d : Fin 64, k (ix4 0 0 j ⟨64 * (1 : Fin 2) + d, by simp; omega⟩) * q (ix2 x ⟨64 * (1 : Fin 2) + d, by simp; omega⟩) := by
  pointwise [k0_pay5, lanes]
  exact sum_group 1 _ high_lane fun z => k (ix4 0 0 j z) * q (ix2 x z)
end heads
/-- The scale of the scores, per natural logarithm of two. -/
theorem scale_eq : (Named.named (F := Ideal) κ "scale" (φ := .f32) 0x3E38AA3B#32) = (((1 / 8) * (Real.log 2)⁻¹ : ℝ) : EReal) :=
  IdealRules.named_const.ideal_named_scalar κ _ _ _ (by rfl)
theorem f64 : Ideal.ofBits FTy.f32 0x42800000#32 = ((64 : ℝ) : EReal) := by
  simp [Ideal.ofBits, Ideal.ieee, -EReal.coe_mul]; norm_num
theorem inv64 : Ideal.ofBits FTy.f32 0x3C800000#32 = ((1 / 64 : ℝ) : EReal) := by
  simp [Ideal.ofBits, Ideal.ieee, -EReal.coe_mul]; norm_num
/-- The normalised, scaled query at one lane. -/
theorem norm_at (x : Fin 1024) (w : Vec Ideal S1x1024x128 .bf16) (g : Vec Ideal S1x128 .f32) (d : Fin 128)
    (hw : ∀ z, ∃ r : ℝ, w (ix3 0 x z) = (r : EReal)) (e : Fin 2) (he : d.val / 64 = e.val) :
    k0_pay2 (F := Ideal) w g (ix2 x d) = w (ix3 0 x d) * Ideal.rsqrt (Ideal.div
      (∑ d : Fin 64, w (ix3 0 x ⟨64 * e + d, by omega⟩) * w (ix3 0 x ⟨64 * e + d, by omega⟩)) (Ideal.ofBits FTy.f32 0x42800000#32)
        + Ideal.ofBits FTy.f32 0x358637BD#32) * g (ix2 0 d) * (((1 / 8) * (Real.log 2)⁻¹ : ℝ) : EReal) := by
  have h0 : ∀ z, w (ix3 0 x z) * w (ix3 0 x z) - w (ix3 0 x z) * w (ix3 0 x z) = 0 := fun z => by
    obtain ⟨r, hr⟩ := hw z
    rw [hr, ← EReal.coe_mul, ← EReal.coe_sub, sub_self]; rfl
  pointwise [k0_pay2]
  simp only [h0]
  rw [scale_eq, sum_group e _ (fun z => (group_lane d z).trans (by rw [he])) fun z => w (ix3 0 x z) * w (ix3 0 x z),
    sum_group e _ (fun z => (group_lane d z).trans (by rw [he])) fun _ => 0, Finset.sum_const_zero, add_zero, f64,
    Ideal.div_coe (by norm_num), inv64]
section body
variable (x0 : Vec Ideal S1x1024x256 .bf16) (x1 x2 : Vec Ideal S1x1x256x256 .bf16) (x3 : Vec Ideal S1x128 .f32)
/-- The normalised query of head `h` at one lane, per natural logarithm of two. -/
def query (r : Fin 1024) (h : Fin 4) (d : Fin 64) : EReal :=
  x0 (ix3 0 r ⟨64 * h + d, by omega⟩) * Ideal.rsqrt (Ideal.div
      (∑ d : Fin 64, x0 (ix3 0 r ⟨64 * h + d, by omega⟩) * x0 (ix3 0 r ⟨64 * h + d, by omega⟩)) (Ideal.ofBits FTy.f32 0x42800000#32)
        + Ideal.ofBits FTy.f32 0x358637BD#32) * x3 (ix2 0 ⟨64 * (h % 2) + d, by omega⟩) * (((1 / 8) * (Real.log 2)⁻¹ : ℝ) : EReal)
/-- The score of a query and a key. -/
def sc (r : Fin 1024) (h : Fin 4) (j : Fin 256) : EReal :=
  ∑ d : Fin 64, x1 (ix4 0 0 j ⟨64 * h + d, by omega⟩) * query x0 x3 r h d
/-- The two halves of the queries' and the keys' columns. -/
theorem left_q (r : Fin 1024) (d : Fin 128) : View.ld x0 r0_0 (ix3 0 r d) = x0 (ix3 0 r ⟨d, by omega⟩) := by
  refine congrArg x0 (funext fun a => Fin.ext ?_)
  fin_cases a
  · rfl
  · show 0 + 1 * r.val = r.val; omega
  · show 0 + 1 * d.val = d.val; omega
theorem right_q (r : Fin 1024) (d : Fin 128) : View.ld x0 r0_3 (ix3 0 r d) = x0 (ix3 0 r ⟨128 + d, by omega⟩) := by
  refine congrArg x0 (funext fun a => Fin.ext ?_)
  fin_cases a
  · rfl
  · show 0 + 1 * r.val = r.val; omega
  · show 128 + 1 * d.val = 128 + d.val; omega
theorem left_k (j : Fin 256) (d : Fin 128) : View.ld x1 r0_2 (ix4 0 0 j d) = x1 (ix4 0 0 j ⟨d, by omega⟩) := by
  refine congrArg x1 (funext fun a => Fin.ext ?_)
  fin_cases a
  · rfl
  · rfl
  · show 0 + 1 * j.val = j.val; omega
  · show 0 + 1 * d.val = d.val; omega
theorem right_k (j : Fin 256) (d : Fin 128) : View.ld x1 r0_4 (ix4 0 0 j d) = x1 (ix4 0 0 j ⟨128 + d, by omega⟩) := by
  refine congrArg x1 (funext fun a => Fin.ext ?_)
  fin_cases a
  · rfl
  · rfl
  · show 0 + 1 * j.val = j.val; omega
  · show 128 + 1 * d.val = 128 + d.val; omega
/-- The scores of the four heads, one array each. -/
def parts : Fin 4 → FVec Ideal S256x1024 .f32 :=
  ![k0_pay4 (k0_pay2 (View.ld x0 r0_0) (View.ld x3 r0_1)) k0_pay3 (View.ld x1 r0_2),
    k0_pay5 lanes (k0_pay2 (View.ld x0 r0_0) (View.ld x3 r0_1)) (View.ld x1 r0_2),
    k0_pay4 (k0_pay2 (View.ld x0 r0_3) (View.ld x3 r0_1)) k0_pay3 (View.ld x1 r0_4),
    k0_pay5 lanes (k0_pay2 (View.ld x0 r0_3) (View.ld x3 r0_1)) (View.ld x1 r0_4)]
theorem scores_eq : k0_pay16 x0 x1 x2 x3 = less (joined (parts x0 x1 x3 0) (parts x0 x1 x3 1) (parts x0 x1 x3 2) (parts x0 x1 x3 3))
    (tops (joined (parts x0 x1 x3 0) (parts x0 x1 x3 1) (parts x0 x1 x3 2) (parts x0 x1 x3 3))) := rfl
theorem rows_eq : k0_pay14 x0 x1 x2 x3 = rows := rfl
variable (r : Fin 1024) (hx : ∀ z, ∃ y : ℝ, x0 (ix3 0 r z) = (y : EReal))
include hx
omit hx in
/-- One head's scores, taken within its half of the columns. -/
theorem sum_eq (e : Fin 2) (h : Fin 4) (j : Fin 256) (w : Vec Ideal S1x1024x128 .bf16) (k : Vec Ideal S1x1x256x128 .bf16)
    (hm : h.val % 2 = e.val) (hw : ∀ d : Fin 64, w (ix3 0 r ⟨64 * e + d, by omega⟩) = x0 (ix3 0 r ⟨64 * h + d, by omega⟩))
    (hk : ∀ d : Fin 64, k (ix4 0 0 j ⟨64 * e + d, by omega⟩) = x1 (ix4 0 0 j ⟨64 * h + d, by omega⟩))
    (hr : ∀ z, ∃ y : ℝ, w (ix3 0 r z) = (y : EReal)) :
    ∑ d : Fin 64, k (ix4 0 0 j ⟨64 * e + d, by omega⟩) * k0_pay2 (F := Ideal) w (View.ld x3 r0_1) (ix2 r ⟨64 * e + d, by omega⟩)
      = sc x0 x1 x3 r h j := by
  have hg : View.ld x3 r0_1 = x3 := View.ld_unit_lit _ x3 (by decide)
  refine Finset.sum_congr rfl fun d _ => ?_
  have hd : (⟨64 * e + d, by omega⟩ : Fin 128) = ⟨64 * (h % 2) + d, by omega⟩ := Fin.ext (by dsimp only; omega)
  rw [norm_at r _ _ _ hr e (by show (64 * e.val + d.val) / 64 = e.val; omega), hg]
  simp only [hw, hk]
  unfold query
  rw [hd]
theorem parts_at (h : Fin 4) (j : Fin 256) : parts x0 x1 x3 h (ix2 j r) = sc x0 x1 x3 r h j := by
  have hl : ∀ z, ∃ y : ℝ, View.ld x0 r0_0 (ix3 0 r z) = (y : EReal) := fun z => by rw [left_q]; exact hx _
  have hr : ∀ z, ∃ y : ℝ, View.ld x0 r0_3 (ix3 0 r z) = (y : EReal) := fun z => by rw [right_q]; exact hx _
  obtain rfl | rfl | rfl | rfl : h = 0 ∨ h = 1 ∨ h = 2 ∨ h = 3 := by omega
  · exact (low_scores j r _ _).trans (sum_eq x0 x1 x3 r 0 0 j _ _ rfl
      (fun d => (left_q x0 r _).trans (congrArg (fun z => x0 (ix3 0 r z)) (Fin.ext (by simp))))
      (fun d => (left_k x1 j _).trans (congrArg (fun z => x1 (ix4 0 0 j z)) (Fin.ext (by simp)))) hl)
  · exact (high_scores j r _ _).trans (sum_eq x0 x1 x3 r 1 1 j _ _ rfl
      (fun d => (left_q x0 r _).trans (congrArg (fun z => x0 (ix3 0 r z)) (Fin.ext (by simp))))
      (fun d => (left_k x1 j _).trans (congrArg (fun z => x1 (ix4 0 0 j z)) (Fin.ext (by simp)))) hl)
  · exact (low_scores j r _ _).trans (sum_eq x0 x1 x3 r 0 2 j _ _ rfl
      (fun d => (right_q x0 r _).trans (congrArg (fun z => x0 (ix3 0 r z)) (Fin.ext (by simp))))
      (fun d => (right_k x1 j _).trans (congrArg (fun z => x1 (ix4 0 0 j z)) (Fin.ext (by simp)))) hr)
  · exact (high_scores j r _ _).trans (sum_eq x0 x1 x3 r 1 3 j _ _ rfl
      (fun d => (right_q x0 r _).trans (congrArg (fun z => x0 (ix3 0 r z)) (Fin.ext (by simp; omega))))
      (fun d => (right_k x1 j _).trans (congrArg (fun z => x1 (ix4 0 0 j z)) (Fin.ext (by simp; omega)))) hr)
/-- A score less the largest of its query. -/
theorem drop_at (h : Fin 4) (j : Fin 256) : k0_pay16 x0 x1 x2 x3 (ix2 j (col h r))
    = sc x0 x1 x3 r h j - Finset.univ.fold max ⊥ fun j => sc x0 x1 x3 r h j := by
  have hs : ∀ j, joined (parts x0 x1 x3 0) (parts x0 x1 x3 1) (parts x0 x1 x3 2) (parts x0 x1 x3 3) (ix2 j (col h r))
      = sc x0 x1 x3 r h j := fun j => by
    rw [joined_at, ← parts_at x0 x1 x3 r hx h j]
    obtain rfl | rfl | rfl | rfl : h = 0 ∨ h = 1 ∨ h = 2 ∨ h = 3 := by omega
    all_goals rfl
  rw [scores_eq, less_at, tops_at, hs]
  simp only [hs]
/-- The values of one head under their weights. -/
def mixed (h : Fin 4) (o : Fin 256) : EReal :=
  (∑ j : Fin 256, x2 (ix4 0 0 j o) * Ideal.exp2 (sc x0 x1 x3 r h j - Finset.univ.fold max ⊥ fun j => sc x0 x1 x3 r h j))
    * Ideal.div (Ideal.ofBits .f32 0x3F800000#32)
      (∑ j : Fin 256, Ideal.exp2 (sc x0 x1 x3 r h j - Finset.univ.fold max ⊥ fun j => sc x0 x1 x3 r h j))
theorem under_at (h : Fin 4) (v : Vec Ideal S1x1x256x128 .bf16) (ln : Fin 128) (o : Fin 256)
    (hv : ∀ j, v (ix4 0 0 j ln) = x2 (ix4 0 0 j o)) :
    under (k0_pay16 x0 x1 x2 x3) v ln (col h r) = mixed x0 x1 x2 x3 r h o := by
  unfold under mixed
  rw [inv_at]
  simp only [weight_at, drop_at x0 x1 x2 x3 r hx, hv]
omit hx in
/-- An index of a half of the block from its coordinates. -/
theorem index {z : S1x1024x128.Idx} {r : Fin 1024} {k : Fin 128} (h1 : r.val = (z 1).val) (h2 : k.val = (z 2).val) : z = ix3 0 r k := by
  refine funext fun a => Fin.ext ?_
  fin_cases a
  · have : (z 0).val < 1 := (z 0).isLt
    show (z 0).val = 0
    omega
  · exact h1.symm
  · exact h2.symm
/-- THE BLOCK at one entry. -/
theorem body_at (o : Fin 256) : out0_4 x0 x1 x2 x3 (ix3 0 r o) = mixed x0 x1 x2 x3 r ⟨o / 64, by omega⟩ o := by
  unfold out0_4
  rw [rows_eq]
  have hu := under_at x0 x1 x2 x3 r hx
  generalize k0_pay16 x0 x1 x2 x3 = D at hu ⊢
  canon_tiles z hz
  · replace hz2 : o.val = 128 + (z 2).val := hz2.trans (by omega)
    rw [(index hz1 (by dsimp only; omega) : z = ix3 0 r ⟨o - 128, by omega⟩)]
    exact (out_right r D _ _ ⟨o / 64, by omega⟩ (by dsimp only; omega)).trans (hu _ _ _ _ fun j =>
      (right_k x2 j _).trans (congrArg (fun z => x2 (ix4 0 0 j z)) (Fin.ext (by dsimp only; omega))))
  · replace hz2 : o.val = 0 + (z 2).val := hz2.trans (by omega)
    rw [(index hz1 (by dsimp only; omega) : z = ix3 0 r ⟨o - 0, by omega⟩)]
    exact (out_left r D _ _ ⟨o / 64, by omega⟩ (by dsimp only; omega)).trans (hu _ _ _ _ fun j =>
      (left_k x2 j _).trans (congrArg (fun z => x2 (ix4 0 0 j z)) (Fin.ext (by dsimp only; omega))))
end body
end Cert.CrossIdeal.Value
-- ==== Proof.CrossRef.lean ====
module
public import proofs.«01_k».proof.Proof.Gen.CrossRefIdeal.Run
public import Idealize.ShloMosaic.Lib.Pipeline.ValueKit
public import Idealize.ShloMosaic.Lib.Pointwise
/-!
The reference of the memory cross-attention read at one entry: the queries' norm, the scores, their largest value along a
row, the exponentials, the row sums, and the weighted sum of the values.
-/
set_option maxRecDepth 16384
@[expose] public noncomputable section
open Idealize.ShloMosaic Idealize.ShloMosaic.TcCoe Idealize.SL.Sem

namespace Cert.CrossRefIdeal.Value
open Cert.CrossRefIdeal Cert.CrossRefIdeal.Gen

/-- The type of the score arrays. -/
local notation "Scores" => FVec Ideal S8x4x4096x256 FTy.f32
/-- The type of the queries, head by head. -/
local notation "Heads" => FVec Ideal S8x4096x4x64 FTy.f32

theorem neg_inf : Ideal.ofBits FTy.f32 4286578688#32 = ⊥ := by simp [Ideal.ofBits, Ideal.ieee]

/-- The queries, head by head. -/
def heads (q : FVec Ideal S8x4096x256 .f32) : Heads := shapeCast _ q shapeCasts_S8x4096x256_S8x4096x4x64
/-- The queries divided by their root mean square, times the gains. -/
def normed (x : Heads) (g : FVec Ideal S64 .f32) : Heads :=
  mulf (mulf x (broadcastInDim S8x4096x4x64 ![0, 1, 2, 3] bcast_S8x4096x4x1_S8x4096x4x64_0_1_2_3
    (Host.rsqrt (addf (Host.divf (broadcastInDim S8x4096x4x1 ![0, 1, 2] bcast_S8x4096x4_S8x4096x4x1_0_1_2
      (Host.reduceAdd (mulf x x) (constant S_ .f32 0x00000000#32) reducesTo_S8x4096x4x64_S8x4096x4_d3 h_S_))
      (broadcastInDim S8x4096x4x1 ![] bcast_S_S8x4096x4x1 (constant S_ .f32 0x42800000#32)))
      (broadcastInDim S8x4096x4x1 ![] bcast_S_S8x4096x4x1 (constant S_ .f32 0x358637BD#32))))))
    (broadcastInDim S8x4096x4x64 ![0, 1, 2, 3] bcast_S1x1x1x64_S8x4096x4x64_0_1_2_3
      (broadcastInDim S1x1x1x64 ![3] bcast_S64_S1x1x1x64_3 g))
/-- The scaled scores. -/
def scores (x : Heads) (k : FVec Ideal S8x256x4x64 .f32) : Scores :=
  mulf (Host.dotGeneral dot_S8x4096x4x64_S8x256x4x64_S8x4x4096x256_3_3_1_1_02_02 none x k)
    (broadcastInDim S8x4x4096x256 ![] bcast_S_S8x4x4096x256 (constant S_ .f32 0x3E000000#32))
/-- The largest entry of every row, by itself. -/
def rowTop (W : Scores) : FVec Ideal S8x4x4096 .f32 :=
  Host.reduce FloatOps.maximumf W (constant S_ .f32 0xFF800000#32) reducesTo_S8x4x4096x256_S8x4x4096_d3 h_S_
/-- The same, floored at minus infinity, as the softmax takes it. -/
def floored (R : FVec Ideal S8x4x4096 .f32) : FVec Ideal S8x4x4096 .f32 :=
  maximumf (broadcastInDim S8x4x4096 ![] bcast_S_S8x4x4096 (constant S_ .f32 0xFF800000#32)) R
/-- The exponentials of the scores less a row's value. -/
def weights (W : Scores) (M : FVec Ideal S8x4x4096 .f32) : Scores :=
  Host.exp (subf W (broadcastInDim S8x4x4096x256 ![0,1,2,3] bcast_S8x4x4096x1_S8x4x4096x256_0_1_2_3
    (broadcastInDim S8x4x4096x1 ![0,1,2] bcast_S8x4x4096_S8x4x4096x1_0_1_2 M)))
/-- The weights divided by their row sums. -/
def probs (E : Scores) : Scores :=
  Host.divf E (broadcastInDim S8x4x4096x256 ![0,1,2,3] bcast_S8x4x4096x1_S8x4x4096x256_0_1_2_3
    (broadcastInDim S8x4x4096x1 ![0,1,2] bcast_S8x4x4096_S8x4x4096x1_0_1_2
      (Host.reduceAdd E (constant S_ .f32 0x00000000#32) reducesTo_S8x4x4096x256_S8x4x4096_d3 h_S_)))
/-- The values weighted by an array of probabilities, the heads side by side. -/
def mixed (v : FVec Ideal S8x256x4x64 .f32) (P : Scores) : FVec Ideal S8x4096x256 .bf16 :=
  truncf .bf16 (shapeCast _ (transpose S8x4096x4x64 [0,3,1,2]
    (Host.dotGeneral dot_S8x256x4x64_S8x4x4096x256_S8x4x64x4096_1_3_3_2_02_01 none v P)
    transposes_S8x4x64x4096_S8x4096x4x64_0_3_1_2) shapeCasts_S8x4096x4x64_S8x4096x256) bitsLt_bf16_f32

variable (b : Fin 8) (h : Fin 4) (s : Fin 4096) (j : Fin 256) (d : Fin 64)
theorem heads_at (q : FVec Ideal S8x4096x256 .f32) :
    heads q (ix4 b s h d) = q (ix3 b s ⟨h * 64 + d, by omega⟩) := by
  pointwise [heads]
theorem normed_at (x : Heads) (g : FVec Ideal S64 .f32) :
    normed x g (ix4 b s h d) = x (ix4 b s h d) * Ideal.rsqrt (Ideal.div
      (∑ d : Fin 64, x (ix4 b s h d) * x (ix4 b s h d)) (Ideal.ofBits FTy.f32 0x42800000#32)
        + Ideal.ofBits FTy.f32 0x358637BD#32) * g (ix1 d) := by
  pointwise [normed]
theorem scores_at (x : Heads) (k : FVec Ideal S8x256x4x64 .f32) : scores x k (ix4 b h s j)
    = (∑ d : Fin 64, x (ix4 b s h d) * k (ix4 b j h d)) * Ideal.ofBits FTy.f32 0x3E000000#32 := by
  pointwise [scores]
theorem rowTop_at (W : Scores) :
    rowTop W (ix3 b h s) = Finset.univ.fold max ⊥ fun j : Fin 256 => W (ix4 b h s j) := by
  pointwise [rowTop]
  rw [neg_inf]
theorem floored_at (R : FVec Ideal S8x4x4096 .f32) : floored R (ix3 b h s) = R (ix3 b h s) := by
  pointwise [floored]
  rw [neg_inf]
  exact bot_sup_eq _
theorem weights_at (W : Scores) (M : FVec Ideal S8x4x4096 .f32) :
    weights W M (ix4 b h s j) = Ideal.exp (W (ix4 b h s j) - M (ix3 b h s)) := by
  pointwise [weights]
theorem probs_at (E : Scores) :
    probs E (ix4 b h s j) = Ideal.div (E (ix4 b h s j)) (∑ j : Fin 256, E (ix4 b h s j)) := by
  pointwise [probs]
theorem mixed_at (v : FVec Ideal S8x256x4x64 .f32) (P : Scores) (z : Fin 256) :
    mixed v P (ix3 b s z) = ∑ j : Fin 256, v (ix4 b j ⟨z / 64, by omega⟩ ⟨z % 64, by omega⟩)
      * P (ix4 b ⟨z / 64, by omega⟩ s j) := by
  pointwise [mixed]

/-- The reference as a function of the raw queries, the keys, the values and the gains. -/
def attn (q : FVec Ideal S8x4096x256 .f32) (k v : FVec Ideal S8x256x4x64 .f32) (g : FVec Ideal S64 .f32) :
    FVec Ideal S8x4096x256 .bf16 :=
  mixed v (probs (weights (scores (normed (heads q) g) k) (floored (rowTop (scores (normed (heads q) g) k)))))
theorem res_eq (m : (ℓ : Loc nD τ sig) → Buf (Elt Ideal) ℓ) (c : Dev nD) :
    res_out0 m c = attn (m ((c.tc : Thread nD τ).loc main_arg0)) (m ((c.tc : Thread nD τ).loc main_arg1))
      (m ((c.tc : Thread nD τ).loc main_arg2)) (m ((c.tc : Thread nD τ).loc main_arg3)) := rfl
theorem attn_at (q : FVec Ideal S8x4096x256 .f32) (k v : FVec Ideal S8x256x4x64 .f32) (g : FVec Ideal S64 .f32)
    (z : Fin 256) (w : Fin 256 → EReal)
    (hw : ∀ j, scores (normed (heads q) g) k (ix4 b ⟨z / 64, by omega⟩ s j) = w j) :
    attn q k v g (ix3 b s z) = ∑ j : Fin 256, v (ix4 b j ⟨z / 64, by omega⟩ ⟨z % 64, by omega⟩)
      * Ideal.div (Ideal.exp (w j - Finset.univ.fold max ⊥ w))
        (∑ j, Ideal.exp (w j - Finset.univ.fold max ⊥ w)) := by
  unfold attn
  generalize scores (normed (heads q) g) k = W at hw
  have hM : floored (rowTop W) (ix3 b ⟨z / 64, by omega⟩ s) = Finset.univ.fold max ⊥ w := by
    rw [floored_at, rowTop_at]
    simp only [hw]
  have hE : ∀ j, weights W (floored (rowTop W)) (ix4 b ⟨z / 64, by omega⟩ s j)
      = Ideal.exp (w j - Finset.univ.fold max ⊥ w) := fun j => by rw [weights_at, hM, hw]
  rw [mixed_at]
  exact Finset.sum_congr rfl fun j _ => by rw [probs_at]; simp only [hE]
end Cert.CrossRefIdeal.Value
-- ==== Proof.CrossScore.lean ====
module
public import proofs.«01_k».proof.Proof.CrossBody
public import proofs.«01_k».proof.Proof.CrossRef
public import proofs.«01_k».proof.Proof.Score
/-!
The memory cross-attention of real queries and keys: the normalised queries are real, the scores are the reference's per
natural logarithm of two, and the weights' powers of two over their sum are the reference's softmax.
-/
set_option maxRecDepth 16384
@[expose] public noncomputable section
open Idealize.ShloMosaic Idealize.ShloMosaic.TcCoe Idealize.SL.Sem
open Attn (perLog2)
namespace Cert.CrossIdeal.Value
open Cert.CrossIdeal Cert.CrossIdeal.Gen
open Cert.KernelIdeal.Value (coe_sum sup_range_fin)
open Cert.CrossRefIdeal.Value (heads normed scores attn)

/-- A sequence of a row's entries. -/
def along (f : Fin 256 → EReal) (j : ℕ) : EReal := if hj : j < 256 then f ⟨j, hj⟩ else 0
theorem along_at (f : Fin 256 → EReal) (j : Fin 256) : along f j = f j := dif_pos j.isLt
theorem one_eq : Ideal.ofBits FTy.f32 0x3F800000#32 = 1 := by
  simp [Ideal.ofBits, Ideal.ieee]
  rw [← EReal.coe_mul]
  norm_num
/-- Values under powers of two of the scores, times the reciprocal of their sum: the softmax. -/
theorem soft (w : Fin 256 → ℝ) (v : Fin 256 → EReal) :
    (∑ j : Fin 256, v j * Ideal.exp2 (perLog2 (w j) - Finset.univ.fold max ⊥ fun j => perLog2 (w j)))
      * Ideal.div (Ideal.ofBits .f32 0x3F800000#32)
        (∑ j : Fin 256, Ideal.exp2 (perLog2 (w j) - Finset.univ.fold max ⊥ fun j => perLog2 (w j)))
    = ∑ j : Fin 256, v j * Ideal.div (Ideal.exp ((w j : EReal) - Finset.univ.fold max ⊥ fun j => (w j : EReal)))
        (∑ j : Fin 256, Ideal.exp ((w j : EReal) - Finset.univ.fold max ⊥ fun j => (w j : EReal))) := by
  have hs : ∀ j : Fin 256, perLog2 (along (fun j => (w j : EReal)) j) = perLog2 (w j) := fun j => by rw [along_at]
  have H : Attn.Held (fun j => perLog2 (along (fun j => (w j : EReal)) j)) (along v) 256
      (Finset.univ.fold max ⊥ fun j => perLog2 (w j))
      (∑ j : Fin 256, Ideal.exp2 (perLog2 (w j) - Finset.univ.fold max ⊥ fun j => perLog2 (w j)))
      (∑ j : Fin 256, v j * Ideal.exp2 (perLog2 (w j) - Finset.univ.fold max ⊥ fun j => perLog2 (w j))) :=
    ⟨by rw [sup_range_fin]; simp only [hs], by rw [Finset.sum_range]; simp only [hs],
      by rw [Finset.sum_range]; simp only [hs, along_at]⟩
  have hr : ∀ j, ∃ r : ℝ, along (fun j => (w j : EReal)) j = (r : EReal) := fun j => by
    unfold along
    split_ifs
    · exact ⟨_, rfl⟩
    · exact ⟨0, rfl⟩
  have hm : (Finset.univ.fold max ⊥ fun j => perLog2 (w j)) ≠ ⊤ := by
    rw [H.top]
    exact Attn.sup_range_ne_top (fun j => by obtain ⟨r, h⟩ := hr j; rw [h, Attn.perLog2_coe]; exact EReal.coe_ne_top _) _
  have h0 : perLog2 (w 0) ≤ Finset.univ.fold max ⊥ fun j => perLog2 (w j) :=
    (Finset.le_sup (f := fun j => perLog2 (w j)) (Finset.mem_univ (0 : Fin 256)) : _)
  have key := H.softmax (fun j => by obtain ⟨r, h⟩ := hr j; rw [h]; exact EReal.coe_ne_top _)
    ⟨0, by norm_num, by obtain ⟨r, h⟩ := hr 0; rw [h]; exact EReal.coe_ne_bot _⟩
  rw [sup_range_fin, Finset.sum_range, Finset.sum_range] at key
  simp only [along_at] at key
  rw [← key, one_eq]
  have hl : (∑ j : Fin 256, Ideal.exp2 (perLog2 (w j) - Finset.univ.fold max ⊥ fun j => perLog2 (w j))) ≠ 0 := by
    refine (lt_of_lt_of_le ?_ (Finset.single_le_sum (fun j _ => Attn.exp2_nonneg _) (Finset.mem_univ (0 : Fin 256)))).ne'
    revert hm h0
    generalize (Finset.univ.fold max ⊥ fun j => perLog2 (w j)) = M
    intro hm h0
    rw [Attn.perLog2_coe] at h0 ⊢
    induction M using EReal.rec with
    | bot => exact absurd (le_bot_iff.mp h0) (EReal.coe_ne_bot _)
    | top => exact absurd rfl hm
    | coe b =>
      rw [← EReal.coe_sub, Ideal.exp2_coe]
      exact_mod_cast Real.rpow_pos_of_pos two_pos _
  rw [Ideal.div, if_neg hl, Ideal.div, if_neg hl, one_mul]

section scores
variable (q : FVec Ideal Cert.CrossRefIdeal.S8x4096x256 .f32) (k : FVec Ideal Cert.CrossRefIdeal.S8x256x4x64 .f32)
  (g : FVec Ideal Cert.CrossRefIdeal.S64 .f32) (b : Fin 8) (s : Fin 4096) (h : Fin 4)
  (hq : ∀ z, ∃ r : ℝ, q (ix3 b s z) = (r : EReal)) (hg : ∀ d, ∃ r : ℝ, g (ix1 d) = (r : EReal))
include hq hg
/-- The normalised queries are real. -/
theorem normed_real : ∃ n : Fin 64 → ℝ, ∀ d, normed (heads q) g (ix4 b s h d) = (n d : EReal) := by
  choose f hf using hq
  choose e he using hg
  have heps : Ideal.ofBits FTy.f32 0x358637BD#32 = ((8796093 * (2:ℝ) ^ (-43 : ℤ) : ℝ) : EReal) := by
    simp [Ideal.ofBits, Ideal.ieee, -EReal.coe_mul]
  refine ⟨fun d => f ⟨h * 64 + d, by omega⟩ * (Real.sqrt ((∑ d : Fin 64, f ⟨h * 64 + d, by omega⟩ * f ⟨h * 64 + d, by omega⟩) * (1 / 64)
    + 8796093 * (2:ℝ) ^ (-43 : ℤ)))⁻¹ * e d, fun d => ?_⟩
  have hpos : 0 < (∑ d : Fin 64, f ⟨h * 64 + d, by omega⟩ * f ⟨h * 64 + d, by omega⟩) * (1 / 64 : ℝ)
      + 8796093 * (2:ℝ) ^ (-43 : ℤ) := by
    have : 0 ≤ ∑ d : Fin 64, f ⟨h * 64 + d, by omega⟩ * f ⟨h * 64 + d, by omega⟩ :=
      Finset.sum_nonneg fun d _ => mul_self_nonneg _
    positivity
  rw [Cert.CrossRefIdeal.Value.normed_at]
  simp only [Cert.CrossRefIdeal.Value.heads_at, hf, he, ← EReal.coe_mul]
  rw [coe_sum, f64, Ideal.div_coe (by norm_num), heps, ← EReal.coe_mul, ← EReal.coe_add, Ideal.rsqrt_coe, if_neg hpos.not_gt,
    if_neg hpos.ne', ← EReal.coe_mul, ← EReal.coe_mul]
variable (hk : ∀ j d, ∃ r : ℝ, k (ix4 b j h d) = (r : EReal))
include hk
/-- The reference's scores are real, and the kernel's are they per natural logarithm of two. -/
theorem scores_real : ∃ w : Fin 256 → ℝ, ∀ j, scores (normed (heads q) g) k (ix4 b h s j) = (w j : EReal)
    ∧ ∑ d : Fin 64, k (ix4 b j h d) * (normed (heads q) g (ix4 b s h d) * (((1 / 8) * (Real.log 2)⁻¹ : ℝ) : EReal))
      = perLog2 (w j) := by
  obtain ⟨n, hn⟩ := normed_real q g b s h hq hg
  choose f hf using hk
  have h8 : Ideal.ofBits FTy.f32 0x3E000000#32 = ((1 / 8 : ℝ) : EReal) := by
    simp [Ideal.ofBits, Ideal.ieee, -EReal.coe_mul]; norm_num
  refine ⟨fun j => (∑ d, n d * f j d) * (1 / 8), fun j => ⟨?_, ?_⟩⟩
  · rw [Cert.CrossRefIdeal.Value.scores_at]
    simp only [hn, hf, ← EReal.coe_mul]
    rw [coe_sum, h8, ← EReal.coe_mul]
  · simp only [hn, hf, ← EReal.coe_mul]
    rw [coe_sum, Attn.perLog2_coe, Finset.sum_mul, Finset.sum_mul]
    exact congrArg _ (Finset.sum_congr rfl fun d _ => by ring)
end scores
end Cert.CrossIdeal.Value
-- ==== Proof.CrossFinal.lean ====
module
public import proofs.«01_k».proof.Proof.CrossScore
public import Idealize.ShloMosaic.Lib.StableHlo.RunRead
/-!
The memory cross-attention ends with what its reference computes: the arrays the host code prepares, block by block, and the
result point by point.
-/
set_option maxRecDepth 16384
@[expose] public noncomputable section
open Idealize.ShloMosaic Idealize.ShloMosaic.TcCoe Idealize.SL.Sem
open Attn (perLog2)
namespace Cert.CrossIdeal.Value
open Cert.CrossIdeal Cert.CrossIdeal.Gen
open Cert.CrossRefIdeal.Value (heads normed scores attn)

section layout
/-- The keys, or the values, with the heads side by side. -/
def joinedHeads (k : FVec Ideal S8x256x4x64 .f32) : FVec Ideal S1x8x256x256 .bf16 :=
  truncf .bf16 (shapeCast S1x8x256x256 k shapeCasts_S8x256x4x64_S1x8x256x256) bitsLt_bf16_f32
theorem joinedHeads_at (k : FVec Ideal S8x256x4x64 .f32) (b : Fin 8) (j : Fin 256) (z : Fin 256) :
    joinedHeads k (ix4 0 b j z) = k (ix4 b j ⟨z / 64, by omega⟩ ⟨z % 64, by omega⟩) := by
  pointwise [joinedHeads]
/-- The gains, twice. -/
def twice (g : FVec Ideal S64 .f32) : FVec Ideal S1x128 .f32 :=
  shapeCast S1x128 (broadcastInDim S1x1x2x64 ![0, 1, 2, 3] bcast_S1x1x1x64_S1x1x2x64_0_1_2_3
    (shapeCast S1x1x1x64 (shapeCast S1x64 g shapeCasts_S64_S1x64 : FVec Ideal S1x64 .f32) shapeCasts_S1x64_S1x1x1x64 :
      FVec Ideal S1x1x1x64 .f32)) shapeCasts_S1x1x2x64_S1x128
theorem twice_at (g : FVec Ideal S64 .f32) (d : Fin 128) : twice g (ix2 0 d) = g (ix1 ⟨d % 64, by omega⟩) := by
  pointwise [twice]
end layout
variable (m : (ℓ : Loc nD τ sig) → Buf (Elt Ideal) ℓ) (c : Dev nD)
theorem keys : V m c main_v1 = joinedHeads (m ((c.tc : Thread nD τ).loc main_arg1)) := by
  after_reads_simp
  rfl
theorem values : V m c main_v3 = joinedHeads (m ((c.tc : Thread nD τ).loc main_arg2)) := by
  after_reads_simp
  rfl
theorem queries : V m c main_v4 = (truncf .bf16 (m ((c.tc : Thread nD τ).loc main_arg0) : FVec Ideal S8x4096x256 .f32)
    bitsLt_bf16_f32 : FVec Ideal S8x4096x256 .bf16) := by
  after_reads_simp
theorem gains : V m c main_v8 = twice (m ((c.tc : Thread nD τ).loc main_arg3)) := by
  after_reads_simp
  rfl
/-- The block indices of every window, as functions of the grid's coordinates. -/
theorem idx : ∀ t : Fin cfg0.N,
    win0_0.index t = ![(grid0.coords t 0).val, (grid0.coords t 1).val, 0]
    ∧ win0_1.index t = ![0, (grid0.coords t 0).val, 0, 0]
    ∧ win0_2.index t = ![0, (grid0.coords t 0).val, 0, 0]
    ∧ win0_3.index t = ![0, 0]
    ∧ win0_4.index t = ![(grid0.coords t 0).val, (grid0.coords t 1).val, 0] :=
  (by decide +kernel : ∀ t : Fin grid0.N, _)
variable (t : Fin cfg0.N)
theorem i1 : (grid0.coords t 1).val < 4 := (grid0.coords t 1).isLt
/-- The batch entry and the rows of a grid point. -/
def batch : Fin 8 := ⟨(grid0.coords t 0).val, (grid0.coords t 0).isLt⟩
def row (r : Fin 1024) : Fin 4096 := ⟨1024 * (grid0.coords t 1).val + r, by have := i1 t; omega⟩
variable (r : Fin 1024)
/-- Blocks read off any contents of the arrays. -/
theorem read_q (X : (b : Ref sig .tc) → Buf (Elt Ideal) ((c.tc : Thread nD τ).loc b)) (y : S1x1024x256.Idx) :
    ((cfg0.win 0).blk t).view.read (Elt Ideal) (X (Pipeline.arrRef spec0 0)) y = X main_v4 ((win0_0.blk t).view.emb y) := rfl
theorem read_k (X : (b : Ref sig .tc) → Buf (Elt Ideal) ((c.tc : Thread nD τ).loc b)) (y : S1x1x256x256.Idx) :
    ((cfg0.win 1).blk t).view.read (Elt Ideal) (X (Pipeline.arrRef spec0 1)) y = X main_v1 ((win0_1.blk t).view.emb y) := rfl
theorem read_v (X : (b : Ref sig .tc) → Buf (Elt Ideal) ((c.tc : Thread nD τ).loc b)) (y : S1x1x256x256.Idx) :
    ((cfg0.win 2).blk t).view.read (Elt Ideal) (X (Pipeline.arrRef spec0 2)) y = X main_v3 ((win0_2.blk t).view.emb y) := rfl
theorem read_g (X : (b : Ref sig .tc) → Buf (Elt Ideal) ((c.tc : Thread nD τ).loc b)) (y : S1x128.Idx) :
    ((cfg0.win 3).blk t).view.read (Elt Ideal) (X (Pipeline.arrRef spec0 3)) y = X main_v8 ((win0_3.blk t).view.emb y) := rfl
theorem place_q (z : Fin 256) : (win0_0.blk t).view.emb (ix3 0 r z) = ix3 (batch t) (row t r) z := by
  blk_ext [idx t, batch, row]
theorem place_k (j z : Fin 256) : (win0_1.blk t).view.emb (ix4 0 0 j z) = ix4 0 (batch t) j z := by
  blk_ext [idx t, batch]
theorem place_v (j z : Fin 256) : (win0_2.blk t).view.emb (ix4 0 0 j z) = ix4 0 (batch t) j z := by
  blk_ext [idx t, batch]
theorem place_g (d : Fin 128) : (win0_3.blk t).view.emb (ix2 0 d) = ix2 0 d := by
  blk_ext [idx t]
theorem block_q (z : Fin 256) : iblk m c 0 t (ix3 0 r z) = m ((c.tc : Thread nD τ).loc main_arg0) (ix3 (batch t) (row t r) z) := by
  unfold iblk
  exact (read_q c t (V m c) _).trans ((congrArg (V m c main_v4) (place_q t r z)).trans (congrFun (queries m c) _))
theorem block_k (j z : Fin 256) : iblk m c 1 t (ix4 0 0 j z)
    = m ((c.tc : Thread nD τ).loc main_arg1) (ix4 (batch t) j ⟨z / 64, by omega⟩ ⟨z % 64, by omega⟩) := by
  unfold iblk
  exact (read_k c t (V m c) _).trans ((congrArg (V m c main_v1) (place_k t j z)).trans
    ((congrFun (keys m c) _).trans (joinedHeads_at _ _ _ _)))
theorem block_v (j z : Fin 256) : iblk m c 2 t (ix4 0 0 j z)
    = m ((c.tc : Thread nD τ).loc main_arg2) (ix4 (batch t) j ⟨z / 64, by omega⟩ ⟨z % 64, by omega⟩) := by
  unfold iblk
  exact (read_v c t (V m c) _).trans ((congrArg (V m c main_v3) (place_v t j z)).trans
    ((congrFun (values m c) _).trans (joinedHeads_at _ _ _ _)))
theorem block_g (d : Fin 128) : iblk m c 3 t (ix2 0 d) = m ((c.tc : Thread nD τ).loc main_arg3) (ix1 ⟨d % 64, by omega⟩) := by
  unfold iblk
  exact (read_g c t (V m c) _).trans ((congrArg (V m c main_v8) (place_g t d)).trans
    ((congrFun (gains m c) _).trans (twice_at _ d)))
/-- The reference of the arguments held in the kernel's memory. -/
def result : FVec Ideal S8x4096x256 .bf16 :=
  attn (m ((c.tc : Thread nD τ).loc main_arg0)) (m ((c.tc : Thread nD τ).loc main_arg1))
    (m ((c.tc : Thread nD τ).loc main_arg2)) (m ((c.tc : Thread nD τ).loc main_arg3))
/-- A normalised query of a block is the reference's, times the scale. -/
theorem query_eq (h : Fin 4) (d : Fin 64) : query (iblk m c 0 t) (iblk m c 3 t) r h d
    = normed (heads (m ((c.tc : Thread nD τ).loc main_arg0))) (m ((c.tc : Thread nD τ).loc main_arg3))
      (ix4 (batch t) (row t r) h d) * (((1 / 8) * (Real.log 2)⁻¹ : ℝ) : EReal) := by
  have hx : ∀ d : Fin 64, iblk m c 0 t (ix3 0 r ⟨64 * h + d, by omega⟩)
      = m ((c.tc : Thread nD τ).loc main_arg0) (ix3 (batch t) (row t r) ⟨h * 64 + d, by omega⟩) := fun d =>
    (block_q m c t r _).trans (congrArg (fun z => m ((c.tc : Thread nD τ).loc main_arg0) (ix3 (batch t) (row t r) z))
      (Fin.ext (by dsimp only; omega)))
  have hg : iblk m c 3 t (ix2 0 ⟨64 * (h % 2) + d, by omega⟩) = m ((c.tc : Thread nD τ).loc main_arg3) (ix1 d) :=
    (block_g m c t _).trans (congrArg (fun z => m ((c.tc : Thread nD τ).loc main_arg3) (ix1 z))
      (Fin.ext (by dsimp only; omega)))
  rw [Cert.CrossRefIdeal.Value.normed_at]
  simp only [Cert.CrossRefIdeal.Value.heads_at]
  unfold query
  rw [hg]
  simp only [hx]
/-- The keys held in the kernel's memory. -/
def argK : FVec Ideal S8x256x4x64 .f32 := m ((c.tc : Thread nD τ).loc main_arg1)
theorem sc_eq (h : Fin 4) (j : Fin 256) : sc (iblk m c 0 t) (iblk m c 1 t) (iblk m c 3 t) r h j
    = ∑ d : Fin 64, argK m c (ix4 (batch t) j h d)
      * (normed (heads (m ((c.tc : Thread nD τ).loc main_arg0))) (m ((c.tc : Thread nD τ).loc main_arg3))
        (ix4 (batch t) (row t r) h d) * (((1 / 8) * (Real.log 2)⁻¹ : ℝ) : EReal)) := by
  refine Finset.sum_congr rfl fun d _ => ?_
  rw [query_eq, block_k]
  exact congrArg (· * _) (congrArg₂ (fun x y => argK m c (ix4 (batch t) j x y))
    (Fin.ext (by dsimp only; omega)) (Fin.ext (by dsimp only; omega)))
section final
variable (hq : ∀ b s z, ∃ y : ℝ, m ((c.tc : Thread nD τ).loc main_arg0) (ix3 b s z) = (y : EReal))
  (hk : ∀ b j h d, ∃ y : ℝ, m ((c.tc : Thread nD τ).loc main_arg1) (ix4 b j h d) = (y : EReal))
  (hg : ∀ d, ∃ y : ℝ, m ((c.tc : Thread nD τ).loc main_arg3) (ix1 d) = (y : EReal))
include hq hk hg
theorem point (o : Fin 256) : out0_4 (iblk m c 0 t) (iblk m c 1 t) (iblk m c 2 t) (iblk m c 3 t) (ix3 0 r o)
    = result m c (ix3 (batch t) (row t r) o) := by
  obtain ⟨w, hw⟩ := scores_real (m ((c.tc : Thread nD τ).loc main_arg0)) (argK m c)
    (m ((c.tc : Thread nD τ).loc main_arg3)) (batch t) (row t r) ⟨o / 64, by omega⟩ (hq _ _) hg (fun j d => hk _ j _ d)
  have hs : ∀ j, sc (iblk m c 0 t) (iblk m c 1 t) (iblk m c 3 t) r ⟨o / 64, by omega⟩ j = perLog2 (w j) := fun j =>
    (sc_eq m c t r _ j).trans (hw j).2
  refine (body_at _ _ _ _ r (fun z => by rw [block_q]; exact hq _ _ _) o).trans ?_
  unfold mixed result
  refine Eq.trans ?_ (Cert.CrossRefIdeal.Value.attn_at (batch t) (row t r) _ (argK m c) _ _ o (fun j => (w j : EReal)) fun j => (hw j).1).symm
  simp only [hs, block_v]
  exact soft w _
omit hq hk hg in
theorem emb_out (o : Fin 256) : (win0_4.blk t).view.emb (ix3 0 r o) = ix3 (batch t) (row t r) o := by
  blk_ext [idx t, batch, row]
theorem final : (dats m 0 c).arrAt 4 cfg0.N = result m c := by
  refine (dats m 0 c).arrAt_eq_of_covers 4 (result m c) (by decide +kernel) fun t _ y => ?_
  blk_simp
  rw [after0_4]
  idx_vars y
  obtain rfl : y0 = 0 := Subsingleton.elim _ _
  exact (point m c t y1 hq hk hg y2).trans (congrArg (result m c) (emb_out t y1 y2)).symm
end final
end Cert.CrossIdeal.Value
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.InOdd.Frame
public import proofs.«01_k».proof.Proof.Gen.InOddIdeal.Value
public import proofs.«01_k».proof.Proof.Gen.InOddRefIdeal.Run
public import proofs.«01_k».proof.Proof.Gen.OutOdd.Frame
public import proofs.«01_k».proof.Proof.Gen.OutOddIdeal.Value
public import proofs.«01_k».proof.Proof.Gen.OutOddRefIdeal.Run
public import proofs.«01_k».proof.Proof.Gen.KernelIdeal.Value
public import proofs.«01_k».proof.Proof.Gen.ReferenceIdeal.Run
public import proofs.«01_k».proof.Proof.Final
public import proofs.«01_k».proof.Proof.InOddFinal
public import proofs.«01_k».proof.Proof.OutOddFinal
public import proofs.«01_k».proof.Proof.Gen.InEven.Frame
public import proofs.«01_k».proof.Proof.Gen.InEvenIdeal.Value
public import proofs.«01_k».proof.Proof.Gen.InEvenRefIdeal.Run
public import proofs.«01_k».proof.Proof.Gen.OutEven.Frame
public import proofs.«01_k».proof.Proof.Gen.OutEvenIdeal.Value
public import proofs.«01_k».proof.Proof.Gen.OutEvenRefIdeal.Run
public import proofs.«01_k».proof.Proof.InEvenFinal
public import proofs.«01_k».proof.Proof.OutEvenFinal
public import proofs.«01_k».proof.Proof.Gen.Cross.Frame
public import proofs.«01_k».proof.Proof.Gen.CrossIdeal.Value
public import proofs.«01_k».proof.Proof.Gen.CrossRefIdeal.Run
public import proofs.«01_k».proof.Proof.Gen.Pre_finite_mem
public import proofs.«01_k».proof.Proof.CrossFinite
public import proofs.«01_k».proof.Proof.CrossFinal
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The mask constant of the kernel's launch, printed as minus infinity. -/
theorem preserves : Cert.preserves_Kernel_KernelIdeal := IdealRules.named_const.statement _ _ _ _ _ (by rfl)

/-- The kernel and the reference end with the same result wherever queries and keys are finite. -/
theorem algebraic : Cert.algebraic_KernelIdeal_ReferenceIdeal_pre_finite := by
  pair_intro
  · run_from Cert.KernelIdeal.Value.run_blocks m g
  · run_from Cert.ReferenceIdeal.Value.run m' g'
    obtain ⟨a0, a1, a2⟩ := hagree c
    obtain ⟨bq, bk⟩ := Cert.Pre_finite.fn_split _ _ _ (hpre c)
    rw [Cert.KernelIdeal.Value.final m c (fun b s h d => Cert.Pre_finite.real_of_bounded _ b s h d (bq _))
      (fun b s h d => Cert.Pre_finite.real_of_bounded _ b s h d (bk _))]
    refine (Cert.ReferenceIdeal.Value.res_eq m' c).trans ?_
    rw [a0, a1, a2]
    rfl

/-- The reference leaves its arguments alone; it has no semaphore to leave anywhere but at zero. -/
theorem frame_reference : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run m ρ)

/-- The odd layers' in-projection: the call and the reference end with the same two arrays. -/
theorem algebraic_in : Cert.algebraic_InOddIdeal_InOddRefIdeal := by
  pair_intro
  · run_from Cert.InOddIdeal.Value.run_blocks m g
  · run_from Cert.InOddRefIdeal.Value.run m' g'
    · obtain ⟨a0, a1, a2⟩ := hagree c
      rw [Cert.InOddIdeal.Value.final m c]
      refine (Cert.InOddRefIdeal.Value.res0 m' c).trans ?_
      rw [a0, a1, a2]
      rfl
    · obtain ⟨a0, a1, a2⟩ := hagree c
      rw [Cert.InOddIdeal.Value.final_narrow m c]
      refine (Cert.InOddRefIdeal.Value.res1 m' c).trans ?_
      rw [a0, a1, a2]
      rfl
theorem frame_in_reference : Cert.quiescent_InOddRefIdeal := fun m ρ _ =>
  (θ_run Cert.InOddRefIdeal.defs _ _).mono
    (fun r h => ⟨fun c => (h c).2.2, sem_eq_zero_of_no_sems (by decide) r.2⟩) (Cert.InOddRefIdeal.Value.run m ρ)

/-- The odd layers' out-projection: the call and the reference end with the same array. -/
theorem algebraic_out : Cert.algebraic_OutOddIdeal_OutOddRefIdeal := by
  pair_intro
  · run_from Cert.OutOddIdeal.Value.run_blocks m g
  · run_from Cert.OutOddRefIdeal.Value.run m' g'
    obtain ⟨a0, a1, a2, a3, a4, a5⟩ := hagree c
    rw [Cert.OutOddIdeal.Value.final m c]
    refine Eq.trans (b := Cert.OutOddRefIdeal.Value.out (m ((c.tc : Thread Cert.OutOddIdeal.nD Cert.OutOddIdeal.τ).loc Cert.OutOddIdeal.main_arg0))
      (m' ((c.tc : Thread Cert.OutOddRefIdeal.nD Cert.OutOddRefIdeal.τ).loc Cert.OutOddRefIdeal.main_arg1))
      (Cert.OutOddRefIdeal.Value.gate1 (m' ((c.tc : Thread Cert.OutOddRefIdeal.nD Cert.OutOddRefIdeal.τ).loc Cert.OutOddRefIdeal.main_arg4)))
      (m' ((c.tc : Thread Cert.OutOddRefIdeal.nD Cert.OutOddRefIdeal.τ).loc Cert.OutOddRefIdeal.main_arg2))
      (Cert.OutOddRefIdeal.Value.gate2 (m' ((c.tc : Thread Cert.OutOddRefIdeal.nD Cert.OutOddRefIdeal.τ).loc Cert.OutOddRefIdeal.main_arg4)))
      (m' ((c.tc : Thread Cert.OutOddRefIdeal.nD Cert.OutOddRefIdeal.τ).loc Cert.OutOddRefIdeal.main_arg3))
      (Cert.OutOddRefIdeal.Value.gateM (m' ((c.tc : Thread Cert.OutOddRefIdeal.nD Cert.OutOddRefIdeal.τ).loc Cert.OutOddRefIdeal.main_arg4)))
      (m ((c.tc : Thread Cert.OutOddIdeal.nD Cert.OutOddIdeal.τ).loc Cert.OutOddIdeal.main_arg5))) rfl ?_
    rw [a1, a2, a3, a4]
    rfl
theorem frame_out_reference : Cert.quiescent_OutOddRefIdeal := fun m ρ _ =>
  (θ_run Cert.OutOddRefIdeal.defs _ _).mono
    (fun r h => ⟨fun c => (h c).2, sem_eq_zero_of_no_sems (by decide) r.2⟩) (Cert.OutOddRefIdeal.Value.run m ρ)

/-- The even layers' in-projection: the call and the reference end with the same two arrays. -/
theorem algebraic_in_even : Cert.algebraic_InEvenIdeal_InEvenRefIdeal := by
  pair_intro
  · run_from Cert.InEvenIdeal.Value.run_blocks m g
  · run_from Cert.InEvenRefIdeal.Value.run m' g'
    · obtain ⟨a0, a1, a2⟩ := hagree c
      rw [Cert.InEvenIdeal.Value.final m c]
      refine (Cert.InEvenRefIdeal.Value.res0 m' c).trans ?_
      rw [a0, a1, a2]
      rfl
    · obtain ⟨a0, a1, a2⟩ := hagree c
      rw [Cert.InEvenIdeal.Value.final_narrow m c]
      refine Eq.trans (b := Cert.InEvenRefIdeal.Value.narrow (Cert.InEvenRefIdeal.Value.projected
        (m ((c.tc : Thread Cert.InEvenIdeal.nD Cert.InEvenIdeal.τ).loc Cert.InEvenIdeal.main_arg0))
        (m ((c.tc : Thread Cert.InEvenIdeal.nD Cert.InEvenIdeal.τ).loc Cert.InEvenIdeal.main_arg1))
        (m' ((c.tc : Thread Cert.InEvenRefIdeal.nD Cert.InEvenRefIdeal.τ).loc Cert.InEvenRefIdeal.main_arg2)))) rfl ?_
      rw [a2]
      rfl
theorem frame_in_even_reference : Cert.quiescent_InEvenRefIdeal := fun m ρ _ =>
  (θ_run Cert.InEvenRefIdeal.defs _ _).mono
    (fun r h => ⟨fun c => (h c).2.2, sem_eq_zero_of_no_sems (by decide) r.2⟩) (Cert.InEvenRefIdeal.Value.run m ρ)

/-- The even layers' out-projection: the call and the reference end with the same array. -/
theorem algebraic_out_even : Cert.algebraic_OutEvenIdeal_OutEvenRefIdeal := by
  pair_intro
  · run_from Cert.OutEvenIdeal.Value.run_blocks m g
  · run_from Cert.OutEvenRefIdeal.Value.run m' g'
    obtain ⟨a0, a1, a2, a3, a4, a5⟩ := hagree c
    rw [Cert.OutEvenIdeal.Value.final m c]
    refine Eq.trans (b := Cert.OutEvenRefIdeal.Value.out (m ((c.tc : Thread Cert.OutEvenIdeal.nD Cert.OutEvenIdeal.τ).loc Cert.OutEvenIdeal.main_arg0))
      (m' ((c.tc : Thread Cert.OutEvenRefIdeal.nD Cert.OutEvenRefIdeal.τ).loc Cert.OutEvenRefIdeal.main_arg1))
      (Cert.OutEvenRefIdeal.Value.gate1 (m' ((c.tc : Thread Cert.OutEvenRefIdeal.nD Cert.OutEvenRefIdeal.τ).loc Cert.OutEvenRefIdeal.main_arg4)))
      (m' ((c.tc : Thread Cert.OutEvenRefIdeal.nD Cert.OutEvenRefIdeal.τ).loc Cert.OutEvenRefIdeal.main_arg2))
      (Cert.OutEvenRefIdeal.Value.gate2 (m' ((c.tc : Thread Cert.OutEvenRefIdeal.nD Cert.OutEvenRefIdeal.τ).loc Cert.OutEvenRefIdeal.main_arg4)))
      (m' ((c.tc : Thread Cert.OutEvenRefIdeal.nD Cert.OutEvenRefIdeal.τ).loc Cert.OutEvenRefIdeal.main_arg3))
      (Cert.OutEvenRefIdeal.Value.gateM (m' ((c.tc : Thread Cert.OutEvenRefIdeal.nD Cert.OutEvenRefIdeal.τ).loc Cert.OutEvenRefIdeal.main_arg4)))
      (m ((c.tc : Thread Cert.OutEvenIdeal.nD Cert.OutEvenIdeal.τ).loc Cert.OutEvenIdeal.main_arg5))) rfl ?_
    rw [a1, a2, a3, a4]
    rfl
theorem frame_out_even_reference : Cert.quiescent_OutEvenRefIdeal := fun m ρ _ =>
  (θ_run Cert.OutEvenRefIdeal.defs _ _).mono
    (fun r h => ⟨fun c => (h c).2, sem_eq_zero_of_no_sems (by decide) r.2⟩) (Cert.OutEvenRefIdeal.Value.run m ρ)

/-- The scale of the memory cross-attention's scores, printed as a real number. -/
theorem preserves_cross : Cert.preserves_Cross_CrossIdeal := IdealRules.named_const.statement _ _ _ _ _ (by rfl)

/-- The memory cross-attention: wherever queries, keys and gains are finite, the call and the reference end with the same
array. -/
theorem algebraic_cross : Cert.algebraic_CrossIdeal_CrossRefIdeal_pre_finite_mem := by
  pair_intro
  · run_from Cert.CrossIdeal.Value.run_blocks m g
  · run_from Cert.CrossRefIdeal.Value.run m' g'
    obtain ⟨a0, a1, a2, a3⟩ := hagree c
    obtain ⟨bq, bk, bg⟩ := Cert.Pre_finite_mem.fn_split _ _ _ _ (hpre c)
    rw [Cert.CrossIdeal.Value.final m c (fun b s z => Cert.Pre_finite_mem.real_q _ b s z (bq _))
      (fun b j h d => Cert.Pre_finite_mem.real_k _ b j h d (bk _)) (fun d => Cert.Pre_finite_mem.real_g _ d (bg _))]
    refine (Cert.CrossRefIdeal.Value.res_eq m' c).trans ?_
    rw [a0, a1, a2, a3]
    rfl
theorem frame_cross_reference : Cert.quiescent_CrossRefIdeal := fun m ρ _ =>
  (θ_run Cert.CrossRefIdeal.defs _ _).mono
    (fun r h => ⟨fun c => (h c).2, sem_eq_zero_of_no_sems (by decide) r.2⟩) (Cert.CrossRefIdeal.Value.run m ρ)

theorem claim : Cert.Claim := ⟨Cert.Kernel.Gen.facts, Cert.KernelIdeal.Gen.facts, Cert.ReferenceIdeal.Gen.facts,
  Cert.InOdd.Gen.facts, Cert.InOddIdeal.Gen.facts, Cert.InOddRefIdeal.Gen.facts,
  Cert.OutOdd.Gen.facts, Cert.OutOddIdeal.Gen.facts, Cert.OutOddRefIdeal.Gen.facts,
  Cert.InEven.Gen.facts, Cert.InEvenIdeal.Gen.facts, Cert.InEvenRefIdeal.Gen.facts,
  Cert.OutEven.Gen.facts, Cert.OutEvenIdeal.Gen.facts, Cert.OutEvenRefIdeal.Gen.facts,
  Cert.Cross.Gen.facts, Cert.CrossIdeal.Gen.facts, Cert.CrossRefIdeal.Gen.facts, Cert.Pre_finite.Gen.facts, Cert.Pre_finite_mem.Gen.facts,
  fun m ρ _ => Cert.Kernel.Gen.frame m ρ,
  fun m ρ _ => Cert.KernelIdeal.Gen.frame m ρ,
  fun m ρ _ => Cert.KernelIdeal.Gen.frame m ρ,
  frame_reference,
  fun m ρ _ => frame_reference m ρ trivial,
  fun m ρ _ => Cert.InOdd.Gen.frame m ρ,
  fun m ρ _ => Cert.InOddIdeal.Gen.frame m ρ,
  frame_in_reference,
  fun m ρ _ => Cert.OutOdd.Gen.frame m ρ,
  fun m ρ _ => Cert.OutOddIdeal.Gen.frame m ρ,
  frame_out_reference,
  fun m ρ _ => Cert.InEven.Gen.frame m ρ,
  fun m ρ _ => Cert.InEvenIdeal.Gen.frame m ρ,
  frame_in_even_reference,
  fun m ρ _ => Cert.OutEven.Gen.frame m ρ,
  fun m ρ _ => Cert.OutEvenIdeal.Gen.frame m ρ,
  frame_out_even_reference,
  fun m ρ _ => Cert.Cross.Gen.frame m ρ,
  fun m ρ _ => Cert.CrossIdeal.Gen.frame m ρ,
  fun m ρ _ => Cert.CrossIdeal.Gen.frame m ρ,
  frame_cross_reference,
  fun m ρ _ => frame_cross_reference m ρ trivial,
  preserves, algebraic, trivial, algebraic_in, trivial, algebraic_out, trivial, algebraic_in_even, trivial, algebraic_out_even, preserves_cross, algebraic_cross⟩

end Cert.Proof

end
